-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S2048x512 : Shape := ⟨2, ![2048, 512]⟩
abbrev S512x32 : Shape := ⟨2, ![512, 32]⟩
abbrev S2048x1 : Shape := ⟨2, ![2048, 1]⟩
abbrev S4x512x1024 : Shape := ⟨3, ![4, 512, 1024]⟩
abbrev S_ : Shape := ⟨0, ![]⟩

class Facts : Prop where
  bcast_S_S2048x1 : S_.BroadcastsInDim S2048x1 (![] : Fin 0 → Fin S2048x1.rank)

variable [Facts]

def fn {F : FTy → Type} [FloatOps F] (main_arg0 : FVec F S2048x512 .bf16) (main_arg1 : FVec F S512x32 .bf16) (main_arg2 : IVec S2048x1 32) (main_arg3 : FVec F S4x512x1024 .bf16) : IVec S2048x1 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 32#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  main_v4
-- ==== Pre_routed_ReferenceIdeal.lean ====
abbrev S2048x512 : Shape := ⟨2, ![2048, 512]⟩
abbrev S512x32 : Shape := ⟨2, ![512, 32]⟩
abbrev S2048x1 : Shape := ⟨2, ![2048, 1]⟩
abbrev S32x512x1024 : Shape := ⟨3, ![32, 512, 1024]⟩
abbrev S_ : Shape := ⟨0, ![]⟩

class Facts : Prop where
  bcast_S_S2048x1 : S_.BroadcastsInDim S2048x1 (![] : Fin 0 → Fin S2048x1.rank)

variable [Facts]

def fn {F : FTy → Type} [FloatOps F] (main_arg0 : FVec F S2048x512 .bf16) (main_arg1 : FVec F S512x32 .bf16) (main_arg2 : IVec S2048x1 32) (main_arg3 : FVec F S32x512x1024 .bf16) : IVec S2048x1 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 32#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  main_v4
-- ==== Kernel.lean ====
abbrev S2048x512 : Shape := ⟨2, ![2048, 512]⟩
abbrev S512x32 : Shape := ⟨2, ![512, 32]⟩
abbrev S2048x1 : Shape := ⟨2, ![2048, 1]⟩
abbrev S4x512x1024 : Shape := ⟨3, ![4, 512, 1024]⟩
abbrev S2048x1024 : Shape := ⟨2, ![2048, 1024]⟩
abbrev S768x1024 : Shape := ⟨2, ![768, 1024]⟩
abbrev S640x1024 : Shape := ⟨2, ![640, 1024]⟩
abbrev S4 : Shape := ⟨1, ![4]⟩
abbrev S3 : Shape := ⟨1, ![3]⟩
abbrev S_ : Shape := ⟨0, ![]⟩
abbrev S1x512x1024 : Shape := ⟨3, ![1, 512, 1024]⟩
abbrev S512x1024 : Shape := ⟨2, ![512, 1024]⟩
abbrev S384x512 : Shape := ⟨2, ![384, 512]⟩
abbrev S384x1 : Shape := ⟨2, ![384, 1]⟩
abbrev S384x1024 : Shape := ⟨2, ![384, 1024]⟩
abbrev S96x1024 : Shape := ⟨2, ![96, 1024]⟩
abbrev S1 : Shape := ⟨1, ![1]⟩
abbrev S320x512 : Shape := ⟨2, ![320, 512]⟩
abbrev S320x1 : Shape := ⟨2, ![320, 1]⟩
abbrev S320x1024 : Shape := ⟨2, ![320, 1024]⟩
abbrev S80x1024 : Shape := ⟨2, ![80, 1024]⟩
abbrev S192x1024 : Shape := ⟨2, ![192, 1024]⟩
abbrev S160x1024 : Shape := ⟨2, ![160, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x1, .i32⟩
  | .hbm, ⟨3, _⟩ => ⟨S4x512x1024, .bf16⟩
  | .hbm, ⟨4, _⟩ => ⟨S2048x1024, .bf16⟩
  | .local _ .vmem, ⟨0, _⟩ => ⟨S2048x512, .bf16⟩
  | .local _ .vmem, ⟨1, _⟩ => ⟨S512x32, .bf16⟩
  | .local _ .vmem, ⟨2, _⟩ => ⟨S2048x1, .i32⟩
  | .local _ .vmem, ⟨3, _⟩ => ⟨S4x512x1024, .bf16⟩
  | .local _ .vmem, ⟨4, _⟩ => ⟨S2048x1024, .bf16⟩
  | .local _ .vmem, ⟨5, _⟩ => ⟨S2048x1024, .bf16⟩
  | .local _ .vmem, ⟨6, _⟩ => ⟨S768x1024, .bf16⟩
  | .local _ .vmem, ⟨7, _⟩ => ⟨S640x1024, .bf16⟩
  | .local _ .vmem, ⟨8, _⟩ => ⟨S640x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => false
  | ⟨1, _⟩ => true
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  (ofTc nBuf bufTy 2 47 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v13 : BitVec 32 := Scalar.addi v2 c1_i32_4
  let c2_i32_5 : BitVec 32 := 2#32
  let c2_i32 : BitVec 32 := 2#32
  let v3 : BitVec 32 := Scalar.remsi v2 c2_i32
  let v14 : BitVec 32 := Scalar.muli c2_i32_5 v3
  let v15 : BitVec 32 := Scalar.subi v13 v14
  let c1_i32_10 : BitVec 32 := 1#32
  let v23 : BitVec 32 := Scalar.muli v15 c1_i32_10
  let v24 : BitVec 32 := Scalar.addi c0_i32 v23
  v24.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32_3 : BitVec 32 := 4#32
  let c4_i32 : BitVec 32 := 4#32
  let v6 : BitVec 32 := Scalar.divsi v2 c4_i32
  let v11 : BitVec 32 := Scalar.muli c4_i32_3 v6
  let v12 : BitVec 32 := Scalar.subi v2 v11
  let v17 : BitVec 32 := Scalar.muli c2_i32_6 v12
  let v18 : BitVec 32 := Scalar.subi v16 v17
  let c1_i32_12 : BitVec 32 := 1#32
  let v25 : BitVec 32 := Scalar.muli v18 c1_i32_12
  let v26 : BitVec 32 := Scalar.addi c0_i32_13 v25
  v26.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let c4_i32 : BitVec 32 := 4#32
  let v6 : BitVec 32 := Scalar.divsi v2 c4_i32
  let v20 : BitVec 32 := Scalar.muli c8_i32_8 v6
  let v21 : BitVec 32 := Scalar.subi v19 v20
  let c1_i32_15 : BitVec 32 := 1#32
  let v27 : BitVec 32 := Scalar.muli v21 c1_i32_15
  let v28 : BitVec 32 := Scalar.addi c0_i32_16 v27
  v28.toNat
def k0_off1 (d0 : Dev nD) : Fin 2 → Nat :=
  let c0_i32_27 : BitVec 32 := 0#32
  let c1_i32_26 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v37 : BitVec 32 := Scalar.subi c1_i32_26 v10
  let c384_i32 : BitVec 32 := 384#32
  let v38 : BitVec 32 := Scalar.muli v37 c384_i32
  let v39 : BitVec 32 := Scalar.addi c0_i32_27 v38
  let v40 : Index := Scalar.indexCast v39
  let c0_28 : Index := 0#32
  ![v40.toNat, 0]
def k0_off2 (d0 : Dev nD) : Fin 2 → Nat :=
  let c0_i32_27 : BitVec 32 := 0#32
  let c1_i32_26 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v37 : BitVec 32 := Scalar.subi c1_i32_26 v10
  let c384_i32 : BitVec 32 := 384#32
  let v38 : BitVec 32 := Scalar.muli v37 c384_i32
  let v39 : BitVec 32 := Scalar.addi c0_i32_27 v38
  let v43 : Index := Scalar.indexCast v39
  let c0_29 : Index := 0#32
  ![v43.toNat, 0]
def k0_off3 (d0 : Dev nD) : Fin 2 → Nat :=
  let c0_i32_49 : BitVec 32 := 0#32
  let c4_i32_47 : BitVec 32 := 4#32
  let c1_i32_26 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v37 : BitVec 32 := Scalar.subi c1_i32_26 v10
  let v88 : BitVec 32 := Scalar.addi v37 v10
  let c2_i32_46 : BitVec 32 := 2#32
  let v89 : BitVec 32 := Scalar.muli c2_i32_46 v37
  let v90 : BitVec 32 := Scalar.muli v89 v10
  let v91 : BitVec 32 := Scalar.subi v88 v90
  let v92 : BitVec 32 := Scalar.muli c4_i32_47 v91
  let c2_i32_48 : BitVec 32 := 2#32
  let v93 : BitVec 32 := Scalar.muli c2_i32_48 v5
  let v94 : BitVec 32 := Scalar.addi v92 v93
  let c4_i32 : BitVec 32 := 4#32
  let v6 : BitVec 32 := Scalar.divsi v2 c4_i32
  let v95 : BitVec 32 := Scalar.addi v94 v6
  let c96_i32 : BitVec 32 := 96#32
  let v97 : BitVec 32 := Scalar.muli v95 c96_i32
  let v98 : BitVec 32 := Scalar.addi c0_i32_49 v97
  let v99 : Index := Scalar.indexCast v98
  let c0_50 : Index := 0#32
  ![v99.toNat, 0]
def k0_off4 (d0 : Dev nD) : Fin 2 → Nat :=
  let c0_i32_55 : BitVec 32 := 0#32
  let c4_i32_51 : BitVec 32 := 4#32
  let c1_i32_26 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v37 : BitVec 32 := Scalar.subi c1_i32_26 v10
  let v88 : BitVec 32 := Scalar.addi v37 v10
  let c2_i32_46 : BitVec 32 := 2#32
  let v89 : BitVec 32 := Scalar.muli c2_i32_46 v37
  let v90 : BitVec 32 := Scalar.muli v89 v10
  let v91 : BitVec 32 := Scalar.subi v88 v90
  let v103 : BitVec 32 := Scalar.muli c4_i32_51 v91
  let c2_i32_52 : BitVec 32 := 2#32
  let v104 : BitVec 32 := Scalar.muli c2_i32_52 v5
  let v105 : BitVec 32 := Scalar.addi v103 v104
  let c1_i32_53 : BitVec 32 := 1#32
  let c4_i32 : BitVec 32 := 4#32
  let v6 : BitVec 32 := Scalar.divsi v2 c4_i32
  let v106 : BitVec 32 := Scalar.subi c1_i32_53 v6
  let v107 : BitVec 32 := Scalar.addi v105 v106
  let c96_i32_54 : BitVec 32 := 96#32
  let v109 : BitVec 32 := Scalar.muli v107 c96_i32_54
  let v110 : BitVec 32 := Scalar.addi c0_i32_55 v109
  let v111 : Index := Scalar.indexCast v110
  let c0_56 : Index := 0#32
  ![v111.toNat, 0]
def k0_off5 (d0 : Dev nD) : Fin 2 → Nat :=
  let c0_i32_61 : BitVec 32 := 0#32
  let c4_i32_57 : BitVec 32 := 4#32
  let c1_i32_26 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v37 : BitVec 32 := Scalar.subi c1_i32_26 v10
  let v88 : BitVec 32 := Scalar.addi v37 v10
  let c2_i32_46 : BitVec 32 := 2#32
  let v89 : BitVec 32 := Scalar.muli c2_i32_46 v37
  let v90 : BitVec 32 := Scalar.muli v89 v10
  let v91 : BitVec 32 := Scalar.subi v88 v90
  let v115 : BitVec 32 := Scalar.muli c4_i32_57 v91
  let c2_i32_59 : BitVec 32 := 2#32
  let c1_i32_58 : BitVec 32 := 1#32
  let v116 : BitVec 32 := Scalar.subi c1_i32_58 v5
  let v117 : BitVec 32 := Scalar.muli c2_i32_59 v116
  let v118 : BitVec 32 := Scalar.addi v115 v117
  let c4_i32 : BitVec 32 := 4#32
  let v6 : BitVec 32 := Scalar.divsi v2 c4_i32
  let v119 : BitVec 32 := Scalar.addi v118 v6
  let c96_i32_60 : BitVec 32 := 96#32
  let v121 : BitVec 32 := Scalar.muli v119 c96_i32_60
  let v122 : BitVec 32 := Scalar.addi c0_i32_61 v121
  let v123 : Index := Scalar.indexCast v122
  let c0_62 : Index := 0#32
  ![v123.toNat, 0]
def k0_off6 (d0 : Dev nD) : Fin 2 → Nat :=
  let c0_i32_68 : BitVec 32 := 0#32
  let c4_i32_63 : BitVec 32 := 4#32
  let c1_i32_26 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v37 : BitVec 32 := Scalar.subi c1_i32_26 v10
  let v88 : BitVec 32 := Scalar.addi v37 v10
  let c2_i32_46 : BitVec 32 := 2#32
  let v89 : BitVec 32 := Scalar.muli c2_i32_46 v37
  let v90 : BitVec 32 := Scalar.muli v89 v10
  let v91 : BitVec 32 := Scalar.subi v88 v90
  let v127 : BitVec 32 := Scalar.muli c4_i32_63 v91
  let c2_i32_65 : BitVec 32 := 2#32
  let c1_i32_64 : BitVec 32 := 1#32
  let v128 : BitVec 32 := Scalar.subi c1_i32_64 v5
  let v129 : BitVec 32 := Scalar.muli c2_i32_65 v128
  let v130 : BitVec 32 := Scalar.addi v127 v129
  let c1_i32_66 : BitVec 32 := 1#32
  let c4_i32 : BitVec 32 := 4#32
  let v6 : BitVec 32 := Scalar.divsi v2 c4_i32
  let v131 : BitVec 32 := Scalar.subi c1_i32_66 v6
  let v132 : BitVec 32 := Scalar.addi v130 v131
  let c96_i32_67 : BitVec 32 := 96#32
  let v134 : BitVec 32 := Scalar.muli v132 c96_i32_67
  let v135 : BitVec 32 := Scalar.addi c0_i32_68 v134
  let v136 : Index := Scalar.indexCast v135
  let c0_69 : Index := 0#32
  ![v136.toNat, 0]
def k0_dev4 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v13 : BitVec 32 := Scalar.addi v2 c1_i32_4
  let c2_i32_5 : BitVec 32 := 2#32
  let c2_i32 : BitVec 32 := 2#32
  let v3 : BitVec 32 := Scalar.remsi v2 c2_i32
  let v14 : BitVec 32 := Scalar.muli c2_i32_5 v3
  let v15 : BitVec 32 := Scalar.subi v13 v14
  let c1_i32_72 : BitVec 32 := 1#32
  let v140 : BitVec 32 := Scalar.muli v15 c1_i32_72
  let v141 : BitVec 32 := Scalar.addi c0_i32_73 v140
  v141.toNat
def k0_off7 (d0 : Dev nD) : Fin 2 → Nat :=
  let c768_i32 : BitVec 32 := 768#32
  let c1_i32_78 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_0 : BitVec 32 := 2#32
  let v4 : BitVec 32 := Scalar.divsi v2 c2_i32_0
  let c2_i32_1 : BitVec 32 := 2#32
  let v5 : BitVec 32 := Scalar.remsi v4 c2_i32_1
  let v148 : BitVec 32 := Scalar.subi c1_i32_78 v5
  let c320_i32 : BitVec 32 := 320#32
  let v149 : BitVec 32 := Scalar.muli v148 c320_i32
  let v150 : BitVec 32 := Scalar.addi c768_i32 v149
  let v151 : Index := Scalar.indexCast v150
  let c0_79 : Index := 0#32
  ![v151.toNat, 0]
def k0_off8 (d0 : Dev nD) : Fin 2 → Nat :=
  let c768_i32 : BitVec 32 := 768#32
  let c1_i32_78 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_0 : BitVec 32 := 2#32
  let v4 : BitVec 32 := Scalar.divsi v2 c2_i32_0
  let c2_i32_1 : BitVec 32 := 2#32
  let v5 : BitVec 32 := Scalar.remsi v4 c2_i32_1
  let v148 : BitVec 32 := Scalar.subi c1_i32_78 v5
  let c320_i32 : BitVec 32 := 320#32
  let v149 : BitVec 32 := Scalar.muli v148 c320_i32
  let v150 : BitVec 32 := Scalar.addi c768_i32 v149
  let v154 : Index := Scalar.indexCast v150
  let c0_80 : Index := 0#32
  ![v154.toNat, 0]
def k0_off9 (d0 : Dev nD) : Fin 2 → Nat :=
  let c768_i32_101 : BitVec 32 := 768#32
  let c4_i32_99 : BitVec 32 := 4#32
  let c1_i32_78 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_0 : BitVec 32 := 2#32
  let v4 : BitVec 32 := Scalar.divsi v2 c2_i32_0
  let c2_i32_1 : BitVec 32 := 2#32
  let v5 : BitVec 32 := Scalar.remsi v4 c2_i32_1
  let v148 : BitVec 32 := Scalar.subi c1_i32_78 v5
  let v199 : BitVec 32 := Scalar.addi v148 v5
  let c2_i32_98 : BitVec 32 := 2#32
  let v200 : BitVec 32 := Scalar.muli c2_i32_98 v148
  let v201 : BitVec 32 := Scalar.muli v200 v5
  let v202 : BitVec 32 := Scalar.subi v199 v201
  let v203 : BitVec 32 := Scalar.muli c4_i32_99 v202
  let c2_i32_100 : BitVec 32 := 2#32
  let c4_i32 : BitVec 32 := 4#32
  let v6 : BitVec 32 := Scalar.divsi v2 c4_i32
  let v204 : BitVec 32 := Scalar.muli c2_i32_100 v6
  let v205 : BitVec 32 := Scalar.addi v203 v204
  let c2_i32 : BitVec 32 := 2#32
  let v3 : BitVec 32 := Scalar.remsi v2 c2_i32
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v206 : BitVec 32 := Scalar.addi v205 v10
  let c80_i32 : BitVec 32 := 80#32
  let v208 : BitVec 32 := Scalar.muli v206 c80_i32
  let v209 : BitVec 32 := Scalar.addi c768_i32_101 v208
  let v210 : Index := Scalar.indexCast v209
  let c0_102 : Index := 0#32
  ![v210.toNat, 0]
def k0_off10 (d0 : Dev nD) : Fin 2 → Nat :=
  let c768_i32_107 : BitVec 32 := 768#32
  let c4_i32_103 : BitVec 32 := 4#32
  let c1_i32_78 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_0 : BitVec 32 := 2#32
  let v4 : BitVec 32 := Scalar.divsi v2 c2_i32_0
  let c2_i32_1 : BitVec 32 := 2#32
  let v5 : BitVec 32 := Scalar.remsi v4 c2_i32_1
  let v148 : BitVec 32 := Scalar.subi c1_i32_78 v5
  let v199 : BitVec 32 := Scalar.addi v148 v5
  let c2_i32_98 : BitVec 32 := 2#32
  let v200 : BitVec 32 := Scalar.muli c2_i32_98 v148
  let v201 : BitVec 32 := Scalar.muli v200 v5
  let v202 : BitVec 32 := Scalar.subi v199 v201
  let v214 : BitVec 32 := Scalar.muli c4_i32_103 v202
  let c2_i32_104 : BitVec 32 := 2#32
  let c4_i32 : BitVec 32 := 4#32
  let v6 : BitVec 32 := Scalar.divsi v2 c4_i32
  let v215 : BitVec 32 := Scalar.muli c2_i32_104 v6
  let v216 : BitVec 32 := Scalar.addi v214 v215
  let c1_i32_105 : BitVec 32 := 1#32
  let c2_i32 : BitVec 32 := 2#32
  let v3 : BitVec 32 := Scalar.remsi v2 c2_i32
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v217 : BitVec 32 := Scalar.subi c1_i32_105 v10
  let v218 : BitVec 32 := Scalar.addi v216 v217
  let c80_i32_106 : BitVec 32 := 80#32
  let v220 : BitVec 32 := Scalar.muli v218 c80_i32_106
  let v221 : BitVec 32 := Scalar.addi c768_i32_107 v220
  let v222 : Index := Scalar.indexCast v221
  let c0_108 : Index := 0#32
  ![v222.toNat, 0]
def k0_off11 (d0 : Dev nD) : Fin 2 → Nat :=
  let c768_i32_113 : BitVec 32 := 768#32
  let c4_i32_109 : BitVec 32 := 4#32
  let c1_i32_78 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_0 : BitVec 32 := 2#32
  let v4 : BitVec 32 := Scalar.divsi v2 c2_i32_0
  let c2_i32_1 : BitVec 32 := 2#32
  let v5 : BitVec 32 := Scalar.remsi v4 c2_i32_1
  let v148 : BitVec 32 := Scalar.subi c1_i32_78 v5
  let v199 : BitVec 32 := Scalar.addi v148 v5
  let c2_i32_98 : BitVec 32 := 2#32
  let v200 : BitVec 32 := Scalar.muli c2_i32_98 v148
  let v201 : BitVec 32 := Scalar.muli v200 v5
  let v202 : BitVec 32 := Scalar.subi v199 v201
  let v226 : BitVec 32 := Scalar.muli c4_i32_109 v202
  let c2_i32_111 : BitVec 32 := 2#32
  let c1_i32_110 : BitVec 32 := 1#32
  let c4_i32 : BitVec 32 := 4#32
  let v6 : BitVec 32 := Scalar.divsi v2 c4_i32
  let v227 : BitVec 32 := Scalar.subi c1_i32_110 v6
  let v228 : BitVec 32 := Scalar.muli c2_i32_111 v227
  let v229 : BitVec 32 := Scalar.addi v226 v228
  let c2_i32 : BitVec 32 := 2#32
  let v3 : BitVec 32 := Scalar.remsi v2 c2_i32
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v230 : BitVec 32 := Scalar.addi v229 v10
  let c80_i32_112 : BitVec 32 := 80#32
  let v232 : BitVec 32 := Scalar.muli v230 c80_i32_112
  let v233 : BitVec 32 := Scalar.addi c768_i32_113 v232
  let v234 : Index := Scalar.indexCast v233
  let c0_114 : Index := 0#32
  ![v234.toNat, 0]
def k0_off12 (d0 : Dev nD) : Fin 2 → Nat :=
  let c768_i32_120 : BitVec 32 := 768#32
  let c4_i32_115 : BitVec 32 := 4#32
  let c1_i32_78 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_0 : BitVec 32 := 2#32
  let v4 : BitVec 32 := Scalar.divsi v2 c2_i32_0
  let c2_i32_1 : BitVec 32 := 2#32
  let v5 : BitVec 32 := Scalar.remsi v4 c2_i32_1
  let v148 : BitVec 32 := Scalar.subi c1_i32_78 v5
  let v199 : BitVec 32 := Scalar.addi v148 v5
  let c2_i32_98 : BitVec 32 := 2#32
  let v200 : BitVec 32 := Scalar.muli c2_i32_98 v148
  let v201 : BitVec 32 := Scalar.muli v200 v5
  let v202 : BitVec 32 := Scalar.subi v199 v201
  let v238 : BitVec 32 := Scalar.muli c4_i32_115 v202
  let c2_i32_117 : BitVec 32 := 2#32
  let c1_i32_116 : BitVec 32 := 1#32
  let c4_i32 : BitVec 32 := 4#32
  let v6 : BitVec 32 := Scalar.divsi v2 c4_i32
  let v239 : BitVec 32 := Scalar.subi c1_i32_116 v6
  let v240 : BitVec 32 := Scalar.muli c2_i32_117 v239
  let v241 : BitVec 32 := Scalar.addi v238 v240
  let c1_i32_118 : BitVec 32 := 1#32
  let c2_i32 : BitVec 32 := 2#32
  let v3 : BitVec 32 := Scalar.remsi v2 c2_i32
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v242 : BitVec 32 := Scalar.subi c1_i32_118 v10
  let v243 : BitVec 32 := Scalar.addi v241 v242
  let c80_i32_119 : BitVec 32 := 80#32
  let v245 : BitVec 32 := Scalar.muli v243 c80_i32_119
  let v246 : BitVec 32 := Scalar.addi c768_i32_120 v245
  let v247 : Index := Scalar.indexCast v246
  let c0_121 : Index := 0#32
  ![v247.toNat, 0]
def k0_dev5 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32_3 : BitVec 32 := 4#32
  let c4_i32 : BitVec 32 := 4#32
  let v6 : BitVec 32 := Scalar.divsi v2 c4_i32
  let v11 : BitVec 32 := Scalar.muli c4_i32_3 v6
  let v12 : BitVec 32 := Scalar.subi v2 v11
  let v17 : BitVec 32 := Scalar.muli c2_i32_6 v12
  let v18 : BitVec 32 := Scalar.subi v16 v17
  let c1_i32_124 : BitVec 32 := 1#32
  let v251 : BitVec 32 := Scalar.muli v18 c1_i32_124
  let v252 : BitVec 32 := Scalar.addi c0_i32_125 v251
  v252.toNat
def k0_off13 (d0 : Dev nD) : Fin 2 → Nat :=
  let c1408_i32 : BitVec 32 := 1408#32
  let c1_i32_129 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.divsi v2 c4_i32
  let v259 : BitVec 32 := Scalar.subi c1_i32_129 v6
  let c320_i32_130 : BitVec 32 := 320#32
  let v260 : BitVec 32 := Scalar.muli v259 c320_i32_130
  let v261 : BitVec 32 := Scalar.addi c1408_i32 v260
  let v262 : Index := Scalar.indexCast v261
  let c0_131 : Index := 0#32
  ![v262.toNat, 0]
def k0_off14 (d0 : Dev nD) : Fin 2 → Nat :=
  let c1408_i32 : BitVec 32 := 1408#32
  let c1_i32_129 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.divsi v2 c4_i32
  let v259 : BitVec 32 := Scalar.subi c1_i32_129 v6
  let c320_i32_130 : BitVec 32 := 320#32
  let v260 : BitVec 32 := Scalar.muli v259 c320_i32_130
  let v261 : BitVec 32 := Scalar.addi c1408_i32 v260
  let v265 : Index := Scalar.indexCast v261
  let c0_132 : Index := 0#32
  ![v265.toNat, 0]
def k0_off15 (d0 : Dev nD) : Fin 2 → Nat :=
  let c1408_i32_154 : BitVec 32 := 1408#32
  let c4_i32_151 : BitVec 32 := 4#32
  let c1_i32_129 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.divsi v2 c4_i32
  let v259 : BitVec 32 := Scalar.subi c1_i32_129 v6
  let v310 : BitVec 32 := Scalar.addi v259 v6
  let c2_i32_150 : BitVec 32 := 2#32
  let v311 : BitVec 32 := Scalar.muli c2_i32_150 v259
  let v312 : BitVec 32 := Scalar.muli v311 v6
  let v313 : BitVec 32 := Scalar.subi v310 v312
  let v314 : BitVec 32 := Scalar.muli c4_i32_151 v313
  let c2_i32_152 : BitVec 32 := 2#32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v315 : BitVec 32 := Scalar.muli c2_i32_152 v10
  let v316 : BitVec 32 := Scalar.addi v314 v315
  let v317 : BitVec 32 := Scalar.addi v316 v5
  let c80_i32_153 : BitVec 32 := 80#32
  let v319 : BitVec 32 := Scalar.muli v317 c80_i32_153
  let v320 : BitVec 32 := Scalar.addi c1408_i32_154 v319
  let v321 : Index := Scalar.indexCast v320
  let c0_155 : Index := 0#32
  ![v321.toNat, 0]
def k0_off16 (d0 : Dev nD) : Fin 2 → Nat :=
  let c1408_i32_160 : BitVec 32 := 1408#32
  let c4_i32_156 : BitVec 32 := 4#32
  let c1_i32_129 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.divsi v2 c4_i32
  let v259 : BitVec 32 := Scalar.subi c1_i32_129 v6
  let v310 : BitVec 32 := Scalar.addi v259 v6
  let c2_i32_150 : BitVec 32 := 2#32
  let v311 : BitVec 32 := Scalar.muli c2_i32_150 v259
  let v312 : BitVec 32 := Scalar.muli v311 v6
  let v313 : BitVec 32 := Scalar.subi v310 v312
  let v325 : BitVec 32 := Scalar.muli c4_i32_156 v313
  let c2_i32_157 : BitVec 32 := 2#32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v326 : BitVec 32 := Scalar.muli c2_i32_157 v10
  let v327 : BitVec 32 := Scalar.addi v325 v326
  let c1_i32_158 : BitVec 32 := 1#32
  let v328 : BitVec 32 := Scalar.subi c1_i32_158 v5
  let v329 : BitVec 32 := Scalar.addi v327 v328
  let c80_i32_159 : BitVec 32 := 80#32
  let v331 : BitVec 32 := Scalar.muli v329 c80_i32_159
  let v332 : BitVec 32 := Scalar.addi c1408_i32_160 v331
  let v333 : Index := Scalar.indexCast v332
  let c0_161 : Index := 0#32
  ![v333.toNat, 0]
def k0_off17 (d0 : Dev nD) : Fin 2 → Nat :=
  let c1408_i32_166 : BitVec 32 := 1408#32
  let c4_i32_162 : BitVec 32 := 4#32
  let c1_i32_129 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.divsi v2 c4_i32
  let v259 : BitVec 32 := Scalar.subi c1_i32_129 v6
  let v310 : BitVec 32 := Scalar.addi v259 v6
  let c2_i32_150 : BitVec 32 := 2#32
  let v311 : BitVec 32 := Scalar.muli c2_i32_150 v259
  let v312 : BitVec 32 := Scalar.muli v311 v6
  let v313 : BitVec 32 := Scalar.subi v310 v312
  let v337 : BitVec 32 := Scalar.muli c4_i32_162 v313
  let c2_i32_164 : BitVec 32 := 2#32
  let c1_i32_163 : BitVec 32 := 1#32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v338 : BitVec 32 := Scalar.subi c1_i32_163 v10
  let v339 : BitVec 32 := Scalar.muli c2_i32_164 v338
  let v340 : BitVec 32 := Scalar.addi v337 v339
  let v341 : BitVec 32 := Scalar.addi v340 v5
  let c80_i32_165 : BitVec 32 := 80#32
  let v343 : BitVec 32 := Scalar.muli v341 c80_i32_165
  let v344 : BitVec 32 := Scalar.addi c1408_i32_166 v343
  let v345 : Index := Scalar.indexCast v344
  let c0_167 : Index := 0#32
  ![v345.toNat, 0]
def k0_off18 (d0 : Dev nD) : Fin 2 → Nat :=
  let c1408_i32_173 : BitVec 32 := 1408#32
  let c4_i32_168 : BitVec 32 := 4#32
  let c1_i32_129 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.divsi v2 c4_i32
  let v259 : BitVec 32 := Scalar.subi c1_i32_129 v6
  let v310 : BitVec 32 := Scalar.addi v259 v6
  let c2_i32_150 : BitVec 32 := 2#32
  let v311 : BitVec 32 := Scalar.muli c2_i32_150 v259
  let v312 : BitVec 32 := Scalar.muli v311 v6
  let v313 : BitVec 32 := Scalar.subi v310 v312
  let v349 : BitVec 32 := Scalar.muli c4_i32_168 v313
  let c2_i32_170 : BitVec 32 := 2#32
  let c1_i32_169 : BitVec 32 := 1#32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v350 : BitVec 32 := Scalar.subi c1_i32_169 v10
  let v351 : BitVec 32 := Scalar.muli c2_i32_170 v350
  let v352 : BitVec 32 := Scalar.addi v349 v351
  let c1_i32_171 : BitVec 32 := 1#32
  let v353 : BitVec 32 := Scalar.subi c1_i32_171 v5
  let v354 : BitVec 32 := Scalar.addi v352 v353
  let c80_i32_172 : BitVec 32 := 80#32
  let v356 : BitVec 32 := Scalar.muli v354 c80_i32_172
  let v357 : BitVec 32 := Scalar.addi c1408_i32_173 v356
  let v358 : Index := Scalar.indexCast v357
  let c0_174 : Index := 0#32
  ![v358.toNat, 0]
def k0_dev6 (d0 : Dev nD) : Nat :=
  let c0_i32_178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let c4_i32 : BitVec 32 := 4#32
  let v6 : BitVec 32 := Scalar.divsi v2 c4_i32
  let v20 : BitVec 32 := Scalar.muli c8_i32_8 v6
  let v21 : BitVec 32 := Scalar.subi v19 v20
  let c1_i32_177 : BitVec 32 := 1#32
  let v362 : BitVec 32 := Scalar.muli v21 c1_i32_177
  let v363 : BitVec 32 := Scalar.addi c0_i32_178 v362
  v363.toNat
def k0_off19 (d0 : Dev nD) : Fin 2 → Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let c384_i32_182 : BitVec 32 := 384#32
  let v370 : BitVec 32 := Scalar.muli v10 c384_i32_182
  let v371 : BitVec 32 := Scalar.addi c0_i32_183 v370
  let v372 : Index := Scalar.indexCast v371
  let c0_184 : Index := 0#32
  ![v372.toNat, 0]
def k0_off20 (d0 : Dev nD) : Fin 2 → Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let c384_i32_182 : BitVec 32 := 384#32
  let v370 : BitVec 32 := Scalar.muli v10 c384_i32_182
  let v371 : BitVec 32 := Scalar.addi c0_i32_183 v370
  let v375 : Index := Scalar.indexCast v371
  let c0_185 : Index := 0#32
  ![v375.toNat, 0]
def k0_off21 (d0 : Dev nD) : Fin 2 → Nat :=
  let c0_i32_207 : BitVec 32 := 0#32
  let c4_i32_204 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v420 : BitVec 32 := Scalar.addi v10 v10
  let c2_i32_203 : BitVec 32 := 2#32
  let v421 : BitVec 32 := Scalar.muli c2_i32_203 v10
  let v422 : BitVec 32 := Scalar.muli v421 v10
  let v423 : BitVec 32 := Scalar.subi v420 v422
  let v424 : BitVec 32 := Scalar.muli c4_i32_204 v423
  let c2_i32_205 : BitVec 32 := 2#32
  let v425 : BitVec 32 := Scalar.muli c2_i32_205 v5
  let v426 : BitVec 32 := Scalar.addi v424 v425
  let c4_i32 : BitVec 32 := 4#32
  let v6 : BitVec 32 := Scalar.divsi v2 c4_i32
  let v427 : BitVec 32 := Scalar.addi v426 v6
  let c96_i32_206 : BitVec 32 := 96#32
  let v429 : BitVec 32 := Scalar.muli v427 c96_i32_206
  let v430 : BitVec 32 := Scalar.addi c0_i32_207 v429
  let v431 : Index := Scalar.indexCast v430
  let c0_208 : Index := 0#32
  ![v431.toNat, 0]
def k0_off22 (d0 : Dev nD) : Fin 2 → Nat :=
  let c0_i32_213 : BitVec 32 := 0#32
  let c4_i32_209 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v420 : BitVec 32 := Scalar.addi v10 v10
  let c2_i32_203 : BitVec 32 := 2#32
  let v421 : BitVec 32 := Scalar.muli c2_i32_203 v10
  let v422 : BitVec 32 := Scalar.muli v421 v10
  let v423 : BitVec 32 := Scalar.subi v420 v422
  let v435 : BitVec 32 := Scalar.muli c4_i32_209 v423
  let c2_i32_210 : BitVec 32 := 2#32
  let v436 : BitVec 32 := Scalar.muli c2_i32_210 v5
  let v437 : BitVec 32 := Scalar.addi v435 v436
  let c1_i32_211 : BitVec 32 := 1#32
  let c4_i32 : BitVec 32 := 4#32
  let v6 : BitVec 32 := Scalar.divsi v2 c4_i32
  let v438 : BitVec 32 := Scalar.subi c1_i32_211 v6
  let v439 : BitVec 32 := Scalar.addi v437 v438
  let c96_i32_212 : BitVec 32 := 96#32
  let v441 : BitVec 32 := Scalar.muli v439 c96_i32_212
  let v442 : BitVec 32 := Scalar.addi c0_i32_213 v441
  let v443 : Index := Scalar.indexCast v442
  let c0_214 : Index := 0#32
  ![v443.toNat, 0]
def k0_off23 (d0 : Dev nD) : Fin 2 → Nat :=
  let c0_i32_219 : BitVec 32 := 0#32
  let c4_i32_215 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v420 : BitVec 32 := Scalar.addi v10 v10
  let c2_i32_203 : BitVec 32 := 2#32
  let v421 : BitVec 32 := Scalar.muli c2_i32_203 v10
  let v422 : BitVec 32 := Scalar.muli v421 v10
  let v423 : BitVec 32 := Scalar.subi v420 v422
  let v447 : BitVec 32 := Scalar.muli c4_i32_215 v423
  let c2_i32_217 : BitVec 32 := 2#32
  let c1_i32_216 : BitVec 32 := 1#32
  let v448 : BitVec 32 := Scalar.subi c1_i32_216 v5
  let v449 : BitVec 32 := Scalar.muli c2_i32_217 v448
  let v450 : BitVec 32 := Scalar.addi v447 v449
  let c4_i32 : BitVec 32 := 4#32
  let v6 : BitVec 32 := Scalar.divsi v2 c4_i32
  let v451 : BitVec 32 := Scalar.addi v450 v6
  let c96_i32_218 : BitVec 32 := 96#32
  let v453 : BitVec 32 := Scalar.muli v451 c96_i32_218
  let v454 : BitVec 32 := Scalar.addi c0_i32_219 v453
  let v455 : Index := Scalar.indexCast v454
  let c0_220 : Index := 0#32
  ![v455.toNat, 0]
def k0_off24 (d0 : Dev nD) : Fin 2 → Nat :=
  let c0_i32_226 : BitVec 32 := 0#32
  let c4_i32_221 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v420 : BitVec 32 := Scalar.addi v10 v10
  let c2_i32_203 : BitVec 32 := 2#32
  let v421 : BitVec 32 := Scalar.muli c2_i32_203 v10
  let v422 : BitVec 32 := Scalar.muli v421 v10
  let v423 : BitVec 32 := Scalar.subi v420 v422
  let v459 : BitVec 32 := Scalar.muli c4_i32_221 v423
  let c2_i32_223 : BitVec 32 := 2#32
  let c1_i32_222 : BitVec 32 := 1#32
  let v460 : BitVec 32 := Scalar.subi c1_i32_222 v5
  let v461 : BitVec 32 := Scalar.muli c2_i32_223 v460
  let v462 : BitVec 32 := Scalar.addi v459 v461
  let c1_i32_224 : BitVec 32 := 1#32
  let c4_i32 : BitVec 32 := 4#32
  let v6 : BitVec 32 := Scalar.divsi v2 c4_i32
  let v463 : BitVec 32 := Scalar.subi c1_i32_224 v6
  let v464 : BitVec 32 := Scalar.addi v462 v463
  let c96_i32_225 : BitVec 32 := 96#32
  let v466 : BitVec 32 := Scalar.muli v464 c96_i32_225
  let v467 : BitVec 32 := Scalar.addi c0_i32_226 v466
  let v468 : Index := Scalar.indexCast v467
  let c0_227 : Index := 0#32
  ![v468.toNat, 0]
def k0_off25 (d0 : Dev nD) : Fin 2 → Nat :=
  let c768_i32_229 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_0 : BitVec 32 := 2#32
  let v4 : BitVec 32 := Scalar.divsi v2 c2_i32_0
  let c2_i32_1 : BitVec 32 := 2#32
  let v5 : BitVec 32 := Scalar.remsi v4 c2_i32_1
  let c320_i32_228 : BitVec 32 := 320#32
  let v472 : BitVec 32 := Scalar.muli v5 c320_i32_228
  let v473 : BitVec 32 := Scalar.addi c768_i32_229 v472
  let v474 : Index := Scalar.indexCast v473
  let c0_230 : Index := 0#32
  ![v474.toNat, 0]
def k0_off26 (d0 : Dev nD) : Fin 2 → Nat :=
  let c768_i32_229 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_0 : BitVec 32 := 2#32
  let v4 : BitVec 32 := Scalar.divsi v2 c2_i32_0
  let c2_i32_1 : BitVec 32 := 2#32
  let v5 : BitVec 32 := Scalar.remsi v4 c2_i32_1
  let c320_i32_228 : BitVec 32 := 320#32
  let v472 : BitVec 32 := Scalar.muli v5 c320_i32_228
  let v473 : BitVec 32 := Scalar.addi c768_i32_229 v472
  let v477 : Index := Scalar.indexCast v473
  let c0_231 : Index := 0#32
  ![v477.toNat, 0]
def k0_off27 (d0 : Dev nD) : Fin 2 → Nat :=
  let c768_i32_253 : BitVec 32 := 768#32
  let c4_i32_250 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_0 : BitVec 32 := 2#32
  let v4 : BitVec 32 := Scalar.divsi v2 c2_i32_0
  let c2_i32_1 : BitVec 32 := 2#32
  let v5 : BitVec 32 := Scalar.remsi v4 c2_i32_1
  let v522 : BitVec 32 := Scalar.addi v5 v5
  let c2_i32_249 : BitVec 32 := 2#32
  let v523 : BitVec 32 := Scalar.muli c2_i32_249 v5
  let v524 : BitVec 32 := Scalar.muli v523 v5
  let v525 : BitVec 32 := Scalar.subi v522 v524
  let v526 : BitVec 32 := Scalar.muli c4_i32_250 v525
  let c2_i32_251 : BitVec 32 := 2#32
  let c4_i32 : BitVec 32 := 4#32
  let v6 : BitVec 32 := Scalar.divsi v2 c4_i32
  let v527 : BitVec 32 := Scalar.muli c2_i32_251 v6
  let v528 : BitVec 32 := Scalar.addi v526 v527
  let c2_i32 : BitVec 32 := 2#32
  let v3 : BitVec 32 := Scalar.remsi v2 c2_i32
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v529 : BitVec 32 := Scalar.addi v528 v10
  let c80_i32_252 : BitVec 32 := 80#32
  let v531 : BitVec 32 := Scalar.muli v529 c80_i32_252
  let v532 : BitVec 32 := Scalar.addi c768_i32_253 v531
  let v533 : Index := Scalar.indexCast v532
  let c0_254 : Index := 0#32
  ![v533.toNat, 0]
def k0_off28 (d0 : Dev nD) : Fin 2 → Nat :=
  let c768_i32_259 : BitVec 32 := 768#32
  let c4_i32_255 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_0 : BitVec 32 := 2#32
  let v4 : BitVec 32 := Scalar.divsi v2 c2_i32_0
  let c2_i32_1 : BitVec 32 := 2#32
  let v5 : BitVec 32 := Scalar.remsi v4 c2_i32_1
  let v522 : BitVec 32 := Scalar.addi v5 v5
  let c2_i32_249 : BitVec 32 := 2#32
  let v523 : BitVec 32 := Scalar.muli c2_i32_249 v5
  let v524 : BitVec 32 := Scalar.muli v523 v5
  let v525 : BitVec 32 := Scalar.subi v522 v524
  let v537 : BitVec 32 := Scalar.muli c4_i32_255 v525
  let c2_i32_256 : BitVec 32 := 2#32
  let c4_i32 : BitVec 32 := 4#32
  let v6 : BitVec 32 := Scalar.divsi v2 c4_i32
  let v538 : BitVec 32 := Scalar.muli c2_i32_256 v6
  let v539 : BitVec 32 := Scalar.addi v537 v538
  let c1_i32_257 : BitVec 32 := 1#32
  let c2_i32 : BitVec 32 := 2#32
  let v3 : BitVec 32 := Scalar.remsi v2 c2_i32
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v540 : BitVec 32 := Scalar.subi c1_i32_257 v10
  let v541 : BitVec 32 := Scalar.addi v539 v540
  let c80_i32_258 : BitVec 32 := 80#32
  let v543 : BitVec 32 := Scalar.muli v541 c80_i32_258
  let v544 : BitVec 32 := Scalar.addi c768_i32_259 v543
  let v545 : Index := Scalar.indexCast v544
  let c0_260 : Index := 0#32
  ![v545.toNat, 0]
def k0_off29 (d0 : Dev nD) : Fin 2 → Nat :=
  let c768_i32_265 : BitVec 32 := 768#32
  let c4_i32_261 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_0 : BitVec 32 := 2#32
  let v4 : BitVec 32 := Scalar.divsi v2 c2_i32_0
  let c2_i32_1 : BitVec 32 := 2#32
  let v5 : BitVec 32 := Scalar.remsi v4 c2_i32_1
  let v522 : BitVec 32 := Scalar.addi v5 v5
  let c2_i32_249 : BitVec 32 := 2#32
  let v523 : BitVec 32 := Scalar.muli c2_i32_249 v5
  let v524 : BitVec 32 := Scalar.muli v523 v5
  let v525 : BitVec 32 := Scalar.subi v522 v524
  let v549 : BitVec 32 := Scalar.muli c4_i32_261 v525
  let c2_i32_263 : BitVec 32 := 2#32
  let c1_i32_262 : BitVec 32 := 1#32
  let c4_i32 : BitVec 32 := 4#32
  let v6 : BitVec 32 := Scalar.divsi v2 c4_i32
  let v550 : BitVec 32 := Scalar.subi c1_i32_262 v6
  let v551 : BitVec 32 := Scalar.muli c2_i32_263 v550
  let v552 : BitVec 32 := Scalar.addi v549 v551
  let c2_i32 : BitVec 32 := 2#32
  let v3 : BitVec 32 := Scalar.remsi v2 c2_i32
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v553 : BitVec 32 := Scalar.addi v552 v10
  let c80_i32_264 : BitVec 32 := 80#32
  let v555 : BitVec 32 := Scalar.muli v553 c80_i32_264
  let v556 : BitVec 32 := Scalar.addi c768_i32_265 v555
  let v557 : Index := Scalar.indexCast v556
  let c0_266 : Index := 0#32
  ![v557.toNat, 0]
def k0_off30 (d0 : Dev nD) : Fin 2 → Nat :=
  let c768_i32_272 : BitVec 32 := 768#32
  let c4_i32_267 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_0 : BitVec 32 := 2#32
  let v4 : BitVec 32 := Scalar.divsi v2 c2_i32_0
  let c2_i32_1 : BitVec 32 := 2#32
  let v5 : BitVec 32 := Scalar.remsi v4 c2_i32_1
  let v522 : BitVec 32 := Scalar.addi v5 v5
  let c2_i32_249 : BitVec 32 := 2#32
  let v523 : BitVec 32 := Scalar.muli c2_i32_249 v5
  let v524 : BitVec 32 := Scalar.muli v523 v5
  let v525 : BitVec 32 := Scalar.subi v522 v524
  let v561 : BitVec 32 := Scalar.muli c4_i32_267 v525
  let c2_i32_269 : BitVec 32 := 2#32
  let c1_i32_268 : BitVec 32 := 1#32
  let c4_i32 : BitVec 32 := 4#32
  let v6 : BitVec 32 := Scalar.divsi v2 c4_i32
  let v562 : BitVec 32 := Scalar.subi c1_i32_268 v6
  let v563 : BitVec 32 := Scalar.muli c2_i32_269 v562
  let v564 : BitVec 32 := Scalar.addi v561 v563
  let c1_i32_270 : BitVec 32 := 1#32
  let c2_i32 : BitVec 32 := 2#32
  let v3 : BitVec 32 := Scalar.remsi v2 c2_i32
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v565 : BitVec 32 := Scalar.subi c1_i32_270 v10
  let v566 : BitVec 32 := Scalar.addi v564 v565
  let c80_i32_271 : BitVec 32 := 80#32
  let v568 : BitVec 32 := Scalar.muli v566 c80_i32_271
  let v569 : BitVec 32 := Scalar.addi c768_i32_272 v568
  let v570 : Index := Scalar.indexCast v569
  let c0_273 : Index := 0#32
  ![v570.toNat, 0]
def k0_off31 (d0 : Dev nD) : Fin 2 → Nat :=
  let c1408_i32_275 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.divsi v2 c4_i32
  let c320_i32_274 : BitVec 32 := 320#32
  let v574 : BitVec 32 := Scalar.muli v6 c320_i32_274
  let v575 : BitVec 32 := Scalar.addi c1408_i32_275 v574
  let v576 : Index := Scalar.indexCast v575
  let c0_276 : Index := 0#32
  ![v576.toNat, 0]
def k0_off32 (d0 : Dev nD) : Fin 2 → Nat :=
  let c1408_i32_275 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.divsi v2 c4_i32
  let c320_i32_274 : BitVec 32 := 320#32
  let v574 : BitVec 32 := Scalar.muli v6 c320_i32_274
  let v575 : BitVec 32 := Scalar.addi c1408_i32_275 v574
  let v579 : Index := Scalar.indexCast v575
  let c0_277 : Index := 0#32
  ![v579.toNat, 0]
def k0_off33 (d0 : Dev nD) : Fin 2 → Nat :=
  let c1408_i32_299 : BitVec 32 := 1408#32
  let c4_i32_296 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.divsi v2 c4_i32
  let v624 : BitVec 32 := Scalar.addi v6 v6
  let c2_i32_295 : BitVec 32 := 2#32
  let v625 : BitVec 32 := Scalar.muli c2_i32_295 v6
  let v626 : BitVec 32 := Scalar.muli v625 v6
  let v627 : BitVec 32 := Scalar.subi v624 v626
  let v628 : BitVec 32 := Scalar.muli c4_i32_296 v627
  let c2_i32_297 : BitVec 32 := 2#32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v629 : BitVec 32 := Scalar.muli c2_i32_297 v10
  let v630 : BitVec 32 := Scalar.addi v628 v629
  let v631 : BitVec 32 := Scalar.addi v630 v5
  let c80_i32_298 : BitVec 32 := 80#32
  let v633 : BitVec 32 := Scalar.muli v631 c80_i32_298
  let v634 : BitVec 32 := Scalar.addi c1408_i32_299 v633
  let v635 : Index := Scalar.indexCast v634
  let c0_300 : Index := 0#32
  ![v635.toNat, 0]
def k0_off34 (d0 : Dev nD) : Fin 2 → Nat :=
  let c1408_i32_305 : BitVec 32 := 1408#32
  let c4_i32_301 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.divsi v2 c4_i32
  let v624 : BitVec 32 := Scalar.addi v6 v6
  let c2_i32_295 : BitVec 32 := 2#32
  let v625 : BitVec 32 := Scalar.muli c2_i32_295 v6
  let v626 : BitVec 32 := Scalar.muli v625 v6
  let v627 : BitVec 32 := Scalar.subi v624 v626
  let v639 : BitVec 32 := Scalar.muli c4_i32_301 v627
  let c2_i32_302 : BitVec 32 := 2#32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v640 : BitVec 32 := Scalar.muli c2_i32_302 v10
  let v641 : BitVec 32 := Scalar.addi v639 v640
  let c1_i32_303 : BitVec 32 := 1#32
  let v642 : BitVec 32 := Scalar.subi c1_i32_303 v5
  let v643 : BitVec 32 := Scalar.addi v641 v642
  let c80_i32_304 : BitVec 32 := 80#32
  let v645 : BitVec 32 := Scalar.muli v643 c80_i32_304
  let v646 : BitVec 32 := Scalar.addi c1408_i32_305 v645
  let v647 : Index := Scalar.indexCast v646
  let c0_306 : Index := 0#32
  ![v647.toNat, 0]
def k0_off35 (d0 : Dev nD) : Fin 2 → Nat :=
  let c1408_i32_311 : BitVec 32 := 1408#32
  let c4_i32_307 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.divsi v2 c4_i32
  let v624 : BitVec 32 := Scalar.addi v6 v6
  let c2_i32_295 : BitVec 32 := 2#32
  let v625 : BitVec 32 := Scalar.muli c2_i32_295 v6
  let v626 : BitVec 32 := Scalar.muli v625 v6
  let v627 : BitVec 32 := Scalar.subi v624 v626
  let v651 : BitVec 32 := Scalar.muli c4_i32_307 v627
  let c2_i32_309 : BitVec 32 := 2#32
  let c1_i32_308 : BitVec 32 := 1#32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v652 : BitVec 32 := Scalar.subi c1_i32_308 v10
  let v653 : BitVec 32 := Scalar.muli c2_i32_309 v652
  let v654 : BitVec 32 := Scalar.addi v651 v653
  let v655 : BitVec 32 := Scalar.addi v654 v5
  let c80_i32_310 : BitVec 32 := 80#32
  let v657 : BitVec 32 := Scalar.muli v655 c80_i32_310
  let v658 : BitVec 32 := Scalar.addi c1408_i32_311 v657
  let v659 : Index := Scalar.indexCast v658
  let c0_312 : Index := 0#32
  ![v659.toNat, 0]
def k0_off36 (d0 : Dev nD) : Fin 2 → Nat :=
  let c1408_i32_318 : BitVec 32 := 1408#32
  let c4_i32_313 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.divsi v2 c4_i32
  let v624 : BitVec 32 := Scalar.addi v6 v6
  let c2_i32_295 : BitVec 32 := 2#32
  let v625 : BitVec 32 := Scalar.muli c2_i32_295 v6
  let v626 : BitVec 32 := Scalar.muli v625 v6
  let v627 : BitVec 32 := Scalar.subi v624 v626
  let v663 : BitVec 32 := Scalar.muli c4_i32_313 v627
  let c2_i32_315 : BitVec 32 := 2#32
  let c1_i32_314 : BitVec 32 := 1#32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v664 : BitVec 32 := Scalar.subi c1_i32_314 v10
  let v665 : BitVec 32 := Scalar.muli c2_i32_315 v664
  let v666 : BitVec 32 := Scalar.addi v663 v665
  let c1_i32_316 : BitVec 32 := 1#32
  let v667 : BitVec 32 := Scalar.subi c1_i32_316 v5
  let v668 : BitVec 32 := Scalar.addi v666 v667
  let c80_i32_317 : BitVec 32 := 80#32
  let v670 : BitVec 32 := Scalar.muli v668 c80_i32_317
  let v671 : BitVec 32 := Scalar.addi c1408_i32_318 v670
  let v672 : Index := Scalar.indexCast v671
  let c0_319 : Index := 0#32
  ![v672.toNat, 0]
def k0_dev7 (d0 : Dev nD) : Nat :=
  let c0_i32_363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32_3 : BitVec 32 := 4#32
  let c4_i32 : BitVec 32 := 4#32
  let v6 : BitVec 32 := Scalar.divsi v2 c4_i32
  let v11 : BitVec 32 := Scalar.muli c4_i32_3 v6
  let v12 : BitVec 32 := Scalar.subi v2 v11
  let v17 : BitVec 32 := Scalar.muli c2_i32_6 v12
  let v18 : BitVec 32 := Scalar.subi v16 v17
  let c1_i32_362 : BitVec 32 := 1#32
  let v712 : BitVec 32 := Scalar.muli v18 c1_i32_362
  let v713 : BitVec 32 := Scalar.addi c0_i32_363 v712
  v713.toNat
def k0_dev8 (d0 : Dev nD) : Nat :=
  let c0_i32_370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let c4_i32 : BitVec 32 := 4#32
  let v6 : BitVec 32 := Scalar.divsi v2 c4_i32
  let v20 : BitVec 32 := Scalar.muli c8_i32_8 v6
  let v21 : BitVec 32 := Scalar.subi v19 v20
  let c1_i32_369 : BitVec 32 := 1#32
  let v720 : BitVec 32 := Scalar.muli v21 c1_i32_369
  let v721 : BitVec 32 := Scalar.addi c0_i32_370 v720
  v721.toNat
def k0_dev9 (d0 : Dev nD) : Nat :=
  let c0_i32_377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v13 : BitVec 32 := Scalar.addi v2 c1_i32_4
  let c2_i32_5 : BitVec 32 := 2#32
  let c2_i32 : BitVec 32 := 2#32
  let v3 : BitVec 32 := Scalar.remsi v2 c2_i32
  let v14 : BitVec 32 := Scalar.muli c2_i32_5 v3
  let v15 : BitVec 32 := Scalar.subi v13 v14
  let c1_i32_376 : BitVec 32 := 1#32
  let v728 : BitVec 32 := Scalar.muli v15 c1_i32_376
  let v729 : BitVec 32 := Scalar.addi c0_i32_377 v728
  v729.toNat
def k0_dev10 (d0 : Dev nD) : Nat :=
  let c0_i32_424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let c4_i32 : BitVec 32 := 4#32
  let v6 : BitVec 32 := Scalar.divsi v2 c4_i32
  let v20 : BitVec 32 := Scalar.muli c8_i32_8 v6
  let v21 : BitVec 32 := Scalar.subi v19 v20
  let c1_i32_423 : BitVec 32 := 1#32
  let v772 : BitVec 32 := Scalar.muli v21 c1_i32_423
  let v773 : BitVec 32 := Scalar.addi c0_i32_424 v772
  v773.toNat
def k0_dev11 (d0 : Dev nD) : Nat :=
  let c0_i32_431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let c4_i32 : BitVec 32 := 4#32
  let v6 : BitVec 32 := Scalar.divsi v2 c4_i32
  let v20 : BitVec 32 := Scalar.muli c8_i32_8 v6
  let v21 : BitVec 32 := Scalar.subi v19 v20
  let c1_i32_430 : BitVec 32 := 1#32
  let v780 : BitVec 32 := Scalar.muli v21 c1_i32_430
  let v781 : BitVec 32 := Scalar.addi c0_i32_431 v780
  v781.toNat
def k0_dev12 (d0 : Dev nD) : Nat :=
  let c0_i32_438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v13 : BitVec 32 := Scalar.addi v2 c1_i32_4
  let c2_i32_5 : BitVec 32 := 2#32
  let c2_i32 : BitVec 32 := 2#32
  let v3 : BitVec 32 := Scalar.remsi v2 c2_i32
  let v14 : BitVec 32 := Scalar.muli c2_i32_5 v3
  let v15 : BitVec 32 := Scalar.subi v13 v14
  let c1_i32_437 : BitVec 32 := 1#32
  let v788 : BitVec 32 := Scalar.muli v15 c1_i32_437
  let v789 : BitVec 32 := Scalar.addi c0_i32_438 v788
  v789.toNat
def k0_dev13 (d0 : Dev nD) : Nat :=
  let c0_i32_444 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v13 : BitVec 32 := Scalar.addi v2 c1_i32_4
  let c2_i32_5 : BitVec 32 := 2#32
  let c2_i32 : BitVec 32 := 2#32
  let v3 : BitVec 32 := Scalar.remsi v2 c2_i32
  let v14 : BitVec 32 := Scalar.muli c2_i32_5 v3
  let v15 : BitVec 32 := Scalar.subi v13 v14
  let c1_i32_443 : BitVec 32 := 1#32
  let v796 : BitVec 32 := Scalar.muli v15 c1_i32_443
  let v797 : BitVec 32 := Scalar.addi c0_i32_444 v796
  v797.toNat
def k0_dev14 (d0 : Dev nD) : Nat :=
  let c0_i32_451 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32_3 : BitVec 32 := 4#32
  let c4_i32 : BitVec 32 := 4#32
  let v6 : BitVec 32 := Scalar.divsi v2 c4_i32
  let v11 : BitVec 32 := Scalar.muli c4_i32_3 v6
  let v12 : BitVec 32 := Scalar.subi v2 v11
  let v17 : BitVec 32 := Scalar.muli c2_i32_6 v12
  let v18 : BitVec 32 := Scalar.subi v16 v17
  let c1_i32_450 : BitVec 32 := 1#32
  let v804 : BitVec 32 := Scalar.muli v18 c1_i32_450
  let v805 : BitVec 32 := Scalar.addi c0_i32_451 v804
  v805.toNat
def k0_dev15 (d0 : Dev nD) : Nat :=
  let c0_i32_458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32_3 : BitVec 32 := 4#32
  let c4_i32 : BitVec 32 := 4#32
  let v6 : BitVec 32 := Scalar.divsi v2 c4_i32
  let v11 : BitVec 32 := Scalar.muli c4_i32_3 v6
  let v12 : BitVec 32 := Scalar.subi v2 v11
  let v17 : BitVec 32 := Scalar.muli c2_i32_6 v12
  let v18 : BitVec 32 := Scalar.subi v16 v17
  let c1_i32_457 : BitVec 32 := 1#32
  let v812 : BitVec 32 := Scalar.muli v18 c1_i32_457
  let v813 : BitVec 32 := Scalar.addi c0_i32_458 v812
  v813.toNat
def k0_off37 (d0 : Dev nD) : Fin 2 → Nat :=
  let c0_i32_485 : BitVec 32 := 0#32
  let c4_i32_479 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v832 : BitVec 32 := Scalar.muli c4_i32_479 v10
  let c2_i32_480 : BitVec 32 := 2#32
  let v833 : BitVec 32 := Scalar.muli c2_i32_480 v5
  let v834 : BitVec 32 := Scalar.addi v832 v833
  let c4_i32 : BitVec 32 := 4#32
  let v6 : BitVec 32 := Scalar.divsi v2 c4_i32
  let v838 : BitVec 32 := Scalar.addi v834 v6
  let c96_i32_484 : BitVec 32 := 96#32
  let v839 : BitVec 32 := Scalar.muli v838 c96_i32_484
  let v840 : BitVec 32 := Scalar.addi c0_i32_485 v839
  let v841 : Index := Scalar.indexCast v840
  let c0_486 : Index := 0#32
  ![v841.toNat, 0]
def k0_off38 (d0 : Dev nD) : Fin 2 → Nat :=
  let c0_i32_491 : BitVec 32 := 0#32
  let c4_i32_479 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v832 : BitVec 32 := Scalar.muli c4_i32_479 v10
  let c2_i32_480 : BitVec 32 := 2#32
  let v833 : BitVec 32 := Scalar.muli c2_i32_480 v5
  let v834 : BitVec 32 := Scalar.addi v832 v833
  let c1_i32_487 : BitVec 32 := 1#32
  let c4_i32 : BitVec 32 := 4#32
  let v6 : BitVec 32 := Scalar.divsi v2 c4_i32
  let v843 : BitVec 32 := Scalar.subi c1_i32_487 v6
  let v847 : BitVec 32 := Scalar.addi v834 v843
  let c96_i32_490 : BitVec 32 := 96#32
  let v848 : BitVec 32 := Scalar.muli v847 c96_i32_490
  let v849 : BitVec 32 := Scalar.addi c0_i32_491 v848
  let v850 : Index := Scalar.indexCast v849
  let c0_492 : Index := 0#32
  ![v850.toNat, 0]
def k0_off39 (d0 : Dev nD) : Fin 2 → Nat :=
  let c768_i32_515 : BitVec 32 := 768#32
  let c4_i32_509 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_0 : BitVec 32 := 2#32
  let v4 : BitVec 32 := Scalar.divsi v2 c2_i32_0
  let c2_i32_1 : BitVec 32 := 2#32
  let v5 : BitVec 32 := Scalar.remsi v4 c2_i32_1
  let v864 : BitVec 32 := Scalar.muli c4_i32_509 v5
  let c2_i32_510 : BitVec 32 := 2#32
  let c4_i32 : BitVec 32 := 4#32
  let v6 : BitVec 32 := Scalar.divsi v2 c4_i32
  let v865 : BitVec 32 := Scalar.muli c2_i32_510 v6
  let v866 : BitVec 32 := Scalar.addi v864 v865
  let c2_i32 : BitVec 32 := 2#32
  let v3 : BitVec 32 := Scalar.remsi v2 c2_i32
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v870 : BitVec 32 := Scalar.addi v866 v10
  let c80_i32_514 : BitVec 32 := 80#32
  let v871 : BitVec 32 := Scalar.muli v870 c80_i32_514
  let v872 : BitVec 32 := Scalar.addi c768_i32_515 v871
  let v873 : Index := Scalar.indexCast v872
  let c0_516 : Index := 0#32
  ![v873.toNat, 0]
def k0_off40 (d0 : Dev nD) : Fin 2 → Nat :=
  let c768_i32_521 : BitVec 32 := 768#32
  let c4_i32_509 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_0 : BitVec 32 := 2#32
  let v4 : BitVec 32 := Scalar.divsi v2 c2_i32_0
  let c2_i32_1 : BitVec 32 := 2#32
  let v5 : BitVec 32 := Scalar.remsi v4 c2_i32_1
  let v864 : BitVec 32 := Scalar.muli c4_i32_509 v5
  let c2_i32_510 : BitVec 32 := 2#32
  let c4_i32 : BitVec 32 := 4#32
  let v6 : BitVec 32 := Scalar.divsi v2 c4_i32
  let v865 : BitVec 32 := Scalar.muli c2_i32_510 v6
  let v866 : BitVec 32 := Scalar.addi v864 v865
  let c1_i32_517 : BitVec 32 := 1#32
  let c2_i32 : BitVec 32 := 2#32
  let v3 : BitVec 32 := Scalar.remsi v2 c2_i32
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v875 : BitVec 32 := Scalar.subi c1_i32_517 v10
  let v879 : BitVec 32 := Scalar.addi v866 v875
  let c80_i32_520 : BitVec 32 := 80#32
  let v880 : BitVec 32 := Scalar.muli v879 c80_i32_520
  let v881 : BitVec 32 := Scalar.addi c768_i32_521 v880
  let v882 : Index := Scalar.indexCast v881
  let c0_522 : Index := 0#32
  ![v882.toNat, 0]
def k0_off41 (d0 : Dev nD) : Fin 2 → Nat :=
  let c1408_i32_546 : BitVec 32 := 1408#32
  let c4_i32_539 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.divsi v2 c4_i32
  let v896 : BitVec 32 := Scalar.muli c4_i32_539 v6
  let c2_i32_540 : BitVec 32 := 2#32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v897 : BitVec 32 := Scalar.muli c2_i32_540 v10
  let v898 : BitVec 32 := Scalar.addi v896 v897
  let v902 : BitVec 32 := Scalar.addi v898 v5
  let c80_i32_545 : BitVec 32 := 80#32
  let v903 : BitVec 32 := Scalar.muli v902 c80_i32_545
  let v904 : BitVec 32 := Scalar.addi c1408_i32_546 v903
  let v905 : Index := Scalar.indexCast v904
  let c0_547 : Index := 0#32
  ![v905.toNat, 0]
def k0_off42 (d0 : Dev nD) : Fin 2 → Nat :=
  let c1408_i32_553 : BitVec 32 := 1408#32
  let c4_i32_539 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.divsi v2 c4_i32
  let v896 : BitVec 32 := Scalar.muli c4_i32_539 v6
  let c2_i32_540 : BitVec 32 := 2#32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v897 : BitVec 32 := Scalar.muli c2_i32_540 v10
  let v898 : BitVec 32 := Scalar.addi v896 v897
  let c1_i32_548 : BitVec 32 := 1#32
  let v907 : BitVec 32 := Scalar.subi c1_i32_548 v5
  let v911 : BitVec 32 := Scalar.addi v898 v907
  let c80_i32_552 : BitVec 32 := 80#32
  let v912 : BitVec 32 := Scalar.muli v911 c80_i32_552
  let v913 : BitVec 32 := Scalar.addi c1408_i32_553 v912
  let v914 : Index := Scalar.indexCast v913
  let c0_554 : Index := 0#32
  ![v914.toNat, 0]
def k0_off43 (d0 : Dev nD) : Fin 2 → Nat :=
  let c0_i32_559 : BitVec 32 := 0#32
  let c4_i32_555 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v916 : BitVec 32 := Scalar.muli c4_i32_555 v10
  let c2_i32_556 : BitVec 32 := 2#32
  let v917 : BitVec 32 := Scalar.muli c2_i32_556 v5
  let v918 : BitVec 32 := Scalar.addi v916 v917
  let c0_i32_557 : BitVec 32 := 0#32
  let v919 : BitVec 32 := Scalar.addi v918 c0_i32_557
  let c96_i32_558 : BitVec 32 := 96#32
  let v920 : BitVec 32 := Scalar.muli v919 c96_i32_558
  let v921 : BitVec 32 := Scalar.addi c0_i32_559 v920
  let c0_i32_564 : BitVec 32 := 0#32
  ![v921.toNat, 0]
def k0_dev16 (d0 : Dev nD) : Nat :=
  let c0_i32_563 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32_3 : BitVec 32 := 4#32
  let c4_i32 : BitVec 32 := 4#32
  let v6 : BitVec 32 := Scalar.divsi v2 c4_i32
  let v11 : BitVec 32 := Scalar.muli c4_i32_3 v6
  let v12 : BitVec 32 := Scalar.subi v2 v11
  let v17 : BitVec 32 := Scalar.muli c2_i32_6 v12
  let v18 : BitVec 32 := Scalar.subi v16 v17
  let c1_i32_562 : BitVec 32 := 1#32
  let v922 : BitVec 32 := Scalar.muli v18 c1_i32_562
  let v923 : BitVec 32 := Scalar.addi c0_i32_563 v922
  v923.toNat
def k0_off44 (d0 : Dev nD) : Fin 2 → Nat :=
  let c768_i32_570 : BitVec 32 := 768#32
  let c4_i32_566 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_0 : BitVec 32 := 2#32
  let v4 : BitVec 32 := Scalar.divsi v2 c2_i32_0
  let c2_i32_1 : BitVec 32 := 2#32
  let v5 : BitVec 32 := Scalar.remsi v4 c2_i32_1
  let v930 : BitVec 32 := Scalar.muli c4_i32_566 v5
  let c2_i32_567 : BitVec 32 := 2#32
  let c4_i32 : BitVec 32 := 4#32
  let v6 : BitVec 32 := Scalar.divsi v2 c4_i32
  let v931 : BitVec 32 := Scalar.muli c2_i32_567 v6
  let v932 : BitVec 32 := Scalar.addi v930 v931
  let c0_i32_568 : BitVec 32 := 0#32
  let v933 : BitVec 32 := Scalar.addi v932 c0_i32_568
  let c80_i32_569 : BitVec 32 := 80#32
  let v934 : BitVec 32 := Scalar.muli v933 c80_i32_569
  let v935 : BitVec 32 := Scalar.addi c768_i32_570 v934
  let c0_i32_575 : BitVec 32 := 0#32
  ![v935.toNat, 0]
def k0_dev17 (d0 : Dev nD) : Nat :=
  let c0_i32_574 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let c4_i32 : BitVec 32 := 4#32
  let v6 : BitVec 32 := Scalar.divsi v2 c4_i32
  let v20 : BitVec 32 := Scalar.muli c8_i32_8 v6
  let v21 : BitVec 32 := Scalar.subi v19 v20
  let c1_i32_573 : BitVec 32 := 1#32
  let v936 : BitVec 32 := Scalar.muli v21 c1_i32_573
  let v937 : BitVec 32 := Scalar.addi c0_i32_574 v936
  v937.toNat
def k0_off45 (d0 : Dev nD) : Fin 2 → Nat :=
  let c1408_i32_581 : BitVec 32 := 1408#32
  let c4_i32_577 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.divsi v2 c4_i32
  let v944 : BitVec 32 := Scalar.muli c4_i32_577 v6
  let c2_i32_578 : BitVec 32 := 2#32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v945 : BitVec 32 := Scalar.muli c2_i32_578 v10
  let v946 : BitVec 32 := Scalar.addi v944 v945
  let c0_i32_579 : BitVec 32 := 0#32
  let v947 : BitVec 32 := Scalar.addi v946 c0_i32_579
  let c80_i32_580 : BitVec 32 := 80#32
  let v948 : BitVec 32 := Scalar.muli v947 c80_i32_580
  let v949 : BitVec 32 := Scalar.addi c1408_i32_581 v948
  let c0_i32_586 : BitVec 32 := 0#32
  ![v949.toNat, 0]
def k0_dev18 (d0 : Dev nD) : Nat :=
  let c0_i32_585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v13 : BitVec 32 := Scalar.addi v2 c1_i32_4
  let c2_i32_5 : BitVec 32 := 2#32
  let c2_i32 : BitVec 32 := 2#32
  let v3 : BitVec 32 := Scalar.remsi v2 c2_i32
  let v14 : BitVec 32 := Scalar.muli c2_i32_5 v3
  let v15 : BitVec 32 := Scalar.subi v13 v14
  let c1_i32_584 : BitVec 32 := 1#32
  let v950 : BitVec 32 := Scalar.muli v15 c1_i32_584
  let v951 : BitVec 32 := Scalar.addi c0_i32_585 v950
  v951.toNat
def k0_off46 (d0 : Dev nD) : Fin 2 → Nat :=
  let c0_i32_610 : BitVec 32 := 0#32
  let c4_i32_606 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.remsi v2 c2_i32
  let c2_i32_0 : BitVec 32 := 2#32
  let v4 : BitVec 32 := Scalar.divsi v2 c2_i32_0
  let c2_i32_1 : BitVec 32 := 2#32
  let v5 : BitVec 32 := Scalar.remsi v4 c2_i32_1
  let v7 : BitVec 32 := Scalar.addi v3 v5
  let c2_i32_2 : BitVec 32 := 2#32
  let v8 : BitVec 32 := Scalar.muli c2_i32_2 v3
  let v9 : BitVec 32 := Scalar.muli v8 v5
  let v10 : BitVec 32 := Scalar.subi v7 v9
  let v976 : BitVec 32 := Scalar.muli c4_i32_606 v10
  let c0_i32_607 : BitVec 32 := 0#32
  let v977 : BitVec 32 := Scalar.addi v976 c0_i32_607
  let c0_i32_608 : BitVec 32 := 0#32
  let v978 : BitVec 32 := Scalar.addi v977 c0_i32_608
  let c96_i32_609 : BitVec 32 := 96#32
  let v979 : BitVec 32 := Scalar.muli v978 c96_i32_609
  let v980 : BitVec 32 := Scalar.addi c0_i32_610 v979
  let c0_i32_615 : BitVec 32 := 0#32
  ![v980.toNat, 0]
def k0_dev19 (d0 : Dev nD) : Nat :=
  let c0_i32_614 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v13 : BitVec 32 := Scalar.addi v2 c1_i32_4
  let c2_i32_5 : BitVec 32 := 2#32
  let c2_i32 : BitVec 32 := 2#32
  let v3 : BitVec 32 := Scalar.remsi v2 c2_i32
  let v14 : BitVec 32 := Scalar.muli c2_i32_5 v3
  let v15 : BitVec 32 := Scalar.subi v13 v14
  let c1_i32_613 : BitVec 32 := 1#32
  let v981 : BitVec 32 := Scalar.muli v15 c1_i32_613
  let v982 : BitVec 32 := Scalar.addi c0_i32_614 v981
  v982.toNat
def k0_off47 (d0 : Dev nD) : Fin 2 → Nat :=
  let c768_i32_621 : BitVec 32 := 768#32
  let c4_i32_617 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_0 : BitVec 32 := 2#32
  let v4 : BitVec 32 := Scalar.divsi v2 c2_i32_0
  let c2_i32_1 : BitVec 32 := 2#32
  let v5 : BitVec 32 := Scalar.remsi v4 c2_i32_1
  let v989 : BitVec 32 := Scalar.muli c4_i32_617 v5
  let c0_i32_618 : BitVec 32 := 0#32
  let v990 : BitVec 32 := Scalar.addi v989 c0_i32_618
  let c0_i32_619 : BitVec 32 := 0#32
  let v991 : BitVec 32 := Scalar.addi v990 c0_i32_619
  let c80_i32_620 : BitVec 32 := 80#32
  let v992 : BitVec 32 := Scalar.muli v991 c80_i32_620
  let v993 : BitVec 32 := Scalar.addi c768_i32_621 v992
  let c0_i32_626 : BitVec 32 := 0#32
  ![v993.toNat, 0]
def k0_dev20 (d0 : Dev nD) : Nat :=
  let c0_i32_625 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32_3 : BitVec 32 := 4#32
  let c4_i32 : BitVec 32 := 4#32
  let v6 : BitVec 32 := Scalar.divsi v2 c4_i32
  let v11 : BitVec 32 := Scalar.muli c4_i32_3 v6
  let v12 : BitVec 32 := Scalar.subi v2 v11
  let v17 : BitVec 32 := Scalar.muli c2_i32_6 v12
  let v18 : BitVec 32 := Scalar.subi v16 v17
  let c1_i32_624 : BitVec 32 := 1#32
  let v994 : BitVec 32 := Scalar.muli v18 c1_i32_624
  let v995 : BitVec 32 := Scalar.addi c0_i32_625 v994
  v995.toNat
def k0_off48 (d0 : Dev nD) : Fin 2 → Nat :=
  let c1408_i32_632 : BitVec 32 := 1408#32
  let c4_i32_628 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.divsi v2 c4_i32
  let v1002 : BitVec 32 := Scalar.muli c4_i32_628 v6
  let c0_i32_629 : BitVec 32 := 0#32
  let v1003 : BitVec 32 := Scalar.addi v1002 c0_i32_629
  let c0_i32_630 : BitVec 32 := 0#32
  let v1004 : BitVec 32 := Scalar.addi v1003 c0_i32_630
  let c80_i32_631 : BitVec 32 := 80#32
  let v1005 : BitVec 32 := Scalar.muli v1004 c80_i32_631
  let v1006 : BitVec 32 := Scalar.addi c1408_i32_632 v1005
  let c0_i32_637 : BitVec 32 := 0#32
  ![v1006.toNat, 0]
def k0_dev21 (d0 : Dev nD) : Nat :=
  let c0_i32_636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let c4_i32 : BitVec 32 := 4#32
  let v6 : BitVec 32 := Scalar.divsi v2 c4_i32
  let v20 : BitVec 32 := Scalar.muli c8_i32_8 v6
  let v21 : BitVec 32 := Scalar.subi v19 v20
  let c1_i32_635 : BitVec 32 := 1#32
  let v1007 : BitVec 32 := Scalar.muli v21 c1_i32_635
  let v1008 : BitVec 32 := Scalar.addi c0_i32_636 v1007
  v1008.toNat
def k0_dev22 (d0 : Dev nD) : Nat :=
  let c0_i32_773_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v13 : BitVec 32 := Scalar.addi v2 c1_i32_4
  let c2_i32_5 : BitVec 32 := 2#32
  let c2_i32 : BitVec 32 := 2#32
  let v3 : BitVec 32 := Scalar.remsi v2 c2_i32
  let v14 : BitVec 32 := Scalar.muli c2_i32_5 v3
  let v15 : BitVec 32 := Scalar.subi v13 v14
  let c1_i32_772_r0 : BitVec 32 := 1#32
  let v1106_r0 : BitVec 32 := Scalar.muli v15 c1_i32_772_r0
  let v1107_r0 : BitVec 32 := Scalar.addi c0_i32_773_r0 v1106_r0
  v1107_r0.toNat
def k0_dev23 (d0 : Dev nD) : Nat :=
  let c0_i32_776_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c2_i32_6 : BitVec 32 := 2#32
  let c4_i32_3 : BitVec 32 := 4#32
  let c4_i32 : BitVec 32 := 4#32
  let v6 : BitVec 32 := Scalar.divsi v2 c4_i32
  let v11 : BitVec 32 := Scalar.muli c4_i32_3 v6
  let v12 : BitVec 32 := Scalar.subi v2 v11
  let v17 : BitVec 32 := Scalar.muli c2_i32_6 v12
  let v18 : BitVec 32 := Scalar.subi v16 v17
  let c1_i32_775_r0 : BitVec 32 := 1#32
  let v1108_r0 : BitVec 32 := Scalar.muli v18 c1_i32_775_r0
  let v1109_r0 : BitVec 32 := Scalar.addi c0_i32_776_r0 v1108_r0
  v1109_r0.toNat
def k0_dev24 (d0 : Dev nD) : Nat :=
  let c0_i32_779_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_7 : BitVec 32 := 4#32
  let v19 : BitVec 32 := Scalar.addi v2 c4_i32_7
  let c8_i32_8 : BitVec 32 := 8#32
  let c4_i32 : BitVec 32 := 4#32
  let v6 : BitVec 32 := Scalar.divsi v2 c4_i32
  let v20 : BitVec 32 := Scalar.muli c8_i32_8 v6
  let v21 : BitVec 32 := Scalar.subi v19 v20
  let c1_i32_778_r0 : BitVec 32 := 1#32
  let v1110_r0 : BitVec 32 := Scalar.muli v21 c1_i32_778_r0
  let v1111_r0 : BitVec 32 := Scalar.addi c0_i32_779_r0 v1110_r0
  v1111_r0.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x32 : Shape := ⟨2, ![512, 32]⟩
abbrev S2048x1 : Shape := ⟨2, ![2048, 1]⟩
abbrev S32x512x1024 : Shape := ⟨3, ![32, 512, 1024]⟩
abbrev S2048 : Shape := ⟨1, ![2048]⟩
abbrev S_ : Shape := ⟨0, ![]⟩
abbrev S2048x512x1024 : Shape := ⟨3, ![2048, 512, 1024]⟩
abbrev S2048x512x1 : Shape := ⟨3, ![2048, 512, 1]⟩
abbrev S2048x1024 : Shape := ⟨2, ![2048, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x1, .i32⟩
  | .hbm, ⟨3, _⟩ => ⟨S32x512x1024, .bf16⟩
  | .hbm, ⟨4, _⟩ => ⟨S32x512x1024, .f32⟩
  | .hbm, ⟨5, _⟩ => ⟨S2048, .i32⟩
  | .hbm, ⟨6, _⟩ => ⟨S_, .i32⟩
  | .hbm, ⟨7, _⟩ => ⟨S2048, .i32⟩
  | .hbm, ⟨8, _⟩ => ⟨S2048, .i1⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S2048x1, .i32⟩
  | .hbm, ⟨14, _⟩ => ⟨S2048x512x1024, .f32⟩
  | .hbm, ⟨15, _⟩ => ⟨S2048x512, .f32⟩
  | .hbm, ⟨16, _⟩ => ⟨S2048x512x1, .f32⟩
  | .hbm, ⟨17, _⟩ => ⟨S2048x512x1024, .f32⟩
  | .hbm, ⟨18, _⟩ => ⟨S2048x512x1024, .f32⟩
  | .hbm, ⟨19, _⟩ => ⟨S_, .f32⟩
  | .hbm, ⟨20, _⟩ => ⟨S2048x1024, .f32⟩
  | .hbm, ⟨21, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Geom.lean ====
/-
# Where the rows of each part lie, and who talks to whom

The result's 2048 rows fall into three parts of eight sub-blocks each: part 0 starts at row 0 with sub-blocks of 96 rows,
part 1 at row 768 and part 2 at row 1408 with sub-blocks of 80 rows. A sub-block's label is a number of three bits. A
device has three key bits, and in three pairings it meets the device that differs from it in one of those bits only; part
`p` goes through the pairings in the cyclic order `p, p+1, p+2`. In the buffer of partial sums a device keeps sub-block
`l` at the slot whose bits are those of `l` plus its own keys modulo 2.
-/
module

public import proofs.«01_k».proof.Proof.Gen.KernelIdeal

@[expose] public section

namespace Cert.Geom

open Idealize.ShloMosaic
open Cert.KernelIdeal (nD)

/-- The partner of device `c` in pairing `m`. -/
def pr (m : Fin 3) (c : Dev nD) : Dev nD :=
  (match m with
    | 0 => ![1, 0, 3, 2, 5, 4, 7, 6]
    | 1 => ![3, 2, 1, 0, 7, 6, 5, 4]
    | 2 => ![4, 5, 6, 7, 0, 1, 2, 3] : Fin 8 → Fin 8) c

/-- Key bit `m` of device `c`: the bit that pairing `m` flips. -/
def kb (m : Fin 3) (c : Dev nD) : ℕ :=
  match m with
    | 0 => (c.val % 2 + c.val / 2 % 2) % 2
    | 1 => c.val / 2 % 2
    | 2 => c.val / 4 % 2

theorem pr_pr : ∀ (m : Fin 3) (c : Dev nD), pr m (pr m c) = c := by decide
theorem pr_comm : ∀ (m m' : Fin 3) (c : Dev nD), pr m (pr m' c) = pr m' (pr m c) := by decide
theorem kb_lt : ∀ (m : Fin 3) (c : Dev nD), kb m c < 2 := by decide
theorem kb_pr : ∀ (m m' : Fin 3) (c : Dev nD), kb m (pr m' c) = if m = m' then 1 - kb m c else kb m c := by decide
theorem pr_inj (m : Fin 3) {a b : Dev nD} (h : pr m a = pr m b) : a = b := by rw [← pr_pr m a, h, pr_pr]

/-- The pairing as a permutation of the devices. -/
def prE (m : Fin 3) : Dev nD ≃ Dev nD := ⟨pr m, pr m, pr_pr m, pr_pr m⟩

/-- The first row of part `p` and the height of its sub-blocks. -/
def base : Fin 3 → ℕ := ![0, 768, 1408]
def sub : Fin 3 → ℕ := ![96, 80, 80]

theorem sub_pos : ∀ p : Fin 3, 0 < sub p := by decide
theorem sub_cases : ∀ p : Fin 3, sub p = 96 ∨ sub p = 80 := by decide

/-- The partner of `c` in part `p`'s step `j`, and the key bit this step flips. -/
def peer (p j : Fin 3) (c : Dev nD) : Dev nD := pr (p + j) c
def ky (p j : Fin 3) (c : Dev nD) : ℕ := kb (p + j) c

theorem peer_peer (p j : Fin 3) (c : Dev nD) : peer p j (peer p j c) = c := pr_pr _ _
theorem ky_lt (p j : Fin 3) (c : Dev nD) : ky p j c < 2 := kb_lt _ _
theorem ky_peer : ∀ (p j j' : Fin 3) (c : Dev nD), ky p j (peer p j' c) = if j = j' then 1 - ky p j c else ky p j c := by decide

/-- Row `o` of the sub-block (or slot) of part `p` whose bits are `a, b, d`. -/
def rw3 (p : Fin 3) (a b d o : ℕ) : ℕ := base p + (4 * a + 2 * b + d) * sub p + o

/-- The row of the result that device `c` keeps at row `R` of its partial sums, part `p`. -/
def rowOf (p : Fin 3) (c : Dev nD) (R : ℕ) : ℕ :=
  rw3 p (((R - base p) / sub p / 4 + ky p 0 c) % 2) (((R - base p) / sub p / 2 % 2 + ky p 1 c) % 2)
    (((R - base p) / sub p % 2 + ky p 2 c) % 2) ((R - base p) % sub p)

/-- Every row of part `p` is a row of one of its sub-blocks. -/
theorem exists_rw3 (p : Fin 3) (R : ℕ) (h₁ : base p ≤ R) (h₂ : R < base p + 8 * sub p) :
    ∃ a b d o, a < 2 ∧ b < 2 ∧ d < 2 ∧ o < sub p ∧ R = rw3 p a b d o := by
  refine ⟨(R - base p) / sub p / 4, (R - base p) / sub p / 2 % 2, (R - base p) / sub p % 2, (R - base p) % sub p, ?_, ?_, ?_, Nat.mod_lt _ (sub_pos p), ?_⟩
  · rcases sub_cases p with h | h <;> rw [h] at h₂ ⊢ <;> omega
  · omega
  · omega
  · unfold rw3; rcases sub_cases p with h | h <;> rw [h] at h₂ ⊢ <;> omega

theorem rw3_lo (p : Fin 3) (a b d o : ℕ) : base p ≤ rw3 p a b d o := by unfold rw3; omega

theorem rw3_hi (p : Fin 3) (a b d o : ℕ) (ha : a < 2) (hb : b < 2) (hd : d < 2) (ho : o < sub p) :
    rw3 p a b d o < base p + 8 * sub p := by
  unfold rw3; rcases sub_cases p with h | h <;> rw [h] at ho ⊢ <;> omega

/-- The bits and the offset read back. -/
theorem rw3_sub (p : Fin 3) (a b d o : ℕ) (ho : o < sub p) :
    (rw3 p a b d o - base p) / sub p = 4 * a + 2 * b + d ∧ (rw3 p a b d o - base p) % sub p = o := by
  have h : rw3 p a b d o - base p = o + sub p * (4 * a + 2 * b + d) := by unfold rw3; rw [Nat.mul_comm]; omega
  rw [h, Nat.add_mul_div_left _ _ (sub_pos p), Nat.div_eq_of_lt ho, Nat.add_mul_mod_self_left, Nat.mod_eq_of_lt ho]
  exact ⟨Nat.zero_add _, rfl⟩

theorem rowOf_rw3 (p : Fin 3) (c : Dev nD) (a b d o : ℕ) (ha : a < 2) (hb : b < 2) (hd : d < 2) (ho : o < sub p) :
    rowOf p c (rw3 p a b d o) = rw3 p ((a + ky p 0 c) % 2) ((b + ky p 1 c) % 2) ((d + ky p 2 c) % 2) o := by
  unfold rowOf
  rw [(rw3_sub p a b d o ho).1, (rw3_sub p a b d o ho).2]
  have h1 : (4 * a + 2 * b + d) / 4 = a := by omega
  have h2 : (4 * a + 2 * b + d) / 2 % 2 = b := by omega
  have h3 : (4 * a + 2 * b + d) % 2 = d := by omega
  rw [h1, h2, h3]

/-- The device whose exchanged sums row `r` of part `p` is copied from at device `c`: the keys of the row's first two
    bits, and `c`'s own third key. -/
def ownB (p : Fin 3) (a b : ℕ) (c : Dev nD) : Dev nD :=
  if ky p 0 c = a then (if ky p 1 c = b then c else peer p 1 c) else (if ky p 1 c = b then peer p 0 c else peer p 0 (peer p 1 c))
def own (p : Fin 3) (c : Dev nD) (r : ℕ) : Dev nD := ownB p ((r - base p) / sub p / 4) ((r - base p) / sub p / 2 % 2) c

theorem ownB_peer0 : ∀ (p : Fin 3) (a b : Fin 2) (c : Dev nD), ownB p a b (peer p 0 c) = ownB p a b c := by decide
theorem ownB_peer1 : ∀ (p : Fin 3) (a b : Fin 2) (c : Dev nD), ownB p a b (peer p 1 c) = ownB p a b c := by decide
theorem ownB_self (p : Fin 3) (c : Dev nD) : ownB p (ky p 0 c) (ky p 1 c) c = c := by unfold ownB; rw [if_pos rfl, if_pos rfl]

theorem own_rw3 (p : Fin 3) (c : Dev nD) (a b d o : ℕ) (hb : b < 2) (hd : d < 2) (ho : o < sub p) :
    own p c (rw3 p a b d o) = ownB p a b c := by
  unfold own
  rw [(rw3_sub p a b d o ho).1]
  have h1 : (4 * a + 2 * b + d) / 4 = a := by omega
  have h2 : (4 * a + 2 * b + d) / 2 % 2 = b := by omega
  rw [h1, h2]

end Cert.Geom
-- ==== Proof.Regions.lean ====
/-
# Bands of rows of a two-dimensional buffer

`rd v t lo n q g` is the ownership, at share `q`, of rows `lo ≤ r < lo + n` of the two-dimensional buffer under the view `v` on
thread `t`, the element at row `r`, column `k` being `g r k`. The lemmas split and join bands by rows and by shares, make one
from a buffer owned whole, and give the load and the store of a block of full rows and the elements a transfer between two
bands leaves behind.
-/
module

public import proofs.«01_k».proof.Proof.Geom
public import proofs.«01_k».proof.Proof.Gen.KernelIdeal.Launch
public import Idealize.ShloMosaic.Lib.Pipeline.Launch
public import Idealize.ShloMosaic.Lib.Pipeline.Kit
public import Idealize.ShloMosaic.Lib.Pointwise.Index
public import Idealize.ShloMosaic.Lib.Tactic

@[expose] public section

noncomputable section

namespace Cert.Regions

open Cert.KernelIdeal Cert.KernelIdeal.Gen Cert.Geom

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch library's copy of the rounds and this kernel's own, whose duties are named 0, 1, 2 -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Bands -/

/-- The indices of rows `lo ≤ r < lo + n`. -/
def rws {R C : ℕ} (lo n : ℕ) : Finset (⟨2, ![R, C]⟩ : Shape).Idx :=
  Finset.univ.filter fun i => lo ≤ (i 0).val ∧ (i 0).val < lo + n

theorem mem_rws {R C lo n : ℕ} {i : (⟨2, ![R, C]⟩ : Shape).Idx} : i ∈ rws lo n ↔ lo ≤ (i 0).val ∧ (i 0).val < lo + n := by
  unfold rws; rw [Finset.mem_filter]; exact ⟨fun h => h.2, fun h => ⟨Finset.mem_univ _, h⟩⟩

theorem rws_add {R C : ℕ} (lo a b : ℕ) : (rws lo (a + b) : Finset (⟨2, ![R, C]⟩ : Shape).Idx) = rws lo a ∪ rws (lo + a) b := by
  ext i; rw [Finset.mem_union, mem_rws, mem_rws, mem_rws]; omega

theorem rws_disjoint {R C : ℕ} (lo a b : ℕ) : Disjoint (rws lo a : Finset (⟨2, ![R, C]⟩ : Shape).Idx) (rws (lo + a) b) := by
  rw [Finset.disjoint_left]; intro i h h'; rw [mem_rws] at h h'; omega

/-- The rows of a block of full rows. -/
theorem rect_rws {R C h : ℕ} (a : ℕ) (inb : ∀ x, (![a, 0] : Fin 2 → ℕ) x + (⟨2, ![h, C]⟩ : Shape).size x ≤ (⟨2, ![R, C]⟩ : Shape).size x) :
    (Rect.unit (s := ⟨2, ![R, C]⟩) ![a, 0] (⟨2, ![h, C]⟩ : Shape).size inb).set = rws a h := by
  ext i
  rw [Rect.mem_set_unit, mem_rws]
  constructor
  · intro hh; exact hh 0
  · intro hh x
    fin_cases x
    · exact hh
    · exact ⟨Nat.zero_le _, by show (i 1).val < 0 + C; have := (i 1).isLt; rw [Nat.zero_add]; exact this⟩

section Band

variable {R C : ℕ} {e : EltTy} (v : View sig .tc .vmem ⟨2, ![R, C]⟩ e) (t : Thread nD τ)

/-- Rows `lo ≤ r < lo + n` of the buffer under `v`, element `(r, k)` being `g r k`. -/
def rd (v : View sig .tc .vmem ⟨2, ![R, C]⟩ e) (c : Dev nD) (lo n : ℕ) (q : PosShare TreeShare) (g : ℕ → ℕ → Elt F e) : sProp 𝕄 :=
  iprop(∃ f : Buf (Elt F) (v.loc (c : Thread nD τ)), ⌜∀ i ∈ (rws lo n : Finset (⟨2, ![R, C]⟩ : Shape).Idx), v.read (Elt F) f i = g (i 0).val (i 1).val⌝
    ∗ (v.loc (c : Thread nD τ) ↦[v.setOn (rws lo n)]{q} f))

variable (c : Dev nD)

omit [FloatOps F] in
instance rd_storable (lo n : ℕ) (q) (g : ℕ → ℕ → Elt F e) : BI.Storable (upEmb : UEmb _ 𝕄) (rd v c lo n q g) := by
  unfold rd; infer_instance

omit [FloatOps F] in
/-- The contents matter on the band's rows alone. -/
theorem rd_congr (lo n : ℕ) (q) {g g' : ℕ → ℕ → Elt F e} (h : ∀ r k, lo ≤ r → r < lo + n → k < C → g r k = g' r k) :
    (rd v c lo n q g : sProp 𝕄) ⊢ rd v c lo n q g' := by
  unfold rd
  iintro ⟨%f, %hf, H⟩
  iexists f
  isplitr
  · ipureintro; intro i hi; rw [hf i hi]; exact h _ _ (mem_rws.mp hi).1 (mem_rws.mp hi).2 (i 1).isLt
  · iexact H

omit [FloatOps F] in
theorem setOn_disjoint {I J : Finset (⟨2, ![R, C]⟩ : Shape).Idx} (h : Disjoint I J) : Disjoint (v.setOn I) (v.setOn J) := by
  unfold View.setOn; exact (Finset.disjoint_map v.emb).mpr h

omit [FloatOps F] in
/-- A band split at a row. -/
theorem rd_split (lo a b : ℕ) (q) (g : ℕ → ℕ → Elt F e) :
    (rd v c lo (a + b) q g : sProp 𝕄) ⊢ iprop(rd v c lo a q g ∗ rd v c (lo + a) b q g) := by
  unfold rd
  iintro ⟨%f, %hf, H⟩
  have hs : v.setOn (rws lo (a + b)) = v.setOn (rws lo a) ∪ v.setOn (rws (lo + a) b) := by
    unfold View.setOn; rw [rws_add, Finset.map_union]
  rw [hs]
  ihave H2 := (pointsTo_union (setOn_disjoint v (rws_disjoint lo a b))).1 $$ H
  icases H2 with ⟨H1, H2⟩
  isplitl [H1]
  · iexists f; isplitr
    · ipureintro; intro i hi; exact hf i (by rw [rws_add]; exact Finset.mem_union_left _ hi)
    · iexact H1
  · iexists f; isplitr
    · ipureintro; intro i hi; exact hf i (by rw [rws_add]; exact Finset.mem_union_right _ hi)
    · iexact H2

omit [FloatOps F] in
/-- Two adjacent bands joined. -/
theorem rd_join (lo a b : ℕ) (q) (g : ℕ → ℕ → Elt F e) :
    iprop(rd v c lo a q g ∗ rd v c (lo + a) b q g) ⊢ (rd v c lo (a + b) q g : sProp 𝕄) := by
  unfold rd
  iintro ⟨⟨%f, %hf, H⟩, ⟨%f', %hf', H'⟩⟩
  have hs : v.setOn (rws lo (a + b)) = v.setOn (rws lo a) ∪ v.setOn (rws (lo + a) b) := by
    unfold View.setOn; rw [rws_add, Finset.map_union]
  rw [hs]
  ihave H2 := (pointsTo_join (ℓ := v.loc (c : Thread nD τ)) (setOn_disjoint v (rws_disjoint lo a b))) $$ [H H']
  · isplitl [H] <;> iassumption
  iexists ((v.setOn (rws (lo + a) b)).piecewise f' f)
  isplitr
  · ipureintro
    intro i hi
    rw [rws_add, Finset.mem_union] at hi
    by_cases h2 : i ∈ (rws (lo + a) b : Finset (⟨2, ![R, C]⟩ : Shape).Idx)
    · rw [← hf' i h2]
      refine View.read_congr_at i ?_
      rw [Finset.piecewise_eq_of_mem _ _ _ (v.mem_setOn.mpr h2)]
    · rw [← hf i (hi.resolve_right h2)]
      refine View.read_congr_at i ?_
      rw [Finset.piecewise_eq_of_notMem _ _ _ (fun hm => h2 (v.mem_setOn.mp hm))]
  · iexact H2

omit [FloatOps F] in
/-- A band at the full share in two halves. -/
theorem rd_halve (lo n : ℕ) (g : ℕ → ℕ → Elt F e) :
    (rd v c lo n fullShare g : sProp 𝕄) ⊢ iprop(rd v c lo n fullShare.left g ∗ rd v c lo n fullShare.right g) := by
  unfold rd
  iintro ⟨%f, %hf, H⟩
  ihave H2 := (pointsTo_share (PosShare.mem_left_op_right fullShare)).1 $$ H
  icases H2 with ⟨H1, H2⟩
  isplitl [H1]
  · iexists f; isplitr
    · ipureintro; exact hf
    · iexact H1
  · iexists f; isplitr
    · ipureintro; exact hf
    · iexact H2

omit [FloatOps F] in
/-- Two halves of a band with one contents make the full share. -/
theorem rd_unhalve (lo n : ℕ) (g : ℕ → ℕ → Elt F e) :
    iprop(rd v c lo n fullShare.left g ∗ rd v c lo n fullShare.right g) ⊢ (rd v c lo n fullShare g : sProp 𝕄) := by
  unfold rd
  iintro ⟨⟨%f, %hf, H⟩, ⟨%f', %hf', H'⟩⟩
  have hc : ∀ i ∈ v.setOn (rws lo n), f' i = f i := by
    intro i hi
    obtain ⟨x, hx, rfl⟩ := Finset.mem_map.mp hi
    have h1 := (hf' x hx).trans (hf x hx).symm
    rw [View.read_apply, View.read_apply] at h1
    exact (cast_inj _).mp h1
  ihave H' := (Entails.of_eq (pointsTo_congr (ℓ := v.loc (c : Thread nD τ)) (q := fullShare.right) hc)) $$ H'
  iexists f
  isplitr
  · ipureintro; exact hf
  · iapply (pointsTo_share (ℓ := v.loc (c : Thread nD τ)) (PosShare.mem_left_op_right fullShare)).2
    isplitl [H] <;> iassumption

omit [FloatOps F] in
/-- Bands of the same contents, split and joined at stated rows. -/
theorem rd_cut {lo n lo₁ n₁ lo₂ n₂ : ℕ} (q) (g : ℕ → ℕ → Elt F e) (h₁ : lo₁ = lo) (h₂ : lo₂ = lo + n₁) (h : n = n₁ + n₂) :
    (rd v c lo n q g : sProp 𝕄) ⊢ iprop(rd v c lo₁ n₁ q g ∗ rd v c lo₂ n₂ q g) := by
  subst h₁; subst h₂; subst h; exact rd_split v c _ _ _ q g

omit [FloatOps F] in
theorem rd_glue {lo n lo₁ n₁ lo₂ n₂ : ℕ} (q) (g : ℕ → ℕ → Elt F e) (h₁ : lo₁ = lo) (h₂ : lo₂ = lo + n₁) (h : n = n₁ + n₂) :
    iprop(rd v c lo₁ n₁ q g ∗ rd v c lo₂ n₂ q g) ⊢ (rd v c lo n q g : sProp 𝕄) := by
  subst h₁; subst h₂; subst h; exact rd_join v c _ _ _ q g

omit [FloatOps F] in
/-- Two bands of one height that lie on each other in either order: `b` says which comes first. -/
theorem rd_cut2 {lo n h lo₁ lo₂ b : ℕ} (q) (g : ℕ → ℕ → Elt F e) (hb : b < 2) (h₁ : lo₁ = lo + b * h) (h₂ : lo₂ = lo + (1 - b) * h) (hn : n = h + h) :
    (rd v c lo n q g : sProp 𝕄) ⊢ iprop(rd v c lo₁ h q g ∗ rd v c lo₂ h q g) := by
  rcases (by omega : b = 0 ∨ b = 1) with rfl | rfl
  · exact rd_cut v c q g (by omega) (by omega) hn
  · exact (rd_cut v c (lo₁ := lo₂) (lo₂ := lo₁) (n₁ := h) (n₂ := h) q g (by omega) (by omega) hn).trans sep_comm.1

omit [FloatOps F] in
theorem rd_glue2 {lo n h lo₁ lo₂ b : ℕ} (q) (g : ℕ → ℕ → Elt F e) (hb : b < 2) (h₁ : lo₁ = lo + b * h) (h₂ : lo₂ = lo + (1 - b) * h) (hn : n = h + h) :
    iprop(rd v c lo₁ h q g ∗ rd v c lo₂ h q g) ⊢ (rd v c lo n q g : sProp 𝕄) := by
  rcases (by omega : b = 0 ∨ b = 1) with rfl | rfl
  · exact rd_glue v c q g (by omega) (by omega) hn
  · exact sep_comm.1.trans (rd_glue v c (lo₁ := lo₂) (lo₂ := lo₁) (n₁ := h) (n₂ := h) q g (by omega) (by omega) hn)

omit [FloatOps F] in
theorem rws_all : (rws 0 R : Finset (⟨2, ![R, C]⟩ : Shape).Idx) = Finset.univ := by
  ext i; rw [mem_rws]; have h : (i 0).val < R := (i 0).isLt
  exact ⟨fun _ => Finset.mem_univ _, fun _ => ⟨Nat.zero_le _, by omega⟩⟩

/-- A contents as a function of row and column numbers. -/
def nat2 (w : (⟨2, ![R, C]⟩ : Shape).Idx → Elt F e) (hR : 0 < R) (hC : 0 < C) (r k : ℕ) : Elt F e :=
  w (ix2 ⟨r % R, Nat.mod_lt _ hR⟩ ⟨k % C, Nat.mod_lt _ hC⟩)

omit [FloatOps F] in
theorem nat2_val (w : (⟨2, ![R, C]⟩ : Shape).Idx → Elt F e) (hR : 0 < R) (hC : 0 < C) (i : (⟨2, ![R, C]⟩ : Shape).Idx) :
    nat2 w hR hC (i 0).val (i 1).val = w i := by
  unfold nat2
  conv_rhs => rw [eq_ix2 i]
  congr 2
  · exact Fin.ext (Nat.mod_eq_of_lt (i 0).isLt)
  · exact Fin.ext (Nat.mod_eq_of_lt (i 1).isLt)

omit [FloatOps F] in
/-- The whole view as one band. -/
theorem rd_intro (q) (f : Buf (Elt F) (v.loc (c : Thread nD τ))) (hR : 0 < R) (hC : 0 < C) :
    (v.loc (c : Thread nD τ) ↦[v.setOn Finset.univ]{q} f : sProp 𝕄) ⊢ rd v c 0 R q (nat2 (v.read (Elt F) f) hR hC) := by
  unfold rd
  iintro H
  iexists f
  isplitr
  · ipureintro; intro i _; exact (nat2_val _ hR hC i).symm
  · rw [rws_all]; iexact H

omit [FloatOps F] in
theorem rd_elim (q) (g : ℕ → ℕ → Elt F e) :
    (rd v c 0 R q g : sProp 𝕄) ⊢ iprop(∃ f, ⌜∀ i, v.read (Elt F) f i = g (i 0).val (i 1).val⌝ ∗ (v.loc (c : Thread nD τ) ↦[v.setOn Finset.univ]{q} f)) := by
  unfold rd
  iintro ⟨%f, %hf, H⟩
  iexists f
  isplitr
  · ipureintro; intro i; exact hf i (by rw [rws_all]; exact Finset.mem_univ _)
  · rw [rws_all]; iexact H

end Band

/-! ## The operations -/

/-- The weakest precondition of a program of device `c`'s TensorCore in this kernel. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Rows `a ≤ r < a + h` of a contents, as a block. -/
def blk {h C : ℕ} {e : EltTy} (g : ℕ → ℕ → Elt F e) (a : ℕ) : (⟨2, ![h, C]⟩ : Shape).Idx → Elt F e :=
  fun i => g (a + (i 0).val) (i 1).val

theorem emb_unit_val {R C h : ℕ} (a : ℕ) (inb : ∀ x, (![a, 0] : Fin 2 → ℕ) x + (⟨2, ![h, C]⟩ : Shape).size x ≤ (⟨2, ![R, C]⟩ : Shape).size x)
    (i : (⟨2, ![h, C]⟩ : Shape).Idx) :
    (((Rect.unit (s := ⟨2, ![R, C]⟩) ![a, 0] (⟨2, ![h, C]⟩ : Shape).size inb).emb i) 0).val = a + (i 0).val
      ∧ (((Rect.unit (s := ⟨2, ![R, C]⟩) ![a, 0] (⟨2, ![h, C]⟩ : Shape).size inb).emb i) 1).val = (i 1).val := by
  constructor
  · show a + 1 * (i 0).val = _; omega
  · show 0 + 1 * (i 1).val = _; omega

section Ops

variable {R C h : ℕ} {e : EltTy} (M : Memref sig .tc .vmem ⟨2, ![R, C]⟩ e) (c : Dev nD)
variable {off : Fin 2 → ℕ} {inb : ∀ x, off x + (⟨2, ![h, C]⟩ : Shape).size x ≤ (⟨2, ![R, C]⟩ : Shape).size x}
variable {α : Type} {Q : α → sProp (MT nD τ sig Unit (Elt F) ℕ UU ℕ)}

/-- A load of full rows out of a band reads the block of its contents. -/
theorem wp_load_rd (a : ℕ) (hoff : off = ![a, 0]) {lo n : ℕ} (h₁ : lo ≤ a) (h₂ : a + h ≤ lo + n) {q} {g : ℕ → ℕ → Elt F e}
    {hl : M.view.LoadsAt (Rect.unit (s := ⟨2, ![R, C]⟩) off (⟨2, ![h, C]⟩ : Shape).size inb).toLoadRect}
    {k : ((⟨2, ![h, C]⟩ : Shape).Idx → Elt F e) → Prog (TpuEff nD τ sig (Elt F) Λ₀ .tc) α} :
    (rd M.view c lo n q g : sProp 𝕄) ⊢ iprop((rd M.view c lo n q g -∗ WP c (k (blk g a)) Q)
      -∗ WP c (.op (.load M (Rect.unit (s := ⟨2, ![R, C]⟩) off (⟨2, ![h, C]⟩ : Shape).size inb).toLoadRect hl) k) Q) := by
  subst hoff
  have hset : (Rect.unit (s := ⟨2, ![R, C]⟩) ![a, 0] (⟨2, ![h, C]⟩ : Shape).size inb).set ⊆ rws lo n := by
    rw [rect_rws]; intro i hi; rw [mem_rws] at hi ⊢; omega
  unfold rd
  iintro ⟨%f, %hf, H⟩ Hk
  have hv : (M.access (Rect.unit (s := ⟨2, ![R, C]⟩) ![a, 0] (⟨2, ![h, C]⟩ : Shape).size inb)).read (Elt F) f = blk g a := by
    funext i
    have hm : (Rect.unit (s := ⟨2, ![R, C]⟩) ![a, 0] (⟨2, ![h, C]⟩ : Shape).size inb).emb i ∈ (rws lo n : Finset (⟨2, ![R, C]⟩ : Shape).Idx) :=
      hset (by rw [← Rect.map_emb_univ]; exact Finset.mem_map_of_mem _ (Finset.mem_univ i))
    have := hf _ hm
    rw [(emb_unit_val a inb i).1, (emb_unit_val a inb i).2] at this
    exact this
  iapply (wp_load_rect 𝒱₀ (c : Thread nD τ) none Set.univ (m := M) (r := Rect.unit (s := ⟨2, ![R, C]⟩) ![a, 0] (⟨2, ![h, C]⟩ : Shape).size inb) (S := M.view.setOn (rws lo n)) (q := q) (f := f) (by
    rw [View.set_slice]; exact Finset.map_subset_map.mpr hset)) $$ H
  iintro H
  rw [hv]
  iapply Hk
  iexists f
  isplitr
  · ipureintro; exact hf
  · iexact H

/-- A store of full rows into a band: the new contents agrees with the stored block on those rows and with the old off them. -/
theorem wp_store_rd (a : ℕ) (hoff : off = ![a, 0]) {lo n : ℕ} (h₁ : lo ≤ a) (h₂ : a + h ≤ lo + n) {g : ℕ → ℕ → Elt F e} (g' : ℕ → ℕ → Elt F e)
    {w : (⟨2, ![h, C]⟩ : Shape).Idx → Elt F e}
    {hx : (M.access (Rect.unit (s := ⟨2, ![R, C]⟩) off (⟨2, ![h, C]⟩ : Shape).size inb)).Stores Finset.univ}
    {hm : Finset.univ = Finset.univ ∨ ∀ x, (Rect.unit (s := ⟨2, ![R, C]⟩) off (⟨2, ![h, C]⟩ : Shape).size inb).stride x = 1}
    (hw : w = blk g' a) (hg : ∀ r k, lo ≤ r → r < lo + n → k < C → ¬ (a ≤ r ∧ r < a + h) → g' r k = g r k)
    {k : PUnit → Prog (TpuEff nD τ sig (Elt F) Λ₀ .tc) α} :
    (rd M.view c lo n fullShare g : sProp 𝕄) ⊢ iprop((rd M.view c lo n fullShare g' -∗ WP c (k ⟨⟩) Q)
      -∗ WP c (.op (.store M (Rect.unit (s := ⟨2, ![R, C]⟩) off (⟨2, ![h, C]⟩ : Shape).size inb) w Finset.univ hx hm) k) Q) := by
  subst hoff; subst hw
  have hset : (Rect.unit (s := ⟨2, ![R, C]⟩) ![a, 0] (⟨2, ![h, C]⟩ : Shape).size inb).set ⊆ rws lo n := by
    rw [rect_rws]; intro i hi; rw [mem_rws] at hi ⊢; omega
  unfold rd
  iintro ⟨%f, %hf, H⟩ Hk
  iapply (wp_store 𝒱₀ (c : Thread nD τ) none Set.univ (m := M) (r := Rect.unit (s := ⟨2, ![R, C]⟩) ![a, 0] (⟨2, ![h, C]⟩ : Shape).size inb) (S := M.view.setOn (rws lo n)) (f := f) (by
    show (M.view.slice _).set ⊆ _
    rw [View.set_slice]; exact Finset.map_subset_map.mpr hset)) $$ H
  iintro H
  iapply Hk
  iexists _
  isplitr
  rotate_left
  · iexact H
  · ipureintro
    intro i hi
    by_cases hr : i ∈ (rws a h : Finset (⟨2, ![R, C]⟩ : Shape).Idx)
    · rw [← rect_rws a inb, ← Rect.map_emb_univ] at hr
      obtain ⟨x, -, rfl⟩ := Finset.mem_map.mp hr
      rw [View.read_slice_write_emb _ _ _ (Finset.mem_univ x), (emb_unit_val a inb x).1, (emb_unit_val a inb x).2]
      rfl
    · rw [View.read_slice_write_of_not_mem, hf i hi]
      · exact (hg _ _ (mem_rws.mp hi).1 (mem_rws.mp hi).2 (i 1).isLt (fun hh => hr (mem_rws.mpr hh))).symm
      · intro hm; exact hr (by rw [← rect_rws a inb, ← Rect.map_emb_univ]; exact hm)

end Ops

end Cert.Regions
-- ==== Proof.Contents.lean ====
/-
# What the buffers hold

The inputs of the eight devices are gathered in one record `Inp`. `A0` is a device's own partial result: for each row the sum
over its four experts of the masked token times the expert's weights, rounded, as the kernel's payloads compute it in blocks
of 384 or 320 rows. `A1`, `A2`, `A3` add the partner's in the three steps of a part. `P0`, `P1`, `P2` are the same sums at the
rows of the buffer of partial sums, `SG` what a device's landing buffer receives, and `OUT` the result.
-/
module

public import proofs.«01_k».proof.Proof.Geom
public import proofs.«01_k».proof.Proof.Regions
public import proofs.«01_k».proof.Proof.Gen.KernelIdeal.Skeleton

@[expose] public section

noncomputable section

namespace Cert.Contents

open Cert.KernelIdeal Cert.KernelIdeal.Gen Cert.Geom Cert.Regions
open Idealize.ShloMosaic

variable {F : FTy → Type} [FloatOps F]

/-- The three arrays the kernel reads, device by device: tokens, routes, the device's four experts. -/
structure Inp (F : FTy → Type) where
  x : Dev nD → S2048x512.Idx → Elt F .bf16
  r : Dev nD → S2048x1.Idx → Elt F .i32
  e : Dev nD → S4x512x1024.Idx → Elt F .bf16

variable (I : Inp F)

/-- The device's number as the kernel computes it. -/
def wd (c : Dev nD) : BitVec 32 := Scalar.remsi (Scalar.divsi (Dev.word c) 1#32) 8#32

def xN (c : Dev nD) : ℕ → ℕ → Elt F .bf16 := nat2 (I.x c) (by decide) (by decide)
def rN (c : Dev nD) : ℕ → ℕ → Elt F .i32 := nat2 (I.r c) (by decide) (by decide)

/-- Expert `e` of device `c`, tokens and routes of the block of rows from `a` on. -/
def ex (c : Dev nD) (e : Fin 4) : Vec F S1x512x1024 .bf16 :=
  fun i => I.e c (ix3 (n0 := 4) (n1 := 512) (n2 := 1024) e (i 1) (i 2))
def xs (h : ℕ) (c : Dev nD) (a : ℕ) : (⟨2, ![h, 512]⟩ : Shape).Idx → Elt F .bf16 := blk (xN I c) a
def rs (h : ℕ) (c : Dev nD) (a : ℕ) : (⟨2, ![h, 1]⟩ : Shape).Idx → Elt F .i32 := blk (rN I c) a

/-- The partial result of device `c` on the 384 (320) rows from `a` on. -/
def acc384 (c : Dev nD) (a : ℕ) : FVec F S384x1024 .bf16 :=
  k0_pay9 (wd c) (k0_pay2 (ex I c 1)) (k0_pay3 (ex I c 2)) (k0_pay4 (ex I c 3)) (k0_pay5 (xs I 384 c a)) (k0_pay6 (rs I 384 c a))
    (k0_pay7 (wd c) (ex I c 0) (xs I 384 c a) (rs I 384 c a)) (k0_pay8 (wd c) (xs I 384 c a) (rs I 384 c a))
def acc320 (c : Dev nD) (a : ℕ) : FVec F S320x1024 .bf16 :=
  k0_pay18 (wd c) (k0_pay3 (ex I c 2)) (k0_pay4 (ex I c 3)) (k0_pay14 (xs I 320 c a)) (k0_pay15 (rs I 320 c a))
    (k0_pay16 (wd c) (k0_pay1 (ex I c 0)) (k0_pay2 (ex I c 1)) (xs I 320 c a) (rs I 320 c a)) (k0_pay17 (wd c) (rs I 320 c a))

/-- Device `c`'s own partial result at row `r` of part `p`. -/
def A0 (p : Fin 3) (c : Dev nD) (r k : ℕ) : Elt F .bf16 :=
  if p = 0 then nat2 (acc384 I c (r - r % 384)) (by decide) (by decide) (r % 384) k
  else nat2 (acc320 I c (r - (r - base p) % 320)) (by decide) (by decide) ((r - base p) % 320) k

/-- The sums after the three exchanges of part `p`. -/
def A1 (p : Fin 3) (c : Dev nD) (r k : ℕ) : Elt F .bf16 := FloatOps.addf (φ := .bf16) (A0 I p c r k) (A0 I p (peer p 0 c) r k)
def A2 (p : Fin 3) (c : Dev nD) (r k : ℕ) : Elt F .bf16 := FloatOps.addf (φ := .bf16) (A1 I p c r k) (A1 I p (peer p 1 c) r k)
def A3 (p : Fin 3) (c : Dev nD) (r k : ℕ) : Elt F .bf16 := FloatOps.addf (φ := .bf16) (A2 I p c r k) (A2 I p (peer p 2 c) r k)

/-- The same at the rows of the buffer of partial sums. -/
def P0 (p : Fin 3) (c : Dev nD) (R k : ℕ) : Elt F .bf16 := A0 I p c (rowOf p c R) k
def P1 (p : Fin 3) (c : Dev nD) (R k : ℕ) : Elt F .bf16 := A1 I p c (rowOf p c R) k
def P2 (p : Fin 3) (c : Dev nD) (R k : ℕ) : Elt F .bf16 := A2 I p c (rowOf p c R) k

/-- What lands in device `c`'s buffer of part `p`: in rows 0 to 4·sub the partner's own sums, then the second partner's
    after one exchange, then the third's after two. -/
def SG (p : Fin 3) (c : Dev nD) (r k : ℕ) : Elt F .bf16 :=
  if r < 4 * sub p then A0 I p (peer p 0 c) (rowOf p c (base p + r)) k
  else if r < 6 * sub p then A1 I p (peer p 1 c) (rowOf p c (base p + (r - 4 * sub p))) k
  else A2 I p (peer p 2 c) (rowOf p c (base p + (r - 6 * sub p))) k

/-- The result at row `r` of part `p` on device `c`: the sum completed by the device the row comes from. -/
def OUT (p : Fin 3) (c : Dev nD) (r k : ℕ) : Elt F .bf16 := A3 I p (own p c r) r k

/-! ## The partners' rows -/

/-- Rows sent in the first exchange: the sender's upper half lies on the receiver's lower half. -/
theorem land0 (p : Fin 3) (c : Dev nD) (o k : ℕ) (ho : o < 4 * sub p) :
    SG I p (peer p 0 c) o k = P0 I p c (base p + 4 * sub p + o) k := by
  have hs := sub_cases p
  unfold SG P0
  rw [if_pos ho, peer_peer]
  obtain ⟨a, b, d, o', ha, hb, hd, ho', h⟩ := exists_rw3 p (base p + o) (by omega) (by omega)
  have ha0 : a = 0 := by unfold rw3 at h; rcases hs with hs | hs <;> rw [hs] at h ho ho' <;> omega
  subst ha0
  have h2 : base p + 4 * sub p + o = rw3 p 1 b d o' := by
    unfold rw3 at h ⊢; rcases hs with hs | hs <;> rw [hs] at h ⊢ <;> omega
  rw [h, h2, rowOf_rw3 p _ _ _ _ _ (by omega) hb hd ho', rowOf_rw3 p _ _ _ _ _ (by omega) hb hd ho']
  rw [ky_peer, ky_peer, ky_peer, if_pos rfl, if_neg (by decide), if_neg (by decide)]
  have := ky_lt p 0 c
  rw [show (0 + (1 - ky p 0 c)) % 2 = (1 + ky p 0 c) % 2 by omega]

/-- Rows sent in the second. -/
theorem land1 (p : Fin 3) (c : Dev nD) (o k : ℕ) (ho : o < 2 * sub p) :
    SG I p (peer p 1 c) (4 * sub p + o) k = P1 I p c (base p + 2 * sub p + o) k := by
  have hs := sub_cases p
  unfold SG P1
  rw [if_neg (by omega), if_pos (by omega), peer_peer, Nat.add_sub_cancel_left]
  obtain ⟨a, b, d, o', ha, hb, hd, ho', h⟩ := exists_rw3 p (base p + o) (by omega) (by omega)
  have ha0 : a = 0 := by unfold rw3 at h; rcases hs with hs | hs <;> rw [hs] at h ho ho' <;> omega
  have hb0 : b = 0 := by unfold rw3 at h; rcases hs with hs | hs <;> rw [hs] at h ho ho' <;> omega
  subst ha0; subst hb0
  have h2 : base p + 2 * sub p + o = rw3 p 0 1 d o' := by
    unfold rw3 at h ⊢; rcases hs with hs | hs <;> rw [hs] at h ⊢ <;> omega
  rw [h, h2, rowOf_rw3 p _ _ _ _ _ (by omega) (by omega) hd ho', rowOf_rw3 p _ _ _ _ _ (by omega) (by omega) hd ho']
  rw [ky_peer, ky_peer, ky_peer, if_pos rfl, if_neg (by decide), if_neg (by decide)]
  have := ky_lt p 1 c
  rw [show (0 + (1 - ky p 1 c)) % 2 = (1 + ky p 1 c) % 2 by omega]

/-- Rows sent in the two halves of the third. -/
theorem land2 (p : Fin 3) (c : Dev nD) (o k : ℕ) (ho : o < sub p) :
    SG I p (peer p 2 c) (6 * sub p + o) k = P2 I p c (base p + sub p + o) k := by
  have hs := sub_cases p
  unfold SG P2
  rw [if_neg (by omega), if_neg (by omega), peer_peer, Nat.add_sub_cancel_left]
  have h : base p + o = rw3 p 0 0 0 o := by unfold rw3; omega
  have h2 : base p + sub p + o = rw3 p 0 0 1 o := by unfold rw3; omega
  rw [h, h2, rowOf_rw3 p _ _ _ _ _ (by omega) (by omega) (by omega) ho, rowOf_rw3 p _ _ _ _ _ (by omega) (by omega) (by omega) ho]
  rw [ky_peer, ky_peer, ky_peer, if_pos rfl, if_neg (by decide), if_neg (by decide)]
  have := ky_lt p 2 c
  rw [show (0 + (1 - ky p 2 c)) % 2 = (1 + ky p 2 c) % 2 by omega]

theorem land3 (p : Fin 3) (c : Dev nD) (o k : ℕ) (ho : o < sub p) :
    SG I p (peer p 2 c) (7 * sub p + o) k = P2 I p c (base p + o) k := by
  have hs := sub_cases p
  unfold SG P2
  rw [if_neg (by omega), if_neg (by omega), peer_peer]
  have h : base p + o = rw3 p 0 0 0 o := by unfold rw3; omega
  have h2 : base p + (7 * sub p + o - 6 * sub p) = rw3 p 0 0 1 o := by unfold rw3; omega
  rw [h, h2, rowOf_rw3 p _ _ _ _ _ (by omega) (by omega) (by omega) ho, rowOf_rw3 p _ _ _ _ _ (by omega) (by omega) (by omega) ho]
  rw [ky_peer, ky_peer, ky_peer, if_pos rfl, if_neg (by decide), if_neg (by decide)]
  have := ky_lt p 2 c
  rw [show (1 + (1 - ky p 2 c)) % 2 = (0 + ky p 2 c) % 2 by omega]

/-- The two partners of the second and the first exchange have the same result. -/
theorem out_peer (p j : Fin 3) (hj : j = 0 ∨ j = 1) (c : Dev nD) (r k : ℕ) (h₁ : base p ≤ r) (h₂ : r < base p + 8 * sub p) :
    OUT I p (peer p j c) r k = OUT I p c r k := by
  obtain ⟨a, b, d, o, ha, hb, hd, ho, rfl⟩ := exists_rw3 p r h₁ h₂
  unfold OUT
  rw [own_rw3 p _ _ _ _ _ hb hd ho, own_rw3 p _ _ _ _ _ hb hd ho]
  rcases hj with rfl | rfl
  · rw [show ownB p a b (peer p 0 c) = ownB p a b c from ownB_peer0 p ⟨a, ha⟩ ⟨b, hb⟩ c]
  · rw [show ownB p a b (peer p 1 c) = ownB p a b c from ownB_peer1 p ⟨a, ha⟩ ⟨b, hb⟩ c]

/-! ## The sums the kernel makes -/

/-- The first exchange's addition, on the lower half. -/
theorem add0 (p : Fin 3) (c : Dev nD) (o k : ℕ) (ho : o < 4 * sub p) :
    P1 I p c (base p + o) k = FloatOps.addf (φ := .bf16) (P0 I p c (base p + o) k) (SG I p c o k) := by
  unfold P1 P0 A1 SG; rw [if_pos ho]

/-- The same, with the landed row counted from the first. -/
theorem add0' (p : Fin 3) (c : Dev nD) (o k : ℕ) (ho : o < 4 * sub p) :
    P1 I p c (base p + o) k = FloatOps.addf (φ := .bf16) (P0 I p c (base p + o) k) (SG I p c (0 + o) k) := by
  rw [Nat.zero_add o]; exact add0 I p c o k ho

/-- The second's, on the lower quarter. -/
theorem add1 (p : Fin 3) (c : Dev nD) (o k : ℕ) (ho : o < 2 * sub p) :
    P2 I p c (base p + o) k = FloatOps.addf (φ := .bf16) (P1 I p c (base p + o) k) (SG I p c (4 * sub p + o) k) := by
  have := sub_pos p
  unfold P2 P1 A2 SG; rw [if_neg (by omega), if_pos (by omega), Nat.add_sub_cancel_left]

/-- The third's, written to the result's rows of the device's own pair. -/
theorem add2 (p : Fin 3) (c : Dev nD) (q o k : ℕ) (hq : q < 2) (ho : o < sub p) :
    OUT I p c (rw3 p (ky p 0 c) (ky p 1 c) ((q + ky p 2 c) % 2) o) k
      = FloatOps.addf (φ := .bf16) (P2 I p c (base p + q * sub p + o) k) (SG I p c ((6 + q) * sub p + o) k) := by
  have hs := sub_pos p
  have h0 := ky_lt p 0 c
  have h1 := ky_lt p 1 c
  have h2 := ky_lt p 2 c
  have h : base p + q * sub p + o = rw3 p 0 0 q o := by
    unfold rw3; rw [show 4 * 0 + 2 * 0 + q = q by omega]
  have h' : base p + ((6 + q) * sub p + o - 6 * sub p) = rw3 p 0 0 q o := by
    rw [← h, Nat.add_mul]; omega
  unfold OUT P2 SG A3
  rw [own_rw3 p _ _ _ _ _ h1 (by omega) ho, ownB_self, if_neg (by rw [Nat.add_mul]; omega), if_neg (by rw [Nat.add_mul]; omega), h, h',
    rowOf_rw3 p _ _ _ _ _ (by omega) (by omega) hq ho, Nat.zero_add, Nat.zero_add, Nat.mod_eq_of_lt h0, Nat.mod_eq_of_lt h1]

end Cert.Contents
-- ==== Proof.Protocol.lean ====
/-
# The protocol between the devices

Eighteen transfers leave every device, in program order: the first exchange's upper halves (0, 1, 2, one a part), the second's
(3, 4, 5), the third's two sub-blocks a part (6 to 11), then the results' pairs (12, 13, 14) and halves (15, 16, 17). Transfer
`t` goes to the partner of its part's step. Each has a send cell on the sender and a receive cell on the receiver, both of one
round with one duty: the send cell gives the lent source back, the receive cell the landed rows. Before them stands a barrier
cell of three unit duties, by which each partner hands over the rows its transfers may write; behind them a second one, which
hands over nothing. A wait is on a cell of a lower level than all its device still owes: send cells at 0, the barrier at 1, the
receive cells in program order above it, the second barrier on top.
-/
module

public import proofs.«01_k».proof.Proof.Contents

@[expose] public section

noncomputable section

namespace Cert.Protocol

open Cert.KernelIdeal Cert.KernelIdeal.Gen Cert.Geom Cert.Regions Cert.Contents

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The buffers -/

abbrev xM : Memref sig .tc .vmem S2048x512 .bf16 := Memref.whole cc0_stg0_0
abbrev uM : Memref sig .tc .vmem S512x32 .bf16 := Memref.whole cc0_stg1_0
abbrev rM : Memref sig .tc .vmem S2048x1 .i32 := Memref.whole cc0_stg2_0
abbrev eM : Memref sig .tc .vmem S4x512x1024 .bf16 := Memref.whole cc0_stg3_0
abbrev oM : Memref sig .tc .vmem S2048x1024 .bf16 := Memref.whole cc0_stg4_0
abbrev pM : Memref sig .tc .vmem S2048x1024 .bf16 := Memref.whole cc0_scratch0
abbrev g0M : Memref sig .tc .vmem S768x1024 .bf16 := Memref.whole cc0_scratch1
abbrev g1M : Memref sig .tc .vmem S640x1024 .bf16 := Memref.whole cc0_scratch2
abbrev g2M : Memref sig .tc .vmem S640x1024 .bf16 := Memref.whole cc0_scratch3

/-- Part `p`'s landing buffer. -/
def gR : Fin 3 → ℕ := ![768, 640, 640]
def gM (p : Fin 3) : Memref sig .tc .vmem ⟨2, ![gR p, 1024]⟩ .bf16 :=
  match p with
  | 0 => g0M
  | 1 => g1M
  | 2 => g2M

/-! ## The transfers -/

/-- Its stage (0, 1: the first and second exchange; 2, 3: the third's two sub-blocks; 4, 5: the results' pairs and halves), its
    part, its step, the rows it moves, and the first row read from the partial sums and written in the landing buffer. -/
def kind : Fin 18 → Fin 6 := ![0, 0, 0, 1, 1, 1, 2, 3, 2, 3, 2, 3, 4, 4, 4, 5, 5, 5]
def pt : Fin 18 → Fin 3 := ![0, 1, 2, 0, 1, 2, 0, 0, 1, 1, 2, 2, 0, 1, 2, 0, 1, 2]
def stp : Fin 18 → Fin 3 := ![0, 0, 0, 1, 1, 1, 2, 2, 2, 2, 2, 2, 1, 1, 1, 0, 0, 0]
def dn : Fin 18 → ℕ := ![384, 320, 320, 192, 160, 160, 96, 96, 80, 80, 80, 80, 192, 160, 160, 384, 320, 320]
def slo : Fin 18 → ℕ := ![384, 1088, 1728, 192, 928, 1568, 96, 0, 848, 768, 1488, 1408, 0, 0, 0, 0, 0, 0]
def dlo : Fin 18 → ℕ := ![0, 0, 0, 384, 320, 320, 576, 672, 480, 560, 480, 560, 0, 0, 0, 0, 0, 0]

/-- The receiver of device `c`'s transfer `t`, which is also the sender of the one `c` receives. -/
def tgt (t : Fin 18) (c : Dev nD) : Dev nD := peer (pt t) (stp t) c
theorem tgt_tgt (t : Fin 18) (c : Dev nD) : tgt t (tgt t c) = c := peer_peer _ _ _

/-- The rows of the result device `c` sends in stage 4 (its own pair) and 5 (its own half). -/
def own2 (p : Fin 3) (c : Dev nD) : ℕ := base p + (4 * ky p 0 c + 2 * ky p 1 c) * sub p
def own4 (p : Fin 3) (c : Dev nD) : ℕ := base p + 4 * ky p 0 c * sub p
def olo (t : Fin 18) (c : Dev nD) : ℕ := if kind t = 4 then own2 (pt t) c else own4 (pt t) c

/-- The amount a transfer credits. -/
def amt (t : Fin 18) : ℕ := RefSig.tileCredit ⟨2, ![dn t, 1024]⟩ .bf16
theorem amt_pos (t : Fin 18) : 0 < amt t := RefSig.tileCredit_pos _ _ (by revert t; decide)

/-! ## The cells -/

/-- A transfer's send and receive semaphore. -/
def tS : Fin 18 → DmaSem sig := ![5, 19, 33, 6, 20, 34, 7, 8, 21, 22, 35, 36, 14, 28, 42, 15, 29, 43]
def tR : Fin 18 → DmaSem sig := ![9, 23, 37, 10, 24, 38, 11, 12, 25, 26, 39, 40, 17, 31, 45, 18, 32, 46]

/-- The transfer a semaphore is the send (receive) one of. -/
def sOf (q : DmaSem sig) : Option (Fin 18) := (List.finRange 18).find? fun t => tS t = q
def rOf (q : DmaSem sig) : Option (Fin 18) := (List.finRange 18).find? fun t => tR t = q

theorem sOf_tS : ∀ t, sOf (tS t) = some t := by decide
theorem sOf_tR : ∀ t, sOf (tR t) = none := by decide
theorem rOf_tR : ∀ t, rOf (tR t) = some t := by decide
theorem rOf_tS : ∀ t, rOf (tS t) = none := by decide

abbrev bar0 : SemLoc sig := .reg 0
abbrev bar1 : SemLoc sig := .reg 1
/-- The semaphores with a cell: the two barriers, the transfers' sends, their receives, the six the kernel never uses. -/
def cellSem : Fin 44 → SemLoc sig := ![bar0, bar1,
  .dma 5, .dma 19, .dma 33, .dma 6, .dma 20, .dma 34, .dma 7, .dma 8, .dma 21, .dma 22, .dma 35, .dma 36, .dma 14, .dma 28, .dma 42, .dma 15, .dma 29, .dma 43,
  .dma 9, .dma 23, .dma 37, .dma 10, .dma 24, .dma 38, .dma 11, .dma 12, .dma 25, .dma 26, .dma 39, .dma 40, .dma 17, .dma 31, .dma 45, .dma 18, .dma 32, .dma 46,
  .dma 13, .dma 16, .dma 27, .dma 30, .dma 41, .dma 44]
def iS (t : Fin 18) : Fin 44 := ⟨2 + t.val, by omega⟩
def iR (t : Fin 18) : Fin 44 := ⟨20 + t.val, by omega⟩
def iU (u : Fin 6) : Fin 44 := ⟨38 + u.val, by omega⟩
theorem cellSem_iS : ∀ t, cellSem (iS t) = .dma (tS t) := by decide
theorem cellSem_iR : ∀ t, cellSem (iR t) = .dma (tR t) := by decide

abbrev kcell (ck : Dev nD × Fin 44) : GSem nD τ sig := ((ck.1 : Thread nD τ), cellSem ck.2)
abbrev bCell (c : Dev nD) : GSem nD τ sig := ((c : Thread nD τ), bar0)
abbrev eCell (c : Dev nD) : GSem nD τ sig := ((c : Thread nD τ), bar1)
abbrev sCell (t : Fin 18) (c : Dev nD) : GSem nD τ sig := ((c : Thread nD τ), .dma (tS t))
abbrev rCell (t : Fin 18) (c : Dev nD) : GSem nD τ sig := ((c : Thread nD τ), .dma (tR t))
theorem kcell_iS (t : Fin 18) (c : Dev nD) : kcell (c, iS t) = sCell t c := by unfold kcell sCell; rw [cellSem_iS]
theorem kcell_iR (t : Fin 18) (c : Dev nD) : kcell (c, iR t) = rCell t c := by unfold kcell rCell; rw [cellSem_iR]

/-! ## What the cells hand over -/

/-- The rows device `c` receives transfer `t` in, at contents `g`. -/
def land (t : Fin 18) (c : Dev nD) (g : ℕ → ℕ → Elt F .bf16) : sProp 𝕄 :=
  if kind t < 4 then rd (gM (pt t)).view c (dlo t) (dn t) fullShare g else rd oM.view c (olo t (tgt t c)) (dn t) fullShare g

variable (I : Inp F)

/-- The contents it arrives with. -/
def recvPay (t : Fin 18) (c : Dev nD) : sProp 𝕄 := land t c (if kind t < 4 then SG I (pt t) c else OUT I (pt t) c)

/-- The rows device `c` sends in transfer `t`, at the share it lends. -/
def sendPay (t : Fin 18) (c : Dev nD) : sProp 𝕄 :=
  match kind t with
  | 0 => rd pM.view c (slo t) (dn t) fullShare (P0 I (pt t) c)
  | 1 => rd pM.view c (slo t) (dn t) fullShare (P1 I (pt t) c)
  | 2 => rd pM.view c (slo t) (dn t) fullShare.left (P2 I (pt t) c)
  | 3 => rd pM.view c (slo t) (dn t) fullShare.left (P2 I (pt t) c)
  | 4 => rd oM.view c (olo t c) (dn t) fullShare.left (OUT I (pt t) c)
  | 5 => rd oM.view c (olo t c) (dn t) fullShare.right (OUT I (pt t) c)

/-- The rows of `c` that transfer `t` may write, at whatever contents. -/
def room (t : Fin 18) (c : Dev nD) : sProp 𝕄 := iprop(∃ g, land (F := F) t c g)

/-- The six transfers of pairing `m`. -/
def ofMask : Fin 3 → Fin 6 → Fin 18 := fun m => match m with
  | 0 => ![0, 5, 8, 9, 14, 15]
  | 1 => ![1, 3, 10, 11, 12, 16]
  | 2 => ![2, 4, 6, 7, 13, 17]
theorem tgt_ofMask : ∀ (m : Fin 3) (j : Fin 6) (c : Dev nD), tgt (ofMask m j) c = pr m c := by decide

/-- Device `c`'s rooms for the transfers of pairing `m`. -/
def rooms (m : Fin 3) (c : Dev nD) : sProp 𝕄 :=
  iprop(room (F := F) (ofMask m 0) c ∗ room (F := F) (ofMask m 1) c ∗ room (F := F) (ofMask m 2) c ∗ room (F := F) (ofMask m 3) c
    ∗ room (F := F) (ofMask m 4) c ∗ room (F := F) (ofMask m 5) c)

omit [FloatOps F] in
instance land_storable (t : Fin 18) (c : Dev nD) (g) : BI.Storable (upEmb : UEmb _ 𝕄) (land (F := F) t c g) := by unfold land; split <;> infer_instance
instance recvPay_storable (t : Fin 18) (c : Dev nD) : BI.Storable (upEmb : UEmb _ 𝕄) (recvPay I t c) := by unfold recvPay; infer_instance
instance sendPay_storable (t : Fin 18) (c : Dev nD) : BI.Storable (upEmb : UEmb _ 𝕄) (sendPay I t c) := by unfold sendPay; split <;> infer_instance
omit [FloatOps F] in
instance rooms_storable (m : Fin 3) (c : Dev nD) : BI.Storable (upEmb : UEmb _ 𝕄) (rooms (F := F) m c) := by unfold rooms room; infer_instance

/-! ## The schedule -/

def Rd : Rounds.Schedule (GSem nD τ sig) (Fin 3) 𝕄 where
  duties g r := if r = 0 ∧ g.1.2 = .tc then (match g.2 with
    | .reg _ => Finset.univ
    | .dma q => if (sOf q).isSome ∨ (rOf q).isSome then {0} else ∅) else ∅
  unitless _ := False
  amount g _ _ := match g.2 with
    | .reg _ => 1
    | .dma q => match sOf q, rOf q with
      | some t, _ => amt t
      | none, some t => amt t
      | none, none => 1
  payload g _ d := match g.2 with
    | .reg s => if s = 0 then rooms d (pr d g.1.1) else iprop(emp)
    | .dma q => match sOf q, rOf q with
      | some t, _ => sendPay I t g.1.1
      | none, some t => recvPay I t g.1.1
      | none, none => iprop(emp)
  amount_pos g _ _ _ := by
    show 0 < (match g.2 with | .reg _ => 1 | .dma q => match sOf q, rOf q with | some t, _ => amt t | none, some t => amt t | none, none => 1)
    split
    · exact Nat.one_pos
    · split
      · exact amt_pos _
      · exact amt_pos _
      · exact Nat.one_pos

instance Rd_payload_storable (g : GSem nD τ sig) (r : ℕ) (d : Fin 3) : BI.Storable (upEmb : UEmb _ 𝕄) ((Rd I).payload g r d) := by
  dsimp only [Rd]
  split
  · split <;> infer_instance
  · split <;> infer_instance

section Sched
variable (c : Dev nD)

theorem duties_reg (s : Sem sig) : (Rd I).duties ((c : Thread nD τ), .reg s) 0 = Finset.univ := by dsimp only [Rd]; exact if_pos ⟨rfl, rfl⟩
theorem duties_s (t : Fin 18) : (Rd I).duties (sCell t c) 0 = {0} := by
  dsimp only [Rd]; rw [if_pos ⟨rfl, rfl⟩, if_pos (.inl (by rw [sOf_tS]; rfl))]
theorem duties_r (t : Fin 18) : (Rd I).duties (rCell t c) 0 = {0} := by
  dsimp only [Rd]; rw [if_pos ⟨rfl, rfl⟩, if_pos (.inr (by rw [rOf_tR]; rfl))]
theorem duties_later (g : GSem nD τ sig) : ∀ r, 1 ≤ r → (Rd I).duties g r = ∅ :=
  fun r hr => by dsimp only [Rd]; rw [if_neg fun h => by omega]
theorem duties_unused (u : Fin 6) : ∀ r, 0 ≤ r → (Rd I).duties (kcell (c, iU u)) r = ∅ := by
  intro r _
  dsimp only [Rd]
  have h : ∃ q, cellSem (iU u) = .dma q ∧ sOf q = none ∧ rOf q = none := by revert u; decide
  obtain ⟨q, h1, h2, h3⟩ := h
  split
  · rw [h1]; dsimp only; rw [h2, h3]; rfl
  · rfl

theorem amount_reg (s : Sem sig) (d) : (Rd I).amount ((c : Thread nD τ), .reg s) 0 d = 1 := rfl
theorem amount_s (t : Fin 18) (d) : (Rd I).amount (sCell t c) 0 d = amt t := by dsimp only [Rd]; rw [sOf_tS]
theorem amount_r (t : Fin 18) (d) : (Rd I).amount (rCell t c) 0 d = amt t := by dsimp only [Rd]; rw [sOf_tR, rOf_tR]

theorem expect_reg (s : Sem sig) : (Rd I).expect ((c : Thread nD τ), .reg s) 0 = 3 := by
  unfold Schedule.expect Schedule.amountOf
  rw [duties_reg, Finset.sum_congr rfl fun d _ => amount_reg I c s d, Finset.sum_const, Finset.card_univ, Fintype.card_fin, smul_eq_mul]
theorem expect_s (t : Fin 18) : (Rd I).expect (sCell t c) 0 = amt t := by
  unfold Schedule.expect Schedule.amountOf; rw [duties_s, Finset.sum_singleton, amount_s]
theorem expect_r (t : Fin 18) : (Rd I).expect (rCell t c) 0 = amt t := by
  unfold Schedule.expect Schedule.amountOf; rw [duties_r, Finset.sum_singleton, amount_r]

theorem payload_b (d : Fin 3) : (Rd I).payload (bCell c) 0 d = rooms d (pr d c) := by dsimp only [Rd]; exact if_pos rfl
theorem payload_e (d : Fin 3) : (Rd I).payload (eCell c) 0 d = iprop(emp) := by dsimp only [Rd]; exact if_neg (by decide)
theorem payload_s (t : Fin 18) (d) : (Rd I).payload (sCell t c) 0 d = sendPay I t c := by dsimp only [Rd]; rw [sOf_tS]
theorem payload_r (t : Fin 18) (d) : (Rd I).payload (rCell t c) 0 d = recvPay I t c := by dsimp only [Rd]; rw [sOf_tR, rOf_tR]

theorem rest_b : bigSep ((Rd I).duties (bCell c) 0 \ ∅) (fun d => (Rd I).payload (bCell c) 0 d)
    = iprop(rooms 0 (pr 0 c) ∗ rooms 1 (pr 1 c) ∗ rooms 2 (pr 2 c)) := by
  rw [Finset.sdiff_empty, duties_reg, bigSep_univ_eq_bigSepL [0, 1, 2] (by decide) (by decide)]
  simp only [bigSepL_cons_cons, bigSepL_singleton, payload_b]; rfl
theorem rest_s (t : Fin 18) : bigSep ((Rd I).duties (sCell t c) 0 \ ∅) (fun d => (Rd I).payload (sCell t c) 0 d) = sendPay I t c := by
  rw [Finset.sdiff_empty, duties_s, bigSep_singleton, payload_s]
theorem rest_r (t : Fin 18) : bigSep ((Rd I).duties (rCell t c) 0 \ ∅) (fun d => (Rd I).payload (rCell t c) 0 d) = recvPay I t c := by
  rw [Finset.sdiff_empty, duties_r, bigSep_singleton, payload_r]

end Sched

/-! ## What a device owes, and the levels -/

/-- The `k`-th credit device `c` gives, in program order: a unit to each partner's barrier, the eighteen transfers' to their
    receive cells, a unit to each partner's second barrier. -/
def item (c : Dev nD) (k : ℕ) : GSem nD τ sig × ℕ :=
  if k < 3 then (bCell (pr (Fin.ofNat 3 k) c), 1)
  else if k < 21 then (rCell (Fin.ofNat 18 (k - 3)) (tgt (Fin.ofNat 18 (k - 3)) c), amt (Fin.ofNat 18 (k - 3)))
  else (eCell (pr (Fin.ofNat 3 k) c), 1)

/-- What it owes with `n` of the 24 to come. -/
def OT (c : Dev nD) : ℕ → CellTallies nD τ sig Unit
  | 0 => 0
  | n + 1 => OT c n + tallyAt (item c (23 - n)).1 () (item c (23 - n)).2

def L (g : GSem nD τ sig) : Finset Unit := if g.1.2 = .tc then {()} else ∅
def slv (s : SemLoc sig) : ℕ := match s with
  | .reg s => if s = 0 then 1 else 100
  | .dma q => match rOf q with
    | some t => 2 + t.val
    | none => 0
def lv (g : GSem nD τ sig) (_ : Unit) : ℕ := slv g.2

theorem L_of_ne (g : GSem nD τ sig) (h : g.1.2 ≠ .tc) : L g = ∅ := if_neg h
theorem L_tc (c : Dev nD) (sm : SemLoc sig) : L ((c : Thread nD τ), sm) = {()} := if_pos rfl

/-- The level of the `k`-th credit's cell. -/
def ilv (k : ℕ) : ℕ := if k < 3 then 1 else if k < 21 then 2 + (k - 3) else 100

theorem slv_tR : ∀ t, slv (.dma (tR t)) = 2 + t.val := by decide
theorem slv_tS : ∀ t, slv (.dma (tS t)) = 0 := by decide

theorem item_level (c : Dev nD) (k : ℕ) : L (item c k).1 = {()} ∧ lv (item c k).1 () = ilv k := by
  unfold item ilv
  split
  · exact ⟨L_tc _ _, rfl⟩
  · split
    · refine ⟨L_tc _ _, ?_⟩
      unfold lv
      rw [slv_tR]
      show 2 + (k - 3) % 18 = _
      rw [Nat.mod_eq_of_lt (by omega)]
    · exact ⟨L_tc _ _, rfl⟩

theorem OT_pos {c : Dev nD} {n : ℕ} {g : GSem nD τ sig} {u : Unit} (h : 0 < OT c n g u) : ∃ k, 24 ≤ k + n ∧ g = (item c k).1 := by
  induction n with
  | zero => exact absurd h (Nat.lt_irrefl 0)
  | succ n ih =>
    unfold OT at h
    rw [Pi.add_apply, Finsupp.add_apply, tallyAt_apply] at h
    by_cases hg : g = (item c (23 - n)).1 ∧ u = ()
    · exact ⟨23 - n, by omega, hg.1⟩
    · rw [if_neg hg, Nat.add_zero] at h
      obtain ⟨k, hk, e⟩ := ih h
      exact ⟨k, by omega, e⟩

theorem ilv_mono {k k' : ℕ} (h : k ≤ k') : ilv k ≤ ilv k' := by unfold ilv; split <;> split <;> (try split) <;> (try split) <;> omega

omit [FloatOps F] in
/-- A device may wait on a cell below everything it still owes. -/
theorem mayWait (c : Dev nD) (sm : SemLoc sig) (n : ℕ) (h : slv sm < ilv (24 - n)) :
    (levAts L lv : sProp 𝕄) ⊢ MayWait (c : Thread nD τ) sm () (OT c n) :=
  MayOwe.of_cut (L := L) (lev := lv) (slv sm)
    (fun p hp => by rw [Finset.mem_singleton.mp hp, L_tc]; exact Finset.mem_singleton_self _)
    (fun g u hg => by obtain ⟨k, hk, rfl⟩ := OT_pos hg; rw [(item_level c k).1]; exact Finset.mem_singleton_self _)
    (fun p hp => by rw [Finset.mem_singleton.mp hp]; exact Nat.le_refl _)
    (fun g u hg => by
      obtain ⟨k, hk, rfl⟩ := OT_pos hg
      rw [(item_level c k).2]
      exact Nat.lt_of_lt_of_le h (ilv_mono (by omega)))

end Cert.Protocol
-- ==== Proof.Offsets.lean ====
/-
# The offsets the kernel computes

Every offset and every partner is a word computed from the device's number. Each in closed form: the block of rows a part's
compute reads, the slot of a sub-block among the partial sums, the rows of the result a device writes and sends, the partner.
-/
module

public import proofs.«01_k».proof.Proof.Protocol

@[expose] public section

noncomputable section

namespace Cert.Offsets

open Cert.KernelIdeal Cert.KernelIdeal.Gen Cert.Geom Cert.Protocol

open Idealize.ShloMosaic

/-- The first row of the half of part `p` whose slots are the upper (`a = 1`) or lower (`a = 0`) ones on device `c`. -/
def spn (p : Fin 3) (a : ℕ) (c : Dev nD) : ℕ := base p + 4 * ((a + ky p 0 c) % 2) * sub p
/-- The first row of the slot of its sub-block `j, m`. -/
def cho (p : Fin 3) (a j m : ℕ) (c : Dev nD) : ℕ := base p + (4 * a + 2 * ((j + ky p 1 c) % 2) + (m + ky p 2 c) % 2) * sub p
/-- The first row of the result's sub-block completed from slot `q`. -/
def fin3 (p : Fin 3) (q : ℕ) (c : Dev nD) : ℕ := base p + (4 * ky p 0 c + 2 * ky p 1 c + (q + ky p 2 c) % 2) * sub p

theorem off1_eq : ∀ c, k0_off1 c = ![spn 0 1 c, 0] := by decide +kernel
theorem off2_eq : ∀ c, k0_off2 c = ![spn 0 1 c, 0] := by decide +kernel
theorem off3_eq : ∀ c, k0_off3 c = ![cho 0 1 0 0 c, 0] := by decide +kernel
theorem off4_eq : ∀ c, k0_off4 c = ![cho 0 1 0 1 c, 0] := by decide +kernel
theorem off5_eq : ∀ c, k0_off5 c = ![cho 0 1 1 0 c, 0] := by decide +kernel
theorem off6_eq : ∀ c, k0_off6 c = ![cho 0 1 1 1 c, 0] := by decide +kernel
theorem off7_eq : ∀ c, k0_off7 c = ![spn 1 1 c, 0] := by decide +kernel
theorem off8_eq : ∀ c, k0_off8 c = ![spn 1 1 c, 0] := by decide +kernel
theorem off9_eq : ∀ c, k0_off9 c = ![cho 1 1 0 0 c, 0] := by decide +kernel
theorem off10_eq : ∀ c, k0_off10 c = ![cho 1 1 0 1 c, 0] := by decide +kernel
theorem off11_eq : ∀ c, k0_off11 c = ![cho 1 1 1 0 c, 0] := by decide +kernel
theorem off12_eq : ∀ c, k0_off12 c = ![cho 1 1 1 1 c, 0] := by decide +kernel
theorem off13_eq : ∀ c, k0_off13 c = ![spn 2 1 c, 0] := by decide +kernel
theorem off14_eq : ∀ c, k0_off14 c = ![spn 2 1 c, 0] := by decide +kernel
theorem off15_eq : ∀ c, k0_off15 c = ![cho 2 1 0 0 c, 0] := by decide +kernel
theorem off16_eq : ∀ c, k0_off16 c = ![cho 2 1 0 1 c, 0] := by decide +kernel
theorem off17_eq : ∀ c, k0_off17 c = ![cho 2 1 1 0 c, 0] := by decide +kernel
theorem off18_eq : ∀ c, k0_off18 c = ![cho 2 1 1 1 c, 0] := by decide +kernel
theorem off19_eq : ∀ c, k0_off19 c = ![spn 0 0 c, 0] := by decide +kernel
theorem off20_eq : ∀ c, k0_off20 c = ![spn 0 0 c, 0] := by decide +kernel
theorem off21_eq : ∀ c, k0_off21 c = ![cho 0 0 0 0 c, 0] := by decide +kernel
theorem off22_eq : ∀ c, k0_off22 c = ![cho 0 0 0 1 c, 0] := by decide +kernel
theorem off23_eq : ∀ c, k0_off23 c = ![cho 0 0 1 0 c, 0] := by decide +kernel
theorem off24_eq : ∀ c, k0_off24 c = ![cho 0 0 1 1 c, 0] := by decide +kernel
theorem off25_eq : ∀ c, k0_off25 c = ![spn 1 0 c, 0] := by decide +kernel
theorem off26_eq : ∀ c, k0_off26 c = ![spn 1 0 c, 0] := by decide +kernel
theorem off27_eq : ∀ c, k0_off27 c = ![cho 1 0 0 0 c, 0] := by decide +kernel
theorem off28_eq : ∀ c, k0_off28 c = ![cho 1 0 0 1 c, 0] := by decide +kernel
theorem off29_eq : ∀ c, k0_off29 c = ![cho 1 0 1 0 c, 0] := by decide +kernel
theorem off30_eq : ∀ c, k0_off30 c = ![cho 1 0 1 1 c, 0] := by decide +kernel
theorem off31_eq : ∀ c, k0_off31 c = ![spn 2 0 c, 0] := by decide +kernel
theorem off32_eq : ∀ c, k0_off32 c = ![spn 2 0 c, 0] := by decide +kernel
theorem off33_eq : ∀ c, k0_off33 c = ![cho 2 0 0 0 c, 0] := by decide +kernel
theorem off34_eq : ∀ c, k0_off34 c = ![cho 2 0 0 1 c, 0] := by decide +kernel
theorem off35_eq : ∀ c, k0_off35 c = ![cho 2 0 1 0 c, 0] := by decide +kernel
theorem off36_eq : ∀ c, k0_off36 c = ![cho 2 0 1 1 c, 0] := by decide +kernel
theorem off37_eq : ∀ c, k0_off37 c = ![fin3 0 0 c, 0] := by decide +kernel
theorem off38_eq : ∀ c, k0_off38 c = ![fin3 0 1 c, 0] := by decide +kernel
theorem off39_eq : ∀ c, k0_off39 c = ![fin3 1 0 c, 0] := by decide +kernel
theorem off40_eq : ∀ c, k0_off40 c = ![fin3 1 1 c, 0] := by decide +kernel
theorem off41_eq : ∀ c, k0_off41 c = ![fin3 2 0 c, 0] := by decide +kernel
theorem off42_eq : ∀ c, k0_off42 c = ![fin3 2 1 c, 0] := by decide +kernel
theorem off43_eq : ∀ c, k0_off43 c = ![own2 0 c, 0] := by decide +kernel
theorem off44_eq : ∀ c, k0_off44 c = ![own2 1 c, 0] := by decide +kernel
theorem off45_eq : ∀ c, k0_off45 c = ![own2 2 c, 0] := by decide +kernel
theorem off46_eq : ∀ c, k0_off46 c = ![own4 0 c, 0] := by decide +kernel
theorem off47_eq : ∀ c, k0_off47 c = ![own4 1 c, 0] := by decide +kernel
theorem off48_eq : ∀ c, k0_off48 c = ![own4 2 c, 0] := by decide +kernel

theorem dev1_eq : ∀ c, (⟨k0_dev1 c, k0_dev1_lt c⟩ : Dev nD) = pr 0 c := by decide +kernel
theorem dev2_eq : ∀ c, (⟨k0_dev2 c, k0_dev2_lt c⟩ : Dev nD) = pr 1 c := by decide +kernel
theorem dev3_eq : ∀ c, (⟨k0_dev3 c, k0_dev3_lt c⟩ : Dev nD) = pr 2 c := by decide +kernel
theorem dev4_eq : ∀ c, (⟨k0_dev4 c, k0_dev4_lt c⟩ : Dev nD) = tgt 0 c := by decide +kernel
theorem dev5_eq : ∀ c, (⟨k0_dev5 c, k0_dev5_lt c⟩ : Dev nD) = tgt 1 c := by decide +kernel
theorem dev6_eq : ∀ c, (⟨k0_dev6 c, k0_dev6_lt c⟩ : Dev nD) = tgt 2 c := by decide +kernel
theorem dev7_eq : ∀ c, (⟨k0_dev7 c, k0_dev7_lt c⟩ : Dev nD) = tgt 3 c := by decide +kernel
theorem dev8_eq : ∀ c, (⟨k0_dev8 c, k0_dev8_lt c⟩ : Dev nD) = tgt 4 c := by decide +kernel
theorem dev9_eq : ∀ c, (⟨k0_dev9 c, k0_dev9_lt c⟩ : Dev nD) = tgt 5 c := by decide +kernel
theorem dev10_eq : ∀ c, (⟨k0_dev10 c, k0_dev10_lt c⟩ : Dev nD) = tgt 6 c := by decide +kernel
theorem dev11_eq : ∀ c, (⟨k0_dev11 c, k0_dev11_lt c⟩ : Dev nD) = tgt 7 c := by decide +kernel
theorem dev12_eq : ∀ c, (⟨k0_dev12 c, k0_dev12_lt c⟩ : Dev nD) = tgt 8 c := by decide +kernel
theorem dev13_eq : ∀ c, (⟨k0_dev13 c, k0_dev13_lt c⟩ : Dev nD) = tgt 9 c := by decide +kernel
theorem dev14_eq : ∀ c, (⟨k0_dev14 c, k0_dev14_lt c⟩ : Dev nD) = tgt 10 c := by decide +kernel
theorem dev15_eq : ∀ c, (⟨k0_dev15 c, k0_dev15_lt c⟩ : Dev nD) = tgt 11 c := by decide +kernel
theorem dev16_eq : ∀ c, (⟨k0_dev16 c, k0_dev16_lt c⟩ : Dev nD) = tgt 12 c := by decide +kernel
theorem dev17_eq : ∀ c, (⟨k0_dev17 c, k0_dev17_lt c⟩ : Dev nD) = tgt 13 c := by decide +kernel
theorem dev18_eq : ∀ c, (⟨k0_dev18 c, k0_dev18_lt c⟩ : Dev nD) = tgt 14 c := by decide +kernel
theorem dev19_eq : ∀ c, (⟨k0_dev19 c, k0_dev19_lt c⟩ : Dev nD) = tgt 15 c := by decide +kernel
theorem dev20_eq : ∀ c, (⟨k0_dev20 c, k0_dev20_lt c⟩ : Dev nD) = tgt 16 c := by decide +kernel
theorem dev21_eq : ∀ c, (⟨k0_dev21 c, k0_dev21_lt c⟩ : Dev nD) = tgt 17 c := by decide +kernel
theorem dev22_eq : ∀ c, (⟨k0_dev22 c, k0_dev22_lt c⟩ : Dev nD) = pr 0 c := by decide +kernel
theorem dev23_eq : ∀ c, (⟨k0_dev23 c, k0_dev23_lt c⟩ : Dev nD) = pr 1 c := by decide +kernel
theorem dev24_eq : ∀ c, (⟨k0_dev24 c, k0_dev24_lt c⟩ : Dev nD) = pr 2 c := by decide +kernel

end Cert.Offsets
-- ==== Proof.Blocks.lean ====
/-
# What a store writes

The four blocks a part's compute stores are the rows of the device's own partial result at the slots they are stored in, and the
blocks the exchanges' additions store are the sums of two blocks. A contents rewritten on a band is `put`; four of them fill a half.
-/
module

public import proofs.«01_k».proof.Proof.Offsets
public import Idealize.ShloMosaic.Lib.Pipeline.Value

@[expose] public section

noncomputable section

namespace Cert.Blocks

open Cert.KernelIdeal Cert.KernelIdeal.Gen Cert.Geom Cert.Regions Cert.Contents Cert.Protocol Cert.Offsets

open Idealize.ShloMosaic

variable {F : FTy → Type} [FloatOps F]

/-! ## Bands rewritten -/

/-- A contents rewritten as `P` on the rows `a ≤ r < a + h`. -/
def put {e : EltTy} (g : ℕ → ℕ → Elt F e) (a h : ℕ) (P : ℕ → ℕ → Elt F e) (r k : ℕ) : Elt F e := if a ≤ r ∧ r < a + h then P r k else g r k

omit [FloatOps F] in
theorem put_off {e : EltTy} (g : ℕ → ℕ → Elt F e) (a h : ℕ) (P : ℕ → ℕ → Elt F e) (r k : ℕ) (hr : ¬ (a ≤ r ∧ r < a + h)) : put g a h P r k = g r k := if_neg hr

omit [FloatOps F] in
theorem blk_put {h C : ℕ} {e : EltTy} (g : ℕ → ℕ → Elt F e) (a : ℕ) (P : ℕ → ℕ → Elt F e) :
    (blk (put g a h P) a : (⟨2, ![h, C]⟩ : Shape).Idx → Elt F e) = blk P a := by
  funext i
  have : (i 0).val < h := (i 0).isLt
  exact if_pos ⟨by omega, by omega⟩

omit [FloatOps F] in
/-- Four sub-blocks stored fill a half. -/
theorem put4 {e : EltTy} (p : Fin 3) (a : ℕ) (c : Dev nD) (g P : ℕ → ℕ → Elt F e) (r k : ℕ)
    (h₁ : base p + 4 * a * sub p ≤ r) (h₂ : r < base p + 4 * a * sub p + 4 * sub p) :
    put (put (put (put g (cho p a 0 0 c) (sub p) P) (cho p a 0 1 c) (sub p) P) (cho p a 1 0 c) (sub p) P) (cho p a 1 1 c) (sub p) P r k = P r k := by
  unfold put cho
  have h1 := ky_lt p 1 c
  have h2 := ky_lt p 2 c
  rw [Nat.mul_right_comm] at h₁ h₂
  rcases (by omega : ky p 1 c = 0 ∨ ky p 1 c = 1) with e1 | e1 <;> rcases (by omega : ky p 2 c = 0 ∨ ky p 2 c = 1) with e2 | e2 <;> rw [e1, e2] <;>
    simp only [Nat.add_mul, Nat.mul_assoc, Nat.mul_comm a] at h₁ h₂ ⊢ <;> rcases sub_cases p with hs | hs <;> rw [hs] at h₁ h₂ ⊢ <;>
    (split; · rfl) <;> (split; · rfl) <;> (split; · rfl) <;> (split; · rfl) <;> omega

/-! ## A part's compute -/

variable (I : Inp F)

theorem A0_p0 (c : Dev nD) (a o k : ℕ) (ho : o < 384) :
    A0 I 0 c (spn 0 a c + o) k = nat2 (acc384 I c (spn 0 a c)) (by decide) (by decide) o k := by
  have hm : (spn 0 a c + o) % 384 = o := by unfold spn; show (0 + 4 * ((a + ky 0 0 c) % 2) * 96 + o) % 384 = o; omega
  unfold A0
  rw [if_pos rfl, hm, Nat.add_sub_cancel]

theorem A0_p1 (p : Fin 3) (hp : p ≠ 0) (c : Dev nD) (a o k : ℕ) (ho : o < 320) :
    A0 I p c (spn p a c + o) k = nat2 (acc320 I c (spn p a c)) (by decide) (by decide) o k := by
  have hs : sub p = 80 := by revert p; decide
  have hm : (spn p a c + o - base p) % 320 = o := by unfold spn; rw [hs]; omega
  unfold A0
  rw [if_neg hp, hm, Nat.add_sub_cancel]

/-- The row of the result a slot's row holds. -/
theorem rowOf_cho (p : Fin 3) (a j m : ℕ) (ha : a < 2) (hj : j < 2) (hm : m < 2) (c : Dev nD) (o : ℕ) (ho : o < sub p) :
    rowOf p c (cho p a j m c + o) = spn p a c + ((2 * j + m) * sub p + o) := by
  have h0 := ky_lt p 0 c
  have h1 := ky_lt p 1 c
  have h2 := ky_lt p 2 c
  show rowOf p c (rw3 p a ((j + ky p 1 c) % 2) ((m + ky p 2 c) % 2) o) = _
  rw [rowOf_rw3 p c _ _ _ _ ha (by omega) (by omega) ho,
    show ((j + ky p 1 c) % 2 + ky p 1 c) % 2 = j by omega, show ((m + ky p 2 c) % 2 + ky p 2 c) % 2 = m by omega]
  unfold rw3 spn
  simp only [Nat.add_mul]
  omega

/-- A sub-block of part 0's compute: 96 of its 384 rows. -/
theorem sub_p0 (c : Dev nD) (a j m s : ℕ) (ha : a < 2) (hj : j < 2) (hm : m < 2) (hs : s = (2 * j + m) * 96) (hx) (hh) :
    shapeCast S96x1024 (extractStridedSlice S96x1024 ![s, 0] (acc384 I c (spn 0 a c)) hx) hh = blk (P0 I 0 c) (cho 0 a j m c) := by
  rw [shapeCast_self]
  funext i
  have hi : (i 0).val < 96 := (i 0).isLt
  have hk : (i 1).val < 1024 := (i 1).isLt
  show _ = A0 I 0 c (rowOf 0 c (cho 0 a j m c + (i 0).val)) (i 1).val
  rw [rowOf_cho 0 a j m ha hj hm c _ hi]
  have hsub : sub 0 = 96 := rfl
  rw [hsub, A0_p0 I c a _ _ (by omega)]
  unfold nat2
  show acc384 I c (spn 0 a c) _ = _
  congr 1
  funext x
  apply Fin.ext
  fin_cases x
  · show s + (i 0).val = ((2 * j + m) * 96 + (i 0).val) % 384
    omega
  · show 0 + (i 1).val = (i 1).val % 1024
    omega

/-- A sub-block of the other parts' compute: 80 of its 320 rows. -/
theorem sub_p1 (p : Fin 3) (hp : p ≠ 0) (c : Dev nD) (a j m s : ℕ) (ha : a < 2) (hj : j < 2) (hm : m < 2) (hs : s = (2 * j + m) * 80) (hx) (hh) :
    shapeCast S80x1024 (extractStridedSlice S80x1024 ![s, 0] (acc320 I c (spn p a c)) hx) hh = blk (P0 I p c) (cho p a j m c) := by
  rw [shapeCast_self]
  funext i
  have hi : (i 0).val < 80 := (i 0).isLt
  have hk : (i 1).val < 1024 := (i 1).isLt
  have hsub : sub p = 80 := by revert p; decide
  show _ = A0 I p c (rowOf p c (cho p a j m c + (i 0).val)) (i 1).val
  rw [rowOf_cho p a j m ha hj hm c _ (by omega), hsub, A0_p1 I p hp c a _ _ (by omega)]
  unfold nat2
  show acc320 I c (spn p a c) _ = _
  congr 1
  funext x
  apply Fin.ext
  fin_cases x
  · show s + (i 0).val = ((2 * j + m) * 80 + (i 0).val) % 320
    omega
  · show 0 + (i 1).val = (i 1).val % 1024
    omega

/-! ## The same compute, printed apart -/

theorem acc_p2 (c : Dev nD) (a : ℕ) :
    k0_pay27 (wd c) (k0_pay4 (ex I c 3)) (k0_pay24 (xs I 320 c a)) (k0_pay25 (rs I 320 c a))
      (k0_pay26 (wd c) (k0_pay1 (ex I c 0)) (k0_pay2 (ex I c 1)) (k0_pay3 (ex I c 2)) (xs I 320 c a) (rs I 320 c a)) 4#32 = acc320 I c a := rfl
theorem acc_p0' (c : Dev nD) (a : ℕ) :
    k0_pay36 (k0_pay4 (ex I c 3))
      (k0_pay34 (wd c) (k0_pay1 (ex I c 0)) (k0_pay2 (ex I c 1)) (k0_pay3 (ex I c 2)) (k0_pay32 (xs I 384 c a)) (rs I 384 c a))
      (k0_pay35 (wd c) (k0_pay32 (xs I 384 c a)) (rs I 384 c a)) (constant S384x1024 .f32 0x00000000#32) = acc384 I c a := rfl
theorem acc_p1' (c : Dev nD) (a : ℕ) :
    k0_pay47 (wd c) (k0_pay2 (ex I c 1)) (k0_pay3 (ex I c 2)) (k0_pay4 (ex I c 3)) (k0_pay42 (xs I 320 c a)) (k0_pay43 (rs I 320 c a))
      (k0_pay44 (wd c) (k0_pay1 (ex I c 0)) (xs I 320 c a) (rs I 320 c a)) (k0_pay45 (wd c) (rs I 320 c a)) (k0_pay46 (F := F)) = acc320 I c a := rfl
theorem acc_p2' (c : Dev nD) (a : ℕ) :
    k0_pay57 (k0_pay4 (ex I c 3)) (k0_pay52 (xs I 320 c a))
      (k0_pay54 (wd c) (k0_pay1 (ex I c 0)) (k0_pay2 (ex I c 1)) (k0_pay3 (ex I c 2)) (xs I 320 c a) (rs I 320 c a))
      (k0_pay55 (wd c) (rs I 320 c a)) (k0_pay56 (F := F)) = acc320 I c a := rfl

end Cert.Blocks
-- ==== Proof.Ops.lean ====
/-
# The protocol's steps

One rule for each kind of step: the two barriers' signals and waits, a transfer, the wait on its receive cell and the wait on
its send cell. Each is stated for a symbolic device and, where there is one, a symbolic transfer. Behind a wait the cell is
closed at once: it is left at zero.
-/
module

public import proofs.«01_k».proof.Proof.Protocol

@[expose] public section

noncomputable section

namespace Cert.Ops

open Cert.KernelIdeal Cert.KernelIdeal.Gen Cert.Geom Cert.Regions Cert.Contents Cert.Protocol

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × Fin 44 → ℕ)

/-! ## What every device knows -/

/-- The levels, every cell's invariant, and that every cell has reached its round. -/
def recs : sProp 𝕄 :=
  iprop(levAts L lv ∗ (bigSep Finset.univ fun ck : Dev nD × Fin 44 => cellInv ER (Rd I) (K ck) (kcell ck))
    ∗ bigSep Finset.univ fun ck : Dev nD × Fin 44 => reached ER (kcell ck) 0)

instance recs_persistent : BI.Persistent (recs I K) := by unfold recs; infer_instance

theorem recs_lev : recs I K ⊢ levAts L lv := by unfold recs; iintro ⟨H, -⟩; iexact H
theorem inv_at (ck : Dev nD × Fin 44) :
    (bigSep Finset.univ fun ck : Dev nD × Fin 44 => (cellInv ER (Rd I) (K ck) (kcell ck) : sProp 𝕄)) ⊢ cellInv ER (Rd I) (K ck) (kcell ck) :=
  bigSep_elim (Finset.mem_univ ck)
omit [FloatOps F] in
theorem reached_at (ck : Dev nD × Fin 44) :
    (bigSep Finset.univ fun ck : Dev nD × Fin 44 => (reached ER (kcell ck) 0 : sProp 𝕄)) ⊢ reached ER (kcell ck) 0 :=
  bigSep_elim (Finset.mem_univ ck)
theorem recs_inv (ck : Dev nD × Fin 44) : recs I K ⊢ cellInv ER (Rd I) (K ck) (kcell ck) := by
  unfold recs
  iintro ⟨-, H, -⟩
  iapply (inv_at I K ck); iexact H
theorem recs_reached (ck : Dev nD × Fin 44) : recs I K ⊢ reached ER (kcell ck) 0 := by
  unfold recs
  iintro ⟨-, -, H⟩
  iapply (reached_at (F := F) ck); iexact H
theorem recs_inv_s (t : Fin 18) (c : Dev nD) : recs I K ⊢ cellInv ER (Rd I) (K (c, iS t)) (sCell t c) := by rw [← kcell_iS]; exact recs_inv I K _
theorem recs_inv_r (t : Fin 18) (c : Dev nD) : recs I K ⊢ cellInv ER (Rd I) (K (c, iR t)) (rCell t c) := by rw [← kcell_iR]; exact recs_inv I K _
theorem recs_reached_s (t : Fin 18) (c : Dev nD) : recs I K ⊢ reached ER (sCell t c) 0 := by rw [← kcell_iS]; exact recs_reached I K _
theorem recs_reached_r (t : Fin 18) (c : Dev nD) : recs I K ⊢ reached ER (rCell t c) 0 := by rw [← kcell_iR]; exact recs_reached I K _

/-! ## A device's own state, transfer by transfer -/

/-- What device `c` owes with `n` credits to come, whatever it has waited on. -/
def Ow (c : Dev nD) (n : ℕ) : sProp 𝕄 := iprop(∃ W, owes (c : Thread nD τ) (OT c n) W)
/-- Before its transfer `t`: its place at the send cell, the send duty and the receiver's duty. -/
def Tx (t : Fin 18) (c : Dev nD) : sProp 𝕄 :=
  iprop(atPos ER (sCell t c) 0 ∅ 0 ∗ dutyTok ER (sCell t c) 0 0 ∗ dutyTok ER (rCell t (tgt t c)) 0 0)
/-- With the transfer sent. -/
def Sent (t : Fin 18) (c : Dev nD) : sProp 𝕄 := iprop(atPos ER (sCell t c) 0 ∅ 0 ∗ cred (tallyAt (sCell t c) () (amt t)))
/-- Before it has received transfer `t`. -/
def Rx (t : Fin 18) (c : Dev nD) : sProp 𝕄 := iprop(atPos ER (rCell t c) 0 ∅ 0 ∗ cred (tallyAt (rCell t c) () (amt t)))
/-- The send (receive) cell at rest. -/
def Zs (t : Fin 18) (c : Dev nD) : sProp 𝕄 := semVal (sCell t c) 0
def Zr (t : Fin 18) (c : Dev nD) : sProp 𝕄 := semVal (rCell t c) 0

section Steps
variable {α : Type} {Q : α → sProp (MT nD τ sig Unit (Elt F) ℕ UU ℕ)} (c : Dev nD)

/-- The signal to a partner's barrier: it hands over the rooms of that pairing. -/
theorem wp_bsig (m : Fin 3) (j j' : ℕ) (hj : OT c j' = OT c j + tallyAt (bCell (pr m c)) () 1) (n : Dev nD) (hn : n = pr m c) (w : ℤ) (hw : w = ((1 : ℕ) : ℤ))
    {s : Sem sig} (hs : s = 0)
    {k : PUnit → Prog (TpuEff nD τ sig (Elt F) Λ₀ .tc) α} :
    iprop(recs I K ∗ rooms (F := F) m c ∗ dutyTok ER (bCell (pr m c)) 0 m ∗ Ow c j')
      ⊢ iprop((Ow c j -∗ WP c (k ⟨⟩) Q) -∗ WP c (.op (.semSignal (Dev.tc n : Thread nD τ) s w) k) Q) := by
  subst hn; subst hw; subst hs
  unfold Ow
  iintro ⟨#HR, Hp, Ht, %W, HO⟩ Hk
  rw [hj]
  iapply (Rounds.wp_signal 𝒱₀ ER (Rd I) (c : Thread nD τ) none (dst := (pr m c : Thread nD τ)) (κ := K (pr m c, 0))
      (d := m) (by rw [duties_reg]; exact Finset.mem_univ _) (amount_reg I (pr m c) 0 m) () (OT c j) rfl) $$ [HO Ht Hp]
  · isplitr; · iapply (recs_inv I K (pr m c, 0)); iexact HR
    isplitl [HO]; · iexact HO
    isplitl [Ht]; · iexact Ht
    isplitl [Hp]; · rw [payload_b, pr_pr]; iexact Hp
    iapply (recs_reached I K (pr m c, 0)); iexact HR
  iintro HO
  iapply Hk
  iexists W
  iexact HO

/-- The signal to a partner's second barrier. -/
theorem wp_esig (m : Fin 3) (j j' : ℕ) (hj : OT c j' = OT c j + tallyAt (eCell (pr m c)) () 1) (n : Dev nD) (hn : n = pr m c) (w : ℤ) (hw : w = ((1 : ℕ) : ℤ))
    {s : Sem sig} (hs : s = 1)
    {k : PUnit → Prog (TpuEff nD τ sig (Elt F) Λ₀ .tc) α} :
    iprop(recs I K ∗ dutyTok ER (eCell (pr m c)) 0 m ∗ Ow c j')
      ⊢ iprop((Ow c j -∗ WP c (k ⟨⟩) Q) -∗ WP c (.op (.semSignal (Dev.tc n : Thread nD τ) s w) k) Q) := by
  subst hn; subst hw; subst hs
  unfold Ow
  iintro ⟨#HR, Ht, %W, HO⟩ Hk
  rw [hj]
  iapply (Rounds.wp_signal 𝒱₀ ER (Rd I) (c : Thread nD τ) none (dst := (pr m c : Thread nD τ)) (κ := K (pr m c, 1))
      (d := m) (by rw [duties_reg]; exact Finset.mem_univ _) (amount_reg I (pr m c) 1 m) () (OT c j) rfl) $$ [HO Ht]
  · isplitr; · iapply (recs_inv I K (pr m c, 1)); iexact HR
    isplitl [HO]; · iexact HO
    isplitl [Ht]; · iexact Ht
    isplitr; · rw [payload_e]; iempintro
    iapply (recs_reached I K (pr m c, 1)); iexact HR
  iintro HO
  iapply Hk
  iexists W
  iexact HO

/-- The wait on the barrier: every partner's rooms come with it. -/
theorem wp_bwait (w : ℤ) (hw : w = ((3 : ℕ) : ℤ)) {s : Sem sig} (hs : s = 0)
    {k : PUnit → Prog (TpuEff nD τ sig (Elt F) Λ₀ .tc) α} :
    iprop(recs I K ∗ atPos ER (bCell c) 0 ∅ 0 ∗ cred (tallyAt (bCell c) () 3) ∗ Ow c 21)
      ⊢ iprop(((semVal (bCell c) 0 ∗ rooms (F := F) 0 (pr 0 c) ∗ rooms (F := F) 1 (pr 1 c) ∗ rooms (F := F) 2 (pr 2 c) ∗ Ow c 21) -∗ WP c (k ⟨⟩) Q)
        -∗ WP c (.op (.semWait s w) k) Q) := by
  subst hw; subst hs
  unfold Ow
  iintro ⟨#HR, Hat, Hc, %W, HO⟩ Hk
  iapply (Rounds.wp_wait_rest_token 𝒱₀ ER (Rd I) (c : Thread nD τ) none (κ := K (c, 0))
      (wpE_semWait_eq 𝒱₀ (c : Thread nD τ) none Set.univ) (Set.mem_univ _) () (O := OT c 21) (W := W) (R := 0) (m := 0) (T := ∅)
      (by rw [expect_reg])) $$ [Hc HO Hat]
  · isplitr; · iapply (recs_inv I K (c, 0)); iexact HR
    isplitl [Hc]; · iexact Hc
    isplitl [HO]; · iexact HO
    isplitr; · iapply (mayWait c bar0 21 (by decide)); iapply (recs_lev I K); iexact HR
    iexact Hat
  iintro ⟨HO, Hat, -, Hpay⟩
  ihave Hp := (Entails.of_eq (rest_b I c)) $$ Hpay
  imod (Rounds.cell_close ER (Rd I) (Set.mem_univ (K (c, 0))) (fun h => h) (R := 0 + 1) (duties_later I (bCell c))) $$ [Hat] with Hz
  · isplitr; · iapply (recs_inv I K (c, 0)); iexact HR
    iexact Hat
  icases Hp with ⟨H0, H1, H2⟩
  iapply Hk
  isplitl [Hz]; · iexact Hz
  isplitl [H0]; · iexact H0
  isplitl [H1]; · iexact H1
  isplitl [H2]; · iexact H2
  iexists _
  iexact HO

/-- The wait on the second barrier. -/
theorem wp_ewait (w : ℤ) (hw : w = ((3 : ℕ) : ℤ)) {s : Sem sig} (hs : s = 1)
    {k : PUnit → Prog (TpuEff nD τ sig (Elt F) Λ₀ .tc) α} :
    iprop(recs I K ∗ atPos ER (eCell c) 0 ∅ 0 ∗ cred (tallyAt (eCell c) () 3) ∗ Ow c 0)
      ⊢ iprop(((semVal (eCell c) 0 ∗ Ow c 0) -∗ WP c (k ⟨⟩) Q)
        -∗ WP c (.op (.semWait s w) k) Q) := by
  subst hw; subst hs
  unfold Ow
  iintro ⟨#HR, Hat, Hc, %W, HO⟩ Hk
  iapply (Rounds.wp_wait_rest_token 𝒱₀ ER (Rd I) (c : Thread nD τ) none (κ := K (c, 1))
      (wpE_semWait_eq 𝒱₀ (c : Thread nD τ) none Set.univ) (Set.mem_univ _) () (O := OT c 0) (W := W) (R := 0) (m := 0) (T := ∅)
      (by rw [expect_reg])) $$ [Hc HO Hat]
  · isplitr; · iapply (recs_inv I K (c, 1)); iexact HR
    isplitl [Hc]; · iexact Hc
    isplitl [HO]; · iexact HO
    isplitr; · iapply (Entails.of_eq (MayWait_zero (c : Thread nD τ) bar1 ()).symm); iempintro
    iexact Hat
  iintro ⟨HO, Hat, -, -⟩
  imod (Rounds.cell_close ER (Rd I) (Set.mem_univ (K (c, 1))) (fun h => h) (R := 0 + 1) (duties_later I (eCell c))) $$ [Hat] with Hz
  · isplitr; · iapply (recs_inv I K (c, 1)); iexact HR
    iexact Hat
  iapply Hk
  isplitl [Hz]; · iexact Hz
  iexists _
  iexact HO

section Wait
variable {s₁ s₂ : Shape} {e₁ e₂ : EltTy} {src : Memref sig .tc .vmem s₁ e₁} {dst : Memref sig .tc .vmem s₂ e₂}
  {hsrc : src.view.WordExact} {hdst : dst.view.WordExact}
  {k : PUnit → Prog (TpuEff nD τ sig (Elt F) Λ₀ .tc) α}

/-- The wait on a receive cell, owing credits of higher cells only: the landed rows come with it. -/
theorem wp_recv (t : Fin 18) (j : ℕ) (hj : 2 + t.val < ilv (24 - j)) {sm : DmaSem sig} (hs : sm = tR t) (hN : dst.view.dmaCredit = amt t) :
    iprop(recs I K ∗ Rx (F := F) t c ∗ Ow c j)
      ⊢ iprop(((Zr t c ∗ recvPay I t c ∗ Ow c j) -∗ WP c (k ⟨⟩) Q) -∗ WP c (.op (.waitDma2 sm src dst hsrc hdst) k) Q) := by
  subst hs
  unfold Ow Rx Zr
  iintro ⟨#HR, ⟨Hat, Hc⟩, %W, HO⟩ Hk
  iapply (Rounds.wp_wait_rest_token 𝒱₀ ER (Rd I) (c : Thread nD τ) none (κ := K (c, iR t))
      (wpE_waitDma2_eq 𝒱₀ (c : Thread nD τ) none Set.univ) (Set.mem_univ _) () (O := OT c j) (W := W) (R := 0) (m := 0) (T := ∅)
      (by rw [Nat.zero_add, hN, expect_r])) $$ [Hc HO Hat]
  · rw [hN]
    isplitr; · iapply (recs_inv_r I K t c); iexact HR
    isplitl [Hc]; · iexact Hc
    isplitl [HO]; · iexact HO
    isplitr; · iapply (mayWait c (.dma (tR t)) j (by rw [slv_tR]; exact hj)); iapply (recs_lev I K); iexact HR
    iexact Hat
  iintro ⟨HO, Hat, -, Hpay⟩
  ihave Hp := (Entails.of_eq (rest_r I c t)) $$ Hpay
  imod (Rounds.cell_close ER (Rd I) (Set.mem_univ (K (c, iR t))) (fun h => h) (R := 0 + 1) (duties_later I (rCell t c))) $$ [Hat] with Hz
  · isplitr; · iapply (recs_inv_r I K t c); iexact HR
    iexact Hat
  iapply Hk
  isplitl [Hz]; · iexact Hz
  isplitl [Hp]; · iexact Hp
  iexists _
  iexact HO

/-- The wait on a send cell: the lent rows come back. -/
theorem wp_sent (t : Fin 18) (j : ℕ) {sm : DmaSem sig} (hs : sm = tS t) (hN : dst.view.dmaCredit = amt t) :
    iprop(recs I K ∗ Sent (F := F) t c ∗ Ow c j)
      ⊢ iprop(((Zs t c ∗ sendPay I t c ∗ Ow c j) -∗ WP c (k ⟨⟩) Q) -∗ WP c (.op (.waitDma2 sm src dst hsrc hdst) k) Q) := by
  subst hs
  unfold Ow Sent Zs
  iintro ⟨#HR, ⟨Hat, Hc⟩, %W, HO⟩ Hk
  iapply (Rounds.wp_wait_rest_token 𝒱₀ ER (Rd I) (c : Thread nD τ) none (κ := K (c, iS t))
      (wpE_waitDma2_eq 𝒱₀ (c : Thread nD τ) none Set.univ) (Set.mem_univ _) () (O := OT c j) (W := W) (R := 0) (m := 0) (T := ∅)
      (by rw [Nat.zero_add, hN, expect_s])) $$ [Hc HO Hat]
  · rw [hN]
    isplitr; · iapply (recs_inv_s I K t c); iexact HR
    isplitl [Hc]; · iexact Hc
    isplitl [HO]; · iexact HO
    isplitr; · iapply (mayWait c (.dma (tS t)) j (by rw [slv_tS]; unfold ilv; split <;> (try split) <;> omega)); iapply (recs_lev I K); iexact HR
    iexact Hat
  iintro ⟨HO, Hat, -, Hpay⟩
  ihave Hp := (Entails.of_eq (rest_s I c t)) $$ Hpay
  imod (Rounds.cell_close ER (Rd I) (Set.mem_univ (K (c, iS t))) (fun h => h) (R := 0 + 1) (duties_later I (sCell t c))) $$ [Hat] with Hz
  · isplitr; · iapply (recs_inv_s I K t c); iexact HR
    iexact Hat
  iapply Hk
  isplitl [Hz]; · iexact Hz
  isplitl [Hp]; · iexact Hp
  iexists _
  iexact HO

end Wait

section Send
variable {R R' h : ℕ} (Ms : Memref sig .tc .vmem ⟨2, ![R, 1024]⟩ .bf16) (Md : Memref sig .tc .vmem ⟨2, ![R', 1024]⟩ .bf16)
  {offs offd : Fin 2 → ℕ} {inbs : ∀ x, offs x + (⟨2, ![h, 1024]⟩ : Shape).size x ≤ (⟨2, ![R, 1024]⟩ : Shape).size x}
  {inbd : ∀ x, offd x + (⟨2, ![h, 1024]⟩ : Shape).size x ≤ (⟨2, ![R', 1024]⟩ : Shape).size x}

set_option maxHeartbeats 1000000 in
/-- Transfer `t`, of rows from `a` on of one buffer to rows from `b` on of the receiver's: the lent rows `g` are what the send
    cell gives back, and they agree with what the receiver is to have. -/
theorem wp_xfer (t : Fin 18) (j j' : ℕ) (hj : OT c j' = OT c j + tallyAt (rCell t (tgt t c)) () (amt t)) (n : Dev nD) (hn : n = tgt t c)
    (a b : ℕ) (ha : offs = ![a, 0]) (hb : offd = ![b, 0]) {q : PosShare TreeShare} {g g' : ℕ → ℕ → Elt F .bf16}
    (hS : sendPay I t c = rd Ms.view c a h q g)
    (hL : ∀ f, land t (tgt t c) f = (rd Md.view (tgt t c) b h fullShare f : sProp 𝕄))
    (hP : recvPay I t (tgt t c) = rd Md.view (tgt t c) b h fullShare g')
    (hg : ∀ o k, o < h → k < 1024 → g' (b + o) k = g (a + o) k)
    (hN : amt t = RefSig.tileCredit ⟨2, ![h, 1024]⟩ .bf16)
    {sS sR : DmaSem sig} (hsS : sS = tS t) (hsR : sR = tR t)
    {hus : ∀ x, (Rect.unit (s := ⟨2, ![R, 1024]⟩) offs (⟨2, ![h, 1024]⟩ : Shape).size inbs).stride x = 1}
    {hud : ∀ x, (Rect.unit (s := ⟨2, ![R', 1024]⟩) offd (⟨2, ![h, 1024]⟩ : Shape).size inbd).stride x = 1}
    {hsc : (Memref.slice (κ := (Dev.tc n : Thread nD τ).2.kind) Md (Rect.unit (s := ⟨2, ![R', 1024]⟩) offd (⟨2, ![h, 1024]⟩ : Shape).size inbd) hud).view.ref.isScScratch = false}
    {hsrc : (Ms.slice (Rect.unit (s := ⟨2, ![R, 1024]⟩) offs (⟨2, ![h, 1024]⟩ : Shape).size inbs) hus).view.WordExact}
    {hdst : (Md.slice (Rect.unit (s := ⟨2, ![R', 1024]⟩) offd (⟨2, ![h, 1024]⟩ : Shape).size inbd) hud).view.WordExact}
    {hsem : DmaTarget.Typed .vmem (.dma sR) (.remote (Dev.tc n : Thread nD τ)
      (Memref.slice (κ := (Dev.tc n : Thread nD τ).2.kind) Md (Rect.unit (s := ⟨2, ![R', 1024]⟩) offd (⟨2, ![h, 1024]⟩ : Shape).size inbd) hud) (.dma sS) hsc)}
    {k : PUnit → Prog (TpuEff nD τ sig (Elt F) Λ₀ .tc) α} :
    iprop(recs I K ∗ Tx (F := F) t c ∗ room (F := F) t (tgt t c) ∗ sendPay I t c ∗ Ow c j')
      ⊢ iprop(((Sent (F := F) t c ∗ Ow c j) -∗ WP c (k ⟨⟩) Q)
        -∗ WP c (.op (.enqueueDma (Ms.slice (Rect.unit (s := ⟨2, ![R, 1024]⟩) offs (⟨2, ![h, 1024]⟩ : Shape).size inbs) hus)
          (.remote (Dev.tc n : Thread nD τ) (Memref.slice (κ := (Dev.tc n : Thread nD τ).2.kind) Md
            (Rect.unit (s := ⟨2, ![R', 1024]⟩) offd (⟨2, ![h, 1024]⟩ : Shape).size inbd) hud) (.dma sS) hsc) (.dma sR) hsrc hdst hsem) k) Q) := by
  subst hn; subst ha; subst hb; subst hsS; subst hsR
  unfold Ow Tx Sent room
  iintro ⟨#HR, ⟨Hat, Ht, Ht'⟩, ⟨%gd, Hd⟩, Hs, %W, HO⟩ Hk
  rw [hj]
  ihave Hd' := (Entails.of_eq (hL gd)) $$ Hd
  ihave Hs' := (Entails.of_eq hS) $$ Hs
  unfold rd
  icases Hd' with ⟨%fd, %hfd, Hd⟩
  icases Hs' with ⟨%fs, %hfs, Hs⟩
  have es : (Ms.slice (Rect.unit (s := ⟨2, ![R, 1024]⟩) ![a, 0] (⟨2, ![h, 1024]⟩ : Shape).size inbs) hus).view.set = Ms.view.setOn (rws a h) := by
    show (Ms.view.slice _).set = _
    rw [View.set_slice, rect_rws]; rfl
  have ed : (Md.slice (Rect.unit (s := ⟨2, ![R', 1024]⟩) ![b, 0] (⟨2, ![h, 1024]⟩ : Shape).size inbd) hud).view.set = Md.view.setOn (rws b h) := by
    show (Md.view.slice _).set = _
    rw [View.set_slice, rect_rws]; rfl
  have hamt : (Md.slice (Rect.unit (s := ⟨2, ![R', 1024]⟩) ![b, 0] (⟨2, ![h, 1024]⟩ : Shape).size inbd) hud).view.amount (.dma (tR t)) = amt t := hN.symm
  iapply (Rounds.wp_send_pointsTo 𝒱₀ ER (Rd I) (c : Thread nD τ) none (c' := (tgt t c : Thread nD τ)) (s := ⟨2, ![h, 1024]⟩)
    (src := Ms.slice (Rect.unit (s := ⟨2, ![R, 1024]⟩) ![a, 0] (⟨2, ![h, 1024]⟩ : Shape).size inbs) hus)
    (dst := Md.slice (Rect.unit (s := ⟨2, ![R', 1024]⟩) ![b, 0] (⟨2, ![h, 1024]⟩ : Shape).size inbd) hud) (sS := .dma (tS t)) (sem := .dma (tR t))
    (κ₁ := K (c, iS t)) (κ₂ := K (tgt t c, iR t))
    (r₁ := 0) (r₂ := 0) (d₁ := 0) (d₂ := 0) (fd := fd) (fs := fs) (q := q)
    (by rw [duties_s]; exact Finset.mem_singleton_self _) (by rw [duties_r]; exact Finset.mem_singleton_self _)
    () () (amt t) hamt (amount_s I c t 0) (amount_r I (tgt t c) t 0) (OT c j) rfl (W := W)
    (by
      rw [payload_s, hS, es]
      unfold rd
      iintro H
      iexists fs
      isplitr
      · ipureintro; exact hfs
      · iexact H)
    (by
      rw [payload_r, hP, ed]
      unfold rd
      iintro H
      iexists _
      isplitr
      rotate_left
      · iexact H
      · ipureintro
        intro i hi
        rw [← rect_rws b inbd, ← Rect.map_emb_univ] at hi
        obtain ⟨x, -, rfl⟩ := Finset.mem_map.mp hi
        show Md.view.read (Elt F) ((Md.view.slice (Rect.unit (s := ⟨2, ![R', 1024]⟩) ![b, 0] (⟨2, ![h, 1024]⟩ : Shape).size inbd)).write (Elt F) fd _ Finset.univ) _ = _
        rw [View.read_slice_write_emb _ _ _ (Finset.mem_univ x), (emb_unit_val b inbd x).1, (emb_unit_val b inbd x).2,
          hg _ _ (x 0).isLt (x 1).isLt]
        have hm : (Rect.unit (s := ⟨2, ![R, 1024]⟩) ![a, 0] (⟨2, ![h, 1024]⟩ : Shape).size inbs).emb x ∈ (rws a h : Finset (⟨2, ![R, 1024]⟩ : Shape).Idx) := by
          rw [← rect_rws a inbs, ← Rect.map_emb_univ]; exact Finset.mem_map_of_mem _ (Finset.mem_univ x)
        have := hfs _ hm
        rw [(emb_unit_val a inbs x).1, (emb_unit_val a inbs x).2] at this
        exact this)) $$ [Hs Hd HO Ht Ht']
  · isplitr; · iapply (recs_inv_s I K t c); iexact HR
    isplitr; · iapply (recs_inv_r I K t (tgt t c)); iexact HR
    isplitl [Hs]; · rw [es]; iexact Hs
    isplitl [Hd]; · rw [ed]; iexact Hd
    isplitl [HO]; · iexact HO
    isplitl [Ht]; · iexact Ht
    isplitr; · iapply (recs_reached_s I K t c); iexact HR
    isplitl [Ht']; · iexact Ht'
    iapply (recs_reached_r I K t (tgt t c)); iexact HR
  iintro ⟨Hc, HO⟩
  iapply Hk
  isplitl [Hat Hc]
  · isplitl [Hat]; · iexact Hat
    iexact Hc
  iexists W
  iexact HO

end Send

end Steps

end Cert.Ops
-- ==== Proof.Steps.lean ====
/-
# The body's repeated steps

A sub-block stored, a transfer sent and one received, each on the rows it touches.
-/
module

public import proofs.«01_k».proof.Proof.Blocks
public import proofs.«01_k».proof.Proof.Ops

@[expose] public section

noncomputable section

namespace Cert.Steps

open Cert.KernelIdeal Cert.KernelIdeal.Gen Cert.Geom Cert.Regions Cert.Contents Cert.Protocol Cert.Offsets Cert.Blocks Cert.Ops

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × Fin 44 → ℕ)
variable {α : Type} {Q : α → sProp (MT nD τ sig Unit (Elt F) ℕ UU ℕ)} (c : Dev nD)

/-! ## Sub-blocks -/

/-- A slot lies in its half. -/
theorem cho_in (p : Fin 3) (a j m : ℕ) : base p + 4 * a * sub p ≤ cho p a j m c ∧ cho p a j m c + sub p ≤ base p + 4 * a * sub p + 4 * sub p := by
  unfold cho
  have h1 : (j + ky p 1 c) % 2 < 2 := Nat.mod_lt _ (by decide)
  have h2 : (m + ky p 2 c) % 2 < 2 := Nat.mod_lt _ (by decide)
  have h3 : ∀ x y : ℕ, x = 4 * a + y → y < 4 → base p + 4 * a * sub p ≤ base p + x * sub p ∧ base p + x * sub p + sub p ≤ base p + 4 * a * sub p + 4 * sub p := by
    intro x y hx hy
    subst hx
    rcases sub_cases p with h | h <;> rw [h] <;> omega
  exact h3 _ (2 * ((j + ky p 1 c) % 2) + (m + ky p 2 c) % 2) (by omega) (by omega)

/-- A half's rows with one slot rewritten. -/
abbrev fill (p : Fin 3) (a j m : ℕ) (g : ℕ → ℕ → Elt F .bf16) : ℕ → ℕ → Elt F .bf16 := put g (cho p a j m c) (sub p) (P0 I p c)

/-- A slot read: the rows stay. -/
theorem wp_peek (p : Fin 3) (a j m lo n h : ℕ) (hlo : lo = base p + 4 * a * sub p) (hn : n = 4 * sub p) (hh : h = sub p)
    {off : Fin 2 → ℕ} (hoff : off = ![cho p a j m c, 0]) {inb : ∀ x, off x + (⟨2, ![h, 1024]⟩ : Shape).size x ≤ (⟨2, ![2048, 1024]⟩ : Shape).size x}
    {g : ℕ → ℕ → Elt F .bf16}
    {hl : pM.view.LoadsAt (Rect.unit (s := ⟨2, ![2048, 1024]⟩) off (⟨2, ![h, 1024]⟩ : Shape).size inb).toLoadRect}
    {k : ((⟨2, ![h, 1024]⟩ : Shape).Idx → Elt F .bf16) → Prog (TpuEff nD τ sig (Elt F) Λ₀ .tc) α} :
    (rd pM.view c lo n fullShare g : sProp 𝕄) ⊢ iprop((rd pM.view c lo n fullShare g -∗ WP c (k (blk g (cho p a j m c))) Q)
      -∗ WP c (.op (.load pM (Rect.unit (s := ⟨2, ![2048, 1024]⟩) off (⟨2, ![h, 1024]⟩ : Shape).size inb).toLoadRect hl) k) Q) := by
  subst hlo hn hh
  exact wp_load_rd pM c (cho p a j m c) hoff (cho_in c p a j m).1 (cho_in c p a j m).2

/-- A sub-block of the compute stored in its slot. -/
theorem wp_fill (p : Fin 3) (a j m lo n h : ℕ) (hlo : lo = base p + 4 * a * sub p) (hn : n = 4 * sub p) (hh : h = sub p)
    {off : Fin 2 → ℕ} (hoff : off = ![cho p a j m c, 0]) {inb : ∀ x, off x + (⟨2, ![h, 1024]⟩ : Shape).size x ≤ (⟨2, ![2048, 1024]⟩ : Shape).size x}
    {g : ℕ → ℕ → Elt F .bf16} {w : (⟨2, ![h, 1024]⟩ : Shape).Idx → Elt F .bf16} (hw : w = blk (P0 I p c) (cho p a j m c))
    {hx : (pM.access (Rect.unit (s := ⟨2, ![2048, 1024]⟩) off (⟨2, ![h, 1024]⟩ : Shape).size inb)).Stores Finset.univ}
    {hm : Finset.univ = Finset.univ ∨ ∀ x, (Rect.unit (s := ⟨2, ![2048, 1024]⟩) off (⟨2, ![h, 1024]⟩ : Shape).size inb).stride x = 1}
    {k : PUnit → Prog (TpuEff nD τ sig (Elt F) Λ₀ .tc) α} :
    (rd pM.view c lo n fullShare g : sProp 𝕄) ⊢ iprop((rd pM.view c lo n fullShare (fill I c p a j m g) -∗ WP c (k ⟨⟩) Q)
      -∗ WP c (.op (.store pM (Rect.unit (s := ⟨2, ![2048, 1024]⟩) off (⟨2, ![h, 1024]⟩ : Shape).size inb) w Finset.univ hx hm) k) Q) := by
  subst hlo hn hh
  exact wp_store_rd pM c (cho p a j m c) hoff (cho_in c p a j m).1 (cho_in c p a j m).2 (fill I c p a j m g)
    (hw.trans (blk_put g _ _).symm) (fun r k _ _ _ hr => put_off g _ _ _ r k hr)

/-- Four sub-blocks stored: the half holds the compute. -/
theorem filled (p : Fin 3) (a lo n : ℕ) (hlo : lo = base p + 4 * a * sub p) (hn : n = 4 * sub p) (g : ℕ → ℕ → Elt F .bf16) :
    (rd pM.view c lo n fullShare (fill I c p a 1 1 (fill I c p a 1 0 (fill I c p a 0 1 (fill I c p a 0 0 g)))) : sProp 𝕄)
      ⊢ rd pM.view c lo n fullShare (P0 I p c) := by
  subst hlo hn
  exact rd_congr pM.view c _ _ _ (fun r k h₁ h₂ _ => put4 p a c g (P0 I p c) r k h₁ h₂)

/-! ## Sums -/

/-- The sum of two bands' rows, where it is a third contents' rows. -/
theorem sum_blk {h : ℕ} (P S R : ℕ → ℕ → Elt F .bf16) (a b d : ℕ) (hR : ∀ o k, o < h → R (d + o) k = FloatOps.addf (φ := .bf16) (P (a + o) k) (S (b + o) k)) :
    addf (φ := .bf16) (blk P a : (⟨2, ![h, 1024]⟩ : Shape).Idx → Elt F .bf16) (blk S b) = blk R d :=
  funext fun i => (hR (i 0).val (i 1).val (i 0).isLt).symm

/-- The same, cast to its own shape. -/
theorem sum_cast {h : ℕ} (P S R : ℕ → ℕ → Elt F .bf16) (a b d : ℕ) (hR : ∀ o k, o < h → R (d + o) k = FloatOps.addf (φ := .bf16) (P (a + o) k) (S (b + o) k)) (hs) :
    shapeCast ⟨2, ![h, 1024]⟩ (addf (φ := .bf16) (blk P a : (⟨2, ![h, 1024]⟩ : Shape).Idx → Elt F .bf16) (blk S b)) hs = blk R d := by
  rw [shapeCast_self]; exact sum_blk P S R a b d hR

/-- A band rewritten whole has no rows left over. -/
theorem no_rest {g g' : ℕ → ℕ → Elt F .bf16} {a h : ℕ} : ∀ r k : ℕ, a ≤ r → r < a + h → k < 1024 → ¬ (a ≤ r ∧ r < a + h) → g' r k = g r k :=
  fun _ _ h₁ h₂ _ h => absurd ⟨h₁, h₂⟩ h

/-- The third exchange's sum, by the result's rows. -/
theorem fin_sum (p : Fin 3) (q o k : ℕ) (hq : q < 2) (ho : o < sub p) :
    OUT I p c (fin3 p q c + o) k = FloatOps.addf (φ := .bf16) (P2 I p c (base p + q * sub p + o) k) (SG I p c ((6 + q) * sub p + o) k) :=
  add2 I p c q o k hq ho

/-! ## The result's rows -/

section Rows
variable (q : PosShare TreeShare) (g : ℕ → ℕ → Elt F .bf16) (p : Fin 3)

/-- The two sub-blocks a device completes make its pair. -/
theorem own2_glue (s n : ℕ) (hs : s = sub p) (hn : n = 2 * sub p) :
    iprop(rd oM.view c (fin3 p 0 c) s q g ∗ rd oM.view c (fin3 p 1 c) s q g) ⊢ (rd oM.view c (own2 p c) n q g : sProp 𝕄) := by
  subst hs hn
  have h := ky_lt p 2 c
  refine rd_glue2 oM.view c (b := ky p 2 c) q g h ?_ ?_ (by omega)
  · unfold fin3 own2; rw [Nat.zero_add, Nat.mod_eq_of_lt h, Nat.add_mul, Nat.add_assoc]
  · unfold fin3 own2; rw [show (1 + ky p 2 c) % 2 = 1 - ky p 2 c by omega, Nat.add_mul, Nat.add_assoc]

theorem own2_cut (s n : ℕ) (hs : s = sub p) (hn : n = 2 * sub p) :
    (rd oM.view c (own2 p c) n q g : sProp 𝕄) ⊢ iprop(rd oM.view c (fin3 p 0 c) s q g ∗ rd oM.view c (fin3 p 1 c) s q g) := by
  subst hs hn
  have h := ky_lt p 2 c
  refine rd_cut2 oM.view c (b := ky p 2 c) q g h ?_ ?_ (by omega)
  · unfold fin3 own2; rw [Nat.zero_add, Nat.mod_eq_of_lt h, Nat.add_mul, Nat.add_assoc]
  · unfold fin3 own2; rw [show (1 + ky p 2 c) % 2 = 1 - ky p 2 c by omega, Nat.add_mul, Nat.add_assoc]

theorem own2_pos : own2 p c = own4 p c + ky p 1 c * (2 * sub p) ∧ own2 p (peer p 1 c) = own4 p c + (1 - ky p 1 c) * (2 * sub p) := by
  unfold own2 own4
  rw [ky_peer, ky_peer, if_neg (by decide), if_pos rfl]
  simp only [Nat.add_mul]
  constructor <;> rw [Nat.mul_assoc 2, Nat.mul_left_comm 2, Nat.add_assoc]

/-- A device's pair and its second partner's make its half. -/
theorem own4_glue (s n : ℕ) (hs : s = 2 * sub p) (hn : n = 4 * sub p) :
    iprop(rd oM.view c (own2 p c) s q g ∗ rd oM.view c (own2 p (peer p 1 c)) s q g) ⊢ (rd oM.view c (own4 p c) n q g : sProp 𝕄) := by
  subst hs hn
  exact rd_glue2 oM.view c (b := ky p 1 c) q g (ky_lt p 1 c) (own2_pos c p).1 (own2_pos c p).2 (by omega)

theorem own4_cut (s n : ℕ) (hs : s = 2 * sub p) (hn : n = 4 * sub p) :
    (rd oM.view c (own4 p c) n q g : sProp 𝕄) ⊢ iprop(rd oM.view c (own2 p c) s q g ∗ rd oM.view c (own2 p (peer p 1 c)) s q g) := by
  subst hs hn
  exact rd_cut2 oM.view c (b := ky p 1 c) q g (ky_lt p 1 c) (own2_pos c p).1 (own2_pos c p).2 (by omega)

theorem own4_pos : own4 p c = base p + ky p 0 c * (4 * sub p) ∧ own4 p (peer p 0 c) = base p + (1 - ky p 0 c) * (4 * sub p) := by
  unfold own4
  rw [ky_peer, if_pos rfl]
  constructor <;> rw [Nat.mul_assoc 4, Nat.mul_left_comm 4]

/-- A device's half and its first partner's make the part. -/
theorem own8_glue (s n : ℕ) (hs : s = 4 * sub p) (hn : n = 8 * sub p) :
    iprop(rd oM.view c (own4 p c) s q g ∗ rd oM.view c (own4 p (peer p 0 c)) s q g) ⊢ (rd oM.view c (base p) n q g : sProp 𝕄) := by
  subst hs hn
  exact rd_glue2 oM.view c (b := ky p 0 c) q g (ky_lt p 0 c) (own4_pos c p).1 (own4_pos c p).2 (by omega)

theorem own8_cut (s n : ℕ) (hs : s = 4 * sub p) (hn : n = 8 * sub p) :
    (rd oM.view c (base p) n q g : sProp 𝕄) ⊢ iprop(rd oM.view c (own4 p c) s q g ∗ rd oM.view c (own4 p (peer p 0 c)) s q g) := by
  subst hs hn
  exact rd_cut2 oM.view c (b := ky p 0 c) q g (ky_lt p 0 c) (own4_pos c p).1 (own4_pos c p).2 (by omega)

end Rows

/-- The rows a device sends of the result are the receiver's result too. -/
theorem land4 (p : Fin 3) (o k : ℕ) (ho : o < 2 * sub p) : OUT I p (peer p 1 c) (own2 p c + o) k = OUT I p c (own2 p c + o) k := by
  have h0 := ky_lt p 0 c
  have h1 := ky_lt p 1 c
  refine out_peer I p 1 (Or.inr rfl) c _ k (by unfold own2; omega) ?_
  unfold own2
  rcases sub_cases p with h | h <;> rw [h] at ho ⊢ <;> omega
theorem land5 (p : Fin 3) (o k : ℕ) (ho : o < 4 * sub p) : OUT I p (peer p 0 c) (own4 p c + o) k = OUT I p c (own4 p c + o) k := by
  have h0 := ky_lt p 0 c
  refine out_peer I p 0 (Or.inl rfl) c _ k (by unfold own4; omega) ?_
  unfold own4
  rcases sub_cases p with h | h <;> rw [h] at ho ⊢ <;> omega

/-- Where a transfer of the result lands at its receiver. -/
theorem land_out (t : Fin 18) (ht : ¬ kind t < 4) (f : ℕ → ℕ → Elt F .bf16) :
    land t (tgt t c) f = (rd oM.view (tgt t c) (olo t c) (dn t) fullShare f : sProp 𝕄) := by
  unfold land; rw [if_neg ht, tgt_tgt]
theorem recv_out (t : Fin 18) (ht : ¬ kind t < 4) :
    recvPay I t (tgt t c) = rd oM.view (tgt t c) (olo t c) (dn t) fullShare (OUT I (pt t) (tgt t c)) := by
  unfold recvPay; rw [land_out c t ht, if_neg ht]

/-! ## Transfers -/

section Wait
variable {s₁ s₂ : Shape} {e₁ e₂ : EltTy} {src : Memref sig .tc .vmem s₁ e₁} {dst : Memref sig .tc .vmem s₂ e₂}
  {hsrc : src.view.WordExact} {hdst : dst.view.WordExact}
  {k : PUnit → Prog (TpuEff nD τ sig (Elt F) Λ₀ .tc) α}

/-- A transfer received, with the rows it filled spelled out. -/
theorem wp_take (t : Fin 18) (j : ℕ) (hj : 2 + t.val < ilv (24 - j)) (X : sProp (MT nD τ sig Unit (Elt F) ℕ UU ℕ)) (hX : recvPay I t c = X)
    {sm : DmaSem sig} (hs : sm = tR t) (hN : dst.view.dmaCredit = amt t) :
    iprop(recs I K ∗ Rx (F := F) t c ∗ Ow c j)
      ⊢ iprop(((Zr t c ∗ X ∗ Ow c j) -∗ WP c (k ⟨⟩) Q) -∗ WP c (.op (.waitDma2 sm src dst hsrc hdst) k) Q) := by
  subst hX
  exact wp_recv I K c t j hj hs hN

/-- A transfer known sent, with the rows it lent spelled out. -/
theorem wp_back (t : Fin 18) (j : ℕ) (X : sProp (MT nD τ sig Unit (Elt F) ℕ UU ℕ)) (hX : sendPay I t c = X)
    {sm : DmaSem sig} (hs : sm = tS t) (hN : dst.view.dmaCredit = amt t) :
    iprop(recs I K ∗ Sent (F := F) t c ∗ Ow c j)
      ⊢ iprop(((Zs t c ∗ X ∗ Ow c j) -∗ WP c (k ⟨⟩) Q) -∗ WP c (.op (.waitDma2 sm src dst hsrc hdst) k) Q) := by
  subst hX
  exact wp_sent I K c t j hs hN

end Wait

section Send
variable {R R' h : ℕ} (Ms : Memref sig .tc .vmem ⟨2, ![R, 1024]⟩ .bf16) (Md : Memref sig .tc .vmem ⟨2, ![R', 1024]⟩ .bf16)
  {offs offd : Fin 2 → ℕ} {inbs : ∀ x, offs x + (⟨2, ![h, 1024]⟩ : Shape).size x ≤ (⟨2, ![R, 1024]⟩ : Shape).size x}
  {inbd : ∀ x, offd x + (⟨2, ![h, 1024]⟩ : Shape).size x ≤ (⟨2, ![R', 1024]⟩ : Shape).size x}

/-- A transfer sent, with the rows it lends spelled out. -/
theorem wp_give (t : Fin 18) (j j' : ℕ) (hj : OT c j' = OT c j + tallyAt (rCell t (tgt t c)) () (amt t)) (n : Dev nD) (hn : n = tgt t c)
    (a b : ℕ) (ha : offs = ![a, 0]) (hb : offd = ![b, 0]) {q : PosShare TreeShare} {g : ℕ → ℕ → Elt F .bf16} (g' : ℕ → ℕ → Elt F .bf16)
    (hS : sendPay I t c = rd Ms.view c a h q g)
    (hL : ∀ f, land t (tgt t c) f = (rd Md.view (tgt t c) b h fullShare f : sProp 𝕄))
    (hP : recvPay I t (tgt t c) = rd Md.view (tgt t c) b h fullShare g')
    (hg : ∀ o k, o < h → k < 1024 → g' (b + o) k = g (a + o) k)
    (hN : amt t = RefSig.tileCredit ⟨2, ![h, 1024]⟩ .bf16)
    {sS sR : DmaSem sig} (hsS : sS = tS t) (hsR : sR = tR t)
    {hus : ∀ x, (Rect.unit (s := ⟨2, ![R, 1024]⟩) offs (⟨2, ![h, 1024]⟩ : Shape).size inbs).stride x = 1}
    {hud : ∀ x, (Rect.unit (s := ⟨2, ![R', 1024]⟩) offd (⟨2, ![h, 1024]⟩ : Shape).size inbd).stride x = 1}
    {hsc : (Memref.slice (κ := (Dev.tc n : Thread nD τ).2.kind) Md (Rect.unit (s := ⟨2, ![R', 1024]⟩) offd (⟨2, ![h, 1024]⟩ : Shape).size inbd) hud).view.ref.isScScratch = false}
    {hsrc : (Ms.slice (Rect.unit (s := ⟨2, ![R, 1024]⟩) offs (⟨2, ![h, 1024]⟩ : Shape).size inbs) hus).view.WordExact}
    {hdst : (Md.slice (Rect.unit (s := ⟨2, ![R', 1024]⟩) offd (⟨2, ![h, 1024]⟩ : Shape).size inbd) hud).view.WordExact}
    {hsem : DmaTarget.Typed .vmem (.dma sR) (.remote (Dev.tc n : Thread nD τ)
      (Memref.slice (κ := (Dev.tc n : Thread nD τ).2.kind) Md (Rect.unit (s := ⟨2, ![R', 1024]⟩) offd (⟨2, ![h, 1024]⟩ : Shape).size inbd) hud) (.dma sS) hsc)}
    {k : PUnit → Prog (TpuEff nD τ sig (Elt F) Λ₀ .tc) α} :
    iprop(recs I K ∗ Tx (F := F) t c ∗ room (F := F) t (tgt t c) ∗ rd Ms.view c a h q g ∗ Ow c j')
      ⊢ iprop(((Sent (F := F) t c ∗ Ow c j) -∗ WP c (k ⟨⟩) Q)
        -∗ WP c (.op (.enqueueDma (Ms.slice (Rect.unit (s := ⟨2, ![R, 1024]⟩) offs (⟨2, ![h, 1024]⟩ : Shape).size inbs) hus)
          (.remote (Dev.tc n : Thread nD τ) (Memref.slice (κ := (Dev.tc n : Thread nD τ).2.kind) Md
            (Rect.unit (s := ⟨2, ![R', 1024]⟩) offd (⟨2, ![h, 1024]⟩ : Shape).size inbd) hud) (.dma sS) hsc) (.dma sR) hsrc hdst hsem) k) Q) := by
  rw [← hS]
  exact wp_xfer I K c Ms Md t j j' hj n hn a b ha hb hS hL hP hg hN hsS hsR

end Send

end Cert.Steps
-- ==== Proof.PartsA.lean ====
/-
# The body, part by part: the barrier and the first span of each part

The kernel's body is printed in parts. One theorem a part: from what the part needs, what it leaves, for any continuation.
-/
module

public import proofs.«01_k».proof.Proof.Steps

@[expose] public section

noncomputable section

namespace Cert.Parts

open Cert.KernelIdeal Cert.KernelIdeal.Gen Cert.Geom Cert.Regions Cert.Contents Cert.Protocol Cert.Offsets Cert.Blocks Cert.Ops Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A printed part at the kernel's buffers and semaphores. -/
abbrev onBufs {X : Type _}
    (f : (arg0 : Memref sig .tc .vmem S2048x512 .bf16) → arg0.IsWhole → (arg1 : Memref sig .tc .vmem S512x32 .bf16) → arg1.IsWhole
      → (arg2 : Memref sig .tc .vmem S2048x1 .i32) → arg2.IsWhole → (arg3 : Memref sig .tc .vmem S4x512x1024 .bf16) → arg3.IsWhole
      → (arg4 : Memref sig .tc .vmem S2048x1024 .bf16) → arg4.IsWhole → (arg5 : Memref sig .tc .vmem S2048x1024 .bf16) → arg5.IsWhole
      → (arg6 : Memref sig .tc .vmem S768x1024 .bf16) → arg6.IsWhole → (arg7 : Memref sig .tc .vmem S640x1024 .bf16) → arg7.IsWhole
      → (arg8 : Memref sig .tc .vmem S640x1024 .bf16) → arg8.IsWhole
      → DmaSems sig S4 → DmaSems sig S4 → DmaSems sig S3 → DmaSems sig S3 → DmaSems sig S4 → DmaSems sig S4 → DmaSems sig S3 → DmaSems sig S3
      → DmaSems sig S4 → DmaSems sig S4 → DmaSems sig S3 → DmaSems sig S3 → Sems sig S_ → X) : X :=
  f xM (Memref.isWhole_whole _) uM (Memref.isWhole_whole _) rM (Memref.isWhole_whole _) eM (Memref.isWhole_whole _)
    oM (Memref.isWhole_whole _) pM (Memref.isWhole_whole _) g0M (Memref.isWhole_whole _) g1M (Memref.isWhole_whole _)
    g2M (Memref.isWhole_whole _)
    cc0_scratch4 cc0_scratch5 cc0_scratch6 cc0_scratch7 cc0_scratch8 cc0_scratch9 cc0_scratch10 cc0_scratch11
    cc0_scratch12 cc0_scratch13 cc0_scratch14 cc0_scratch15 cc0_scoped0

variable (I : Inp F) (K : Dev nD × Fin 44 → ℕ)

/-- Device `c`'s experts, whole. -/
def eR (c : Dev nD) : sProp 𝕄 :=
  iprop(∃ f : Buf (Elt F) (eM.view.loc (c : Thread nD τ)), ⌜eM.view.read (Elt F) f = I.e c⌝ ∗ (eM.view.loc (c : Thread nD τ) ↦[eM.view.setOn Finset.univ]{fullShare} f))
/-- What the compute reads: tokens, routes, experts. -/
def xR (c : Dev nD) : sProp 𝕄 := rd xM.view c 0 2048 fullShare (xN I c)
def rR (c : Dev nD) : sProp 𝕄 := rd rM.view c 0 2048 fullShare (rN I c)

variable {α : Type} {Q : α → sProp (MT nD τ sig Unit (Elt F) ℕ UU ℕ)} (c : Dev nD)

/-- The load of an expert. -/
theorem wp_load_ex (e : Fin 4) {off : Fin 3 → ℕ} (hoff : off = ![e.val, 0, 0]) {inb : ∀ x, off x + S1x512x1024.size x ≤ S4x512x1024.size x}
    {hl : eM.view.LoadsAt (Rect.unit (s := S4x512x1024) off S1x512x1024.size inb).toLoadRect}
    {k : (S1x512x1024.Idx → Elt F .bf16) → Prog (TpuEff nD τ sig (Elt F) Λ₀ .tc) α} :
    (eR I c : sProp 𝕄) ⊢ iprop((eR I c -∗ WP c (k (ex I c e)) Q)
      -∗ WP c (.op (.load eM (Rect.unit (s := S4x512x1024) off S1x512x1024.size inb).toLoadRect hl) k) Q) := by
  subst hoff
  unfold eR
  iintro ⟨%f, %hf, H⟩ Hk
  have hv : (eM.access (Rect.unit (s := S4x512x1024) ![e.val, 0, 0] S1x512x1024.size inb)).read (Elt F) f = ex I c e := by
    funext i
    have := congrFun hf ((Rect.unit (s := S4x512x1024) ![e.val, 0, 0] S1x512x1024.size inb).emb i)
    refine this.trans ?_
    unfold ex
    congr 1
    funext x
    apply Fin.ext
    have h0 : (i 0).val < 1 := (i 0).isLt
    fin_cases x
    · show e.val + 1 * (i 0).val = e.val
      omega
    · show 0 + 1 * (i 1).val = (i 1).val
      omega
    · show 0 + 1 * (i 2).val = (i 2).val
      omega
  iapply (wp_load_rect 𝒱₀ (c : Thread nD τ) none Set.univ (m := eM) (r := Rect.unit (s := S4x512x1024) ![e.val, 0, 0] S1x512x1024.size inb)
    (S := eM.view.setOn Finset.univ) (q := fullShare) (f := f) (by
    rw [View.set_slice]; exact Finset.map_subset_map.mpr (Finset.subset_univ _))) $$ H
  iintro H
  rw [hv]
  iapply Hk
  iexists f
  isplitr
  · ipureintro; exact hf
  · iexact H

/-- The barrier: each partner is signalled and handed the rows its transfers may write, and the partners' rows come in. -/
theorem part1 {k : _ → Prog (TpuEff nD τ sig (Elt F) Λ₀ .tc) α} :
    iprop(recs I K ∗ (rooms (F := F) 0 c ∗ rooms (F := F) 1 c ∗ rooms (F := F) 2 c)
        ∗ (dutyTok ER (bCell (pr 0 c)) 0 0 ∗ dutyTok ER (bCell (pr 1 c)) 0 1 ∗ dutyTok ER (bCell (pr 2 c)) 0 2)
        ∗ atPos ER (bCell c) 0 ∅ 0 ∗ cred (tallyAt (bCell c) () 3) ∗ Ow c 24)
      ⊢ iprop(((semVal (bCell c) 0 ∗ rooms (F := F) 0 (pr 0 c) ∗ rooms (F := F) 1 (pr 1 c) ∗ rooms (F := F) 2 (pr 2 c) ∗ Ow c 21)
          -∗ ∀ (w₁ w₂ w₃ w₄ w₅ w₆ : BitVec 32), WP c (k ⟨c, wd c, w₁, w₂, w₃, w₄, w₅, w₆⟩) Q)
        -∗ WP c (onBufs (k0_part1 (F := F)) >>= k) Q) := by
  unfold onBufs
  rw [k0_part1_eq_skeleton]
  unfold k0_part1_skel
  simp only [semSignalWord, semWaitWord, Prog.lift, Prog.bind_op, Prog.bind_ret, Prog.pure_eq_ret, Prog.bind_assoc, wp_deviceId]
  iintro ⟨#HR, ⟨H0, H1, H2⟩, ⟨T0, T1, T2⟩, Hat, Hc, HO⟩ Hk
  iapply (wp_bsig I K c 0 23 24 rfl _ (dev1_eq c) _ (by decide) rfl) $$ [$HR $H0 $T0 $HO]
  iintro HO
  iapply (wp_bsig I K c 1 22 23 rfl _ (dev2_eq c) _ (by decide) rfl) $$ [$HR $H1 $T1 $HO]
  iintro HO
  iapply (wp_bsig I K c 2 21 22 rfl _ (dev3_eq c) _ (by decide) rfl) $$ [$HR $H2 $T2 $HO]
  iintro HO
  iapply (wp_bwait I K c _ (by decide) rfl) $$ [$HR $Hat $Hc $HO]
  iintro H
  ispecialize Hk $$ H %_ %_ %_ %_ %_ %_
  iexact Hk

/-- The experts, and the tokens and routes of part 0's first span. -/
theorem part2 (w : BitVec 32) {k : _ → Prog (TpuEff nD τ sig (Elt F) Λ₀ .tc) α} :
    iprop(xR I c ∗ rR I c ∗ eR I c)
      ⊢ iprop(((xR I c ∗ rR I c ∗ eR I c)
          -∗ ∀ (w₁ : BitVec 32), WP c (k ⟨k0_pay1 (ex I c 0), k0_pay2 (ex I c 1), k0_pay3 (ex I c 2), k0_pay4 (ex I c 3), w₁,
            k0_pay5 (xs I 384 c (spn 0 1 c)), k0_pay6 (rs I 384 c (spn 0 1 c)),
            k0_pay7 (wd c) (ex I c 0) (xs I 384 c (spn 0 1 c)) (rs I 384 c (spn 0 1 c)), k0_pay8 (wd c) (xs I 384 c (spn 0 1 c)) (rs I 384 c (spn 0 1 c))⟩) Q)
        -∗ WP c (onBufs (k0_part2 (F := F)) c (wd c) w >>= k) Q) := by
  unfold onBufs
  rw [k0_part2_eq_skeleton]
  unfold k0_part2_skel
  simp only [semSignalWord, semWaitWord, Prog.lift, Prog.bind_op, Prog.bind_ret, Prog.pure_eq_ret, Prog.bind_assoc, wp_deviceId]
  unfold xR rR
  iintro ⟨Hx, Hr, He⟩ Hk
  iapply (wp_load_ex I c 0 rfl) $$ He
  iintro He
  iapply (wp_load_ex I c 1 rfl) $$ He
  iintro He
  iapply (wp_load_ex I c 2 rfl) $$ He
  iintro He
  iapply (wp_load_ex I c 3 rfl) $$ He
  iintro He
  have hb : spn 0 1 c + 384 ≤ 0 + 2048 := by revert c; decide
  iapply (wp_load_rd xM c (spn 0 1 c) (off1_eq c) (Nat.zero_le _) hb) $$ Hx
  iintro Hx
  iapply (wp_load_rd rM c (spn 0 1 c) (off2_eq c) (Nat.zero_le _) hb) $$ Hr
  iintro Hr
  ispecialize Hk $$ [$Hx $Hr $He] %_
  iexact Hk

/-- Part 0's upper half: the first of its four sub-blocks. -/
theorem part3 (w w' w'' w₃ : BitVec 32) (g : ℕ → ℕ → Elt F .bf16) {k : _ → Prog (TpuEff nD τ sig (Elt F) Λ₀ .tc) α} :
    (rd pM.view c 384 384 fullShare g : sProp 𝕄)
      ⊢ iprop((rd pM.view c 384 384 fullShare (fill I c 0 1 0 0 g)
          -∗ ∀ (w₁ w₂ w₃ : BitVec 32), WP c (k ⟨acc384 I c (spn 0 1 c), w₁, w₂, w₃⟩) Q)
        -∗ WP c (onBufs (k0_part3 (F := F)) c (wd c) w w' w'' (k0_pay2 (ex I c 1)) (k0_pay3 (ex I c 2)) (k0_pay4 (ex I c 3)) w₃
            (k0_pay5 (xs I 384 c (spn 0 1 c))) (k0_pay6 (rs I 384 c (spn 0 1 c)))
            (k0_pay7 (wd c) (ex I c 0) (xs I 384 c (spn 0 1 c)) (rs I 384 c (spn 0 1 c))) (k0_pay8 (wd c) (xs I 384 c (spn 0 1 c)) (rs I 384 c (spn 0 1 c)))
            >>= k) Q) := by
  unfold onBufs
  rw [k0_part3_eq_skeleton]
  unfold k0_part3_skel
  simp only [semSignalWord, semWaitWord, Prog.lift, Prog.bind_op, Prog.bind_ret, Prog.pure_eq_ret, Prog.bind_assoc, wp_deviceId]
  iintro H Hk
  iapply (wp_peek c 0 1 0 0 384 384 96 rfl rfl rfl (off3_eq c)) $$ H
  iintro H
  iapply (wp_fill I c 0 1 0 0 384 384 96 rfl rfl rfl (off3_eq c) (sub_p0 I c 1 0 0 0 (by decide) (by decide) (by decide) rfl _ _)) $$ H
  iintro H
  ispecialize Hk $$ H %_ %_ %_
  iexact Hk

/-- The other three. -/
theorem part4 (w w' w'' w₃ w₄ w₅ : BitVec 32) (g : ℕ → ℕ → Elt F .bf16) {k : _ → Prog (TpuEff nD τ sig (Elt F) Λ₀ .tc) α} :
    (rd pM.view c 384 384 fullShare (fill I c 0 1 0 0 g) : sProp 𝕄)
      ⊢ iprop((rd pM.view c 384 384 fullShare (P0 I 0 c) -∗ WP c (k ⟨⟩) Q)
        -∗ WP c (onBufs (k0_part4 (F := F)) c w w' w'' (acc384 I c (spn 0 1 c)) w₃ w₄ w₅ >>= k) Q) := by
  unfold onBufs
  rw [k0_part4_eq_skeleton]
  unfold k0_part4_skel
  simp only [semSignalWord, semWaitWord, Prog.lift, Prog.bind_op, Prog.bind_ret, Prog.pure_eq_ret, Prog.bind_assoc, wp_deviceId]
  iintro H Hk
  iapply (wp_peek c 0 1 0 1 384 384 96 rfl rfl rfl (off4_eq c)) $$ H
  iintro H
  iapply (wp_fill I c 0 1 0 1 384 384 96 rfl rfl rfl (off4_eq c) (sub_p0 I c 1 0 1 96 (by decide) (by decide) (by decide) rfl _ _)) $$ H
  iintro H
  iapply (wp_peek c 0 1 1 0 384 384 96 rfl rfl rfl (off5_eq c)) $$ H
  iintro H
  iapply (wp_fill I c 0 1 1 0 384 384 96 rfl rfl rfl (off5_eq c) (sub_p0 I c 1 1 0 192 (by decide) (by decide) (by decide) rfl _ _)) $$ H
  iintro H
  iapply (wp_peek c 0 1 1 1 384 384 96 rfl rfl rfl (off6_eq c)) $$ H
  iintro H
  iapply (wp_fill I c 0 1 1 1 384 384 96 rfl rfl rfl (off6_eq c) (sub_p0 I c 1 1 1 288 (by decide) (by decide) (by decide) rfl _ _)) $$ H
  iintro H
  ihave H := (filled I c 0 1 384 384 rfl rfl g) $$ H
  ispecialize Hk $$ H
  iexact Hk

/-- That half sent to the first partner; the tokens and routes of part 1's first span. -/
theorem part5 (w : BitVec 32) {k : _ → Prog (TpuEff nD τ sig (Elt F) Λ₀ .tc) α} :
    iprop(recs I K ∗ (xR I c ∗ rR I c) ∗ (Tx 0 c ∗ room (F := F) 0 (tgt 0 c) ∗ rd pM.view c 384 384 fullShare (P0 I 0 c)) ∗ Ow c 21)
      ⊢ iprop((((xR I c ∗ rR I c) ∗ Sent 0 c ∗ Ow c 20)
          -∗ ∀ (w₁ : BitVec 32), WP c (k ⟨w₁, k0_pay14 (xs I 320 c (spn 1 1 c)), k0_pay15 (rs I 320 c (spn 1 1 c)),
            k0_pay16 (wd c) (k0_pay1 (ex I c 0)) (k0_pay2 (ex I c 1)) (xs I 320 c (spn 1 1 c)) (rs I 320 c (spn 1 1 c)),
            k0_pay17 (wd c) (rs I 320 c (spn 1 1 c))⟩) Q)
        -∗ WP c (onBufs (k0_part5 (F := F)) c (wd c) w (k0_pay1 (ex I c 0)) (k0_pay2 (ex I c 1)) >>= k) Q) := by
  unfold onBufs
  rw [k0_part5_eq_skeleton]
  unfold k0_part5_skel
  simp only [semSignalWord, semWaitWord, Prog.lift, Prog.bind_op, Prog.bind_ret, Prog.pure_eq_ret, Prog.bind_assoc, wp_deviceId]
  unfold xR rR
  iintro ⟨#HR, ⟨Hx, Hr⟩, ⟨T, H, P⟩, HO⟩ Hk
  iapply (wp_give I K c pM g0M 0 20 21 rfl _ (dev4_eq c) 384 0 rfl rfl (SG I 0 (tgt 0 c)) rfl (fun _ => rfl) rfl
    (fun o k ho _ => by rw [Nat.zero_add]; exact land0 I 0 c o k ho) rfl rfl rfl) $$ [$HR $T $H $P $HO]
  iintro ⟨S, HO⟩
  have hb : spn 1 1 c + 320 ≤ 0 + 2048 := by revert c; decide
  iapply (wp_load_rd xM c (spn 1 1 c) (off7_eq c) (Nat.zero_le _) hb) $$ Hx
  iintro Hx
  iapply (wp_load_rd rM c (spn 1 1 c) (off8_eq c) (Nat.zero_le _) hb) $$ Hr
  iintro Hr
  ispecialize Hk $$ [$Hx $Hr $S $HO] %_
  iexact Hk

end Cert.Parts
-- ==== Proof.PartsB.lean ====
/-
# The body, part by part: the upper halves of parts 1 and 2, the lower half of part 0
-/
module

public import proofs.«01_k».proof.Proof.PartsA

@[expose] public section

noncomputable section

namespace Cert.Parts

open Cert.KernelIdeal Cert.KernelIdeal.Gen Cert.Geom Cert.Regions Cert.Contents Cert.Protocol Cert.Offsets Cert.Blocks Cert.Ops Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × Fin 44 → ℕ)
variable {α : Type} {Q : α → sProp (MT nD τ sig Unit (Elt F) ℕ UU ℕ)} (c : Dev nD)

/-- Part 1's upper half: the first of its four sub-blocks. -/
theorem part6 (w w' w'' w₃ : BitVec 32) (g : ℕ → ℕ → Elt F .bf16) {k : _ → Prog (TpuEff nD τ sig (Elt F) Λ₀ .tc) α} :
    (rd pM.view c 1088 320 fullShare g : sProp 𝕄)
      ⊢ iprop((rd pM.view c 1088 320 fullShare (fill I c 1 1 0 0 g)
          -∗ ∀ (w₁ : BitVec 32), WP c (k ⟨acc320 I c (spn 1 1 c), w₁,
            extractStridedSlice S80x1024 ![80, 0] (acc320 I c (spn 1 1 c)) slices_S320x1024_o80_0_S80x1024⟩) Q)
        -∗ WP c (onBufs (k0_part6 (F := F)) c (wd c) w w' w'' (k0_pay3 (ex I c 2)) (k0_pay4 (ex I c 3)) w₃
            (k0_pay14 (xs I 320 c (spn 1 1 c))) (k0_pay15 (rs I 320 c (spn 1 1 c)))
            (k0_pay16 (wd c) (k0_pay1 (ex I c 0)) (k0_pay2 (ex I c 1)) (xs I 320 c (spn 1 1 c)) (rs I 320 c (spn 1 1 c)))
            (k0_pay17 (wd c) (rs I 320 c (spn 1 1 c))) >>= k) Q) := by
  unfold onBufs
  rw [k0_part6_eq_skeleton]
  unfold k0_part6_skel
  simp only [semSignalWord, semWaitWord, Prog.lift, Prog.bind_op, Prog.bind_ret, Prog.pure_eq_ret, Prog.bind_assoc, wp_deviceId]
  iintro H Hk
  iapply (wp_peek c 1 1 0 0 1088 320 80 rfl rfl rfl (off9_eq c)) $$ H
  iintro H
  iapply (wp_fill I c 1 1 0 0 1088 320 80 rfl rfl rfl (off9_eq c) (sub_p1 I 1 (by decide) c 1 0 0 0 (by decide) (by decide) (by decide) rfl _ _)) $$ H
  iintro H
  ispecialize Hk $$ H %_
  iexact Hk

/-- The other three. -/
theorem part7 (w w' w'' w₃ : BitVec 32) (g : ℕ → ℕ → Elt F .bf16) {k : _ → Prog (TpuEff nD τ sig (Elt F) Λ₀ .tc) α} :
    (rd pM.view c 1088 320 fullShare (fill I c 1 1 0 0 g) : sProp 𝕄)
      ⊢ iprop((rd pM.view c 1088 320 fullShare (P0 I 1 c) -∗ WP c (k ⟨⟩) Q)
        -∗ WP c (onBufs (k0_part7 (F := F)) c w w' w'' (acc320 I c (spn 1 1 c)) w₃
            (extractStridedSlice S80x1024 ![80, 0] (acc320 I c (spn 1 1 c)) slices_S320x1024_o80_0_S80x1024) >>= k) Q) := by
  unfold onBufs
  rw [k0_part7_eq_skeleton]
  unfold k0_part7_skel
  simp only [semSignalWord, semWaitWord, Prog.lift, Prog.bind_op, Prog.bind_ret, Prog.pure_eq_ret, Prog.bind_assoc, wp_deviceId]
  iintro H Hk
  iapply (wp_peek c 1 1 0 1 1088 320 80 rfl rfl rfl (off10_eq c)) $$ H
  iintro H
  iapply (wp_fill I c 1 1 0 1 1088 320 80 rfl rfl rfl (off10_eq c) (sub_p1 I 1 (by decide) c 1 0 1 80 (by decide) (by decide) (by decide) rfl _ _)) $$ H
  iintro H
  iapply (wp_peek c 1 1 1 0 1088 320 80 rfl rfl rfl (off11_eq c)) $$ H
  iintro H
  iapply (wp_fill I c 1 1 1 0 1088 320 80 rfl rfl rfl (off11_eq c) (sub_p1 I 1 (by decide) c 1 1 0 160 (by decide) (by decide) (by decide) rfl _ _)) $$ H
  iintro H
  iapply (wp_peek c 1 1 1 1 1088 320 80 rfl rfl rfl (off12_eq c)) $$ H
  iintro H
  iapply (wp_fill I c 1 1 1 1 1088 320 80 rfl rfl rfl (off12_eq c) (sub_p1 I 1 (by decide) c 1 1 1 240 (by decide) (by decide) (by decide) rfl _ _)) $$ H
  iintro H
  ihave H := (filled I c 1 1 1088 320 rfl rfl g) $$ H
  ispecialize Hk $$ H
  iexact Hk

/-- That half sent; the tokens and routes of part 2's first span. -/
theorem part8 (w : BitVec 32) {k : _ → Prog (TpuEff nD τ sig (Elt F) Λ₀ .tc) α} :
    iprop(recs I K ∗ (xR I c ∗ rR I c) ∗ (Tx 1 c ∗ room (F := F) 1 (tgt 1 c) ∗ rd pM.view c 1088 320 fullShare (P0 I 1 c)) ∗ Ow c 20)
      ⊢ iprop((((xR I c ∗ rR I c) ∗ Sent 1 c ∗ Ow c 19)
          -∗ ∀ (w₁ : BitVec 32), WP c (k ⟨w₁, k0_pay24 (xs I 320 c (spn 2 1 c)), k0_pay25 (rs I 320 c (spn 2 1 c)),
            k0_pay26 (wd c) (k0_pay1 (ex I c 0)) (k0_pay2 (ex I c 1)) (k0_pay3 (ex I c 2)) (xs I 320 c (spn 2 1 c)) (rs I 320 c (spn 2 1 c)), 4#32⟩) Q)
        -∗ WP c (onBufs (k0_part8 (F := F)) c (wd c) w (k0_pay1 (ex I c 0)) (k0_pay2 (ex I c 1)) (k0_pay3 (ex I c 2)) >>= k) Q) := by
  unfold onBufs
  rw [k0_part8_eq_skeleton]
  unfold k0_part8_skel
  simp only [semSignalWord, semWaitWord, Prog.lift, Prog.bind_op, Prog.bind_ret, Prog.pure_eq_ret, Prog.bind_assoc, wp_deviceId]
  unfold xR rR
  iintro ⟨#HR, ⟨Hx, Hr⟩, ⟨T, H, P⟩, HO⟩ Hk
  iapply (wp_give I K c pM g1M 1 19 20 rfl _ (dev5_eq c) 1088 0 rfl rfl (SG I 1 (tgt 1 c)) rfl (fun _ => rfl) rfl
    (fun o k ho _ => by rw [Nat.zero_add]; exact land0 I 1 c o k ho) rfl rfl rfl) $$ [$HR $T $H $P $HO]
  iintro ⟨S, HO⟩
  have hb : spn 2 1 c + 320 ≤ 0 + 2048 := by revert c; decide
  iapply (wp_load_rd xM c (spn 2 1 c) (off13_eq c) (Nat.zero_le _) hb) $$ Hx
  iintro Hx
  iapply (wp_load_rd rM c (spn 2 1 c) (off14_eq c) (Nat.zero_le _) hb) $$ Hr
  iintro Hr
  ispecialize Hk $$ [$Hx $Hr $S $HO] %_
  iexact Hk

/-- Part 2's upper half: the first two of its sub-blocks. -/
theorem part9 (w w' w'' w₃ : BitVec 32) (g : ℕ → ℕ → Elt F .bf16) {k : _ → Prog (TpuEff nD τ sig (Elt F) Λ₀ .tc) α} :
    (rd pM.view c 1728 320 fullShare g : sProp 𝕄)
      ⊢ iprop((rd pM.view c 1728 320 fullShare (fill I c 2 1 0 1 (fill I c 2 1 0 0 g))
          -∗ ∀ (w₁ w₂ w₃ w₄ : BitVec 32), WP c (k ⟨acc320 I c (spn 2 1 c), w₁, w₂, w₃, w₄⟩) Q)
        -∗ WP c (onBufs (k0_part9 (F := F)) c (wd c) w w' w'' (k0_pay4 (ex I c 3)) w₃
            (k0_pay24 (xs I 320 c (spn 2 1 c))) (k0_pay25 (rs I 320 c (spn 2 1 c)))
            (k0_pay26 (wd c) (k0_pay1 (ex I c 0)) (k0_pay2 (ex I c 1)) (k0_pay3 (ex I c 2)) (xs I 320 c (spn 2 1 c)) (rs I 320 c (spn 2 1 c))) 4#32 >>= k) Q) := by
  unfold onBufs
  rw [k0_part9_eq_skeleton]
  unfold k0_part9_skel
  simp only [semSignalWord, semWaitWord, Prog.lift, Prog.bind_op, Prog.bind_ret, Prog.pure_eq_ret, Prog.bind_assoc, wp_deviceId]
  rw [acc_p2]
  iintro H Hk
  iapply (wp_peek c 2 1 0 0 1728 320 80 rfl rfl rfl (off15_eq c)) $$ H
  iintro H
  iapply (wp_fill I c 2 1 0 0 1728 320 80 rfl rfl rfl (off15_eq c) (sub_p1 I 2 (by decide) c 1 0 0 0 (by decide) (by decide) (by decide) rfl _ _)) $$ H
  iintro H
  iapply (wp_peek c 2 1 0 1 1728 320 80 rfl rfl rfl (off16_eq c)) $$ H
  iintro H
  iapply (wp_fill I c 2 1 0 1 1728 320 80 rfl rfl rfl (off16_eq c) (sub_p1 I 2 (by decide) c 1 0 1 80 (by decide) (by decide) (by decide) rfl _ _)) $$ H
  iintro H
  ispecialize Hk $$ H %_ %_ %_ %_
  iexact Hk

/-- The other two; the half sent; the tokens of part 0's second span. -/
theorem part10 (w w' w'' w₃ w₄ w₅ w₆ : BitVec 32) (g : ℕ → ℕ → Elt F .bf16) {k : _ → Prog (TpuEff nD τ sig (Elt F) Λ₀ .tc) α} :
    iprop(recs I K ∗ xR I c ∗ (Tx 2 c ∗ room (F := F) 2 (tgt 2 c) ∗ rd pM.view c 1728 320 fullShare (fill I c 2 1 0 1 (fill I c 2 1 0 0 g))) ∗ Ow c 19)
      ⊢ iprop(((xR I c ∗ Sent 2 c ∗ Ow c 18)
          -∗ ∀ (w₁ : BitVec 32), WP c (k ⟨w₁, k0_pay32 (xs I 384 c (spn 0 0 c))⟩) Q)
        -∗ WP c (onBufs (k0_part10 (F := F)) c w w' w'' (acc320 I c (spn 2 1 c)) w₃ w₄ w₅ w₆ >>= k) Q) := by
  unfold onBufs
  rw [k0_part10_eq_skeleton]
  unfold k0_part10_skel
  simp only [semSignalWord, semWaitWord, Prog.lift, Prog.bind_op, Prog.bind_ret, Prog.pure_eq_ret, Prog.bind_assoc, wp_deviceId]
  unfold xR
  iintro ⟨#HR, Hx, ⟨T, P, H⟩, HO⟩ Hk
  iapply (wp_peek c 2 1 1 0 1728 320 80 rfl rfl rfl (off17_eq c)) $$ H
  iintro H
  iapply (wp_fill I c 2 1 1 0 1728 320 80 rfl rfl rfl (off17_eq c) (sub_p1 I 2 (by decide) c 1 1 0 160 (by decide) (by decide) (by decide) rfl _ _)) $$ H
  iintro H
  iapply (wp_peek c 2 1 1 1 1728 320 80 rfl rfl rfl (off18_eq c)) $$ H
  iintro H
  iapply (wp_fill I c 2 1 1 1 1728 320 80 rfl rfl rfl (off18_eq c) (sub_p1 I 2 (by decide) c 1 1 1 240 (by decide) (by decide) (by decide) rfl _ _)) $$ H
  iintro H
  ihave H := (filled I c 2 1 1728 320 rfl rfl g) $$ H
  iapply (wp_give I K c pM g2M 2 18 19 rfl _ (dev6_eq c) 1728 0 rfl rfl (SG I 2 (tgt 2 c)) rfl (fun _ => rfl) rfl
    (fun o k ho _ => by rw [Nat.zero_add]; exact land0 I 2 c o k ho) rfl rfl rfl) $$ [$HR $T $H $P $HO]
  iintro ⟨S, HO⟩
  have hb : spn 0 0 c + 384 ≤ 0 + 2048 := by revert c; decide
  iapply (wp_load_rd xM c (spn 0 0 c) (off19_eq c) (Nat.zero_le _) hb) $$ Hx
  iintro Hx
  ispecialize Hk $$ [$Hx $S $HO] %_
  iexact Hk

/-- Its routes. -/
theorem part11 (w : BitVec 32) {k : _ → Prog (TpuEff nD τ sig (Elt F) Λ₀ .tc) α} :
    (rR I c : sProp 𝕄)
      ⊢ iprop((rR I c -∗ WP c (k ⟨
            k0_pay34 (wd c) (k0_pay1 (ex I c 0)) (k0_pay2 (ex I c 1)) (k0_pay3 (ex I c 2)) (k0_pay32 (xs I 384 c (spn 0 0 c))) (rs I 384 c (spn 0 0 c)),
            k0_pay35 (wd c) (k0_pay32 (xs I 384 c (spn 0 0 c))) (rs I 384 c (spn 0 0 c)), constant S384x1024 .f32 0x00000000#32⟩) Q)
        -∗ WP c (onBufs (k0_part11 (F := F)) c (wd c) (k0_pay1 (ex I c 0)) (k0_pay2 (ex I c 1)) (k0_pay3 (ex I c 2)) w
            (k0_pay32 (xs I 384 c (spn 0 0 c))) >>= k) Q) := by
  unfold onBufs
  rw [k0_part11_eq_skeleton]
  unfold k0_part11_skel
  simp only [semSignalWord, semWaitWord, Prog.lift, Prog.bind_op, Prog.bind_ret, Prog.pure_eq_ret, Prog.bind_assoc, wp_deviceId]
  unfold rR
  iintro Hr Hk
  have hb : spn 0 0 c + 384 ≤ 0 + 2048 := by revert c; decide
  iapply (wp_load_rd rM c (spn 0 0 c) (off20_eq c) (Nat.zero_le _) hb) $$ Hr
  iintro Hr
  ispecialize Hk $$ Hr
  iexact Hk

/-- Part 0's lower half: the first two of its sub-blocks, and the slot of the third read. -/
theorem part12 (w w' w'' : BitVec 32) (g : ℕ → ℕ → Elt F .bf16) {k : _ → Prog (TpuEff nD τ sig (Elt F) Λ₀ .tc) α} :
    (rd pM.view c 0 384 fullShare g : sProp 𝕄)
      ⊢ iprop((rd pM.view c 0 384 fullShare (fill I c 0 0 0 1 (fill I c 0 0 0 0 g))
          -∗ ∀ (w₁ : BitVec 32) (v : Vec F S96x1024 .bf16), WP c (k ⟨acc384 I c (spn 0 0 c), w₁,
            extractStridedSlice S96x1024 ![192, 0] (acc384 I c (spn 0 0 c)) slices_S384x1024_o192_0_S96x1024, v⟩) Q)
        -∗ WP c (onBufs (k0_part12 (F := F)) c w w' w'' (k0_pay4 (ex I c 3))
            (k0_pay34 (wd c) (k0_pay1 (ex I c 0)) (k0_pay2 (ex I c 1)) (k0_pay3 (ex I c 2)) (k0_pay32 (xs I 384 c (spn 0 0 c))) (rs I 384 c (spn 0 0 c)))
            (k0_pay35 (wd c) (k0_pay32 (xs I 384 c (spn 0 0 c))) (rs I 384 c (spn 0 0 c))) (constant S384x1024 .f32 0x00000000#32) >>= k) Q) := by
  unfold onBufs
  rw [k0_part12_eq_skeleton]
  unfold k0_part12_skel
  simp only [semSignalWord, semWaitWord, Prog.lift, Prog.bind_op, Prog.bind_ret, Prog.pure_eq_ret, Prog.bind_assoc, wp_deviceId]
  rw [acc_p0']
  iintro H Hk
  iapply (wp_peek c 0 0 0 0 0 384 96 rfl rfl rfl (off21_eq c)) $$ H
  iintro H
  iapply (wp_fill I c 0 0 0 0 0 384 96 rfl rfl rfl (off21_eq c) (sub_p0 I c 0 0 0 0 (by decide) (by decide) (by decide) rfl _ _)) $$ H
  iintro H
  iapply (wp_peek c 0 0 0 1 0 384 96 rfl rfl rfl (off22_eq c)) $$ H
  iintro H
  iapply (wp_fill I c 0 0 0 1 0 384 96 rfl rfl rfl (off22_eq c) (sub_p0 I c 0 0 1 96 (by decide) (by decide) (by decide) rfl _ _)) $$ H
  iintro H
  iapply (wp_peek c 0 0 1 0 0 384 96 rfl rfl rfl (off23_eq c)) $$ H
  iintro H
  ispecialize Hk $$ H %_ %_
  iexact Hk

end Cert.Parts
-- ==== Proof.PartsC.lean ====
/-
# The body, part by part: the lower halves
-/
module

public import proofs.«01_k».proof.Proof.PartsB

@[expose] public section

noncomputable section

namespace Cert.Parts

open Cert.KernelIdeal Cert.KernelIdeal.Gen Cert.Geom Cert.Regions Cert.Contents Cert.Protocol Cert.Offsets Cert.Blocks Cert.Ops Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × Fin 44 → ℕ)
variable {α : Type} {Q : α → sProp (MT nD τ sig Unit (Elt F) ℕ UU ℕ)} (c : Dev nD)

/-- Part 0's lower half: its other two sub-blocks; the tokens and routes of part 1's second span. -/
theorem part13 (w w' w'' : BitVec 32) (v : Vec F S96x1024 .bf16) (g : ℕ → ℕ → Elt F .bf16) {k : _ → Prog (TpuEff nD τ sig (Elt F) Λ₀ .tc) α} :
    iprop((xR I c ∗ rR I c) ∗ rd pM.view c 0 384 fullShare (fill I c 0 0 0 1 (fill I c 0 0 0 0 g)))
      ⊢ iprop((((xR I c ∗ rR I c) ∗ rd pM.view c 0 384 fullShare (P0 I 0 c))
          -∗ WP c (k ⟨k0_pay42 (xs I 320 c (spn 1 0 c)), k0_pay43 (rs I 320 c (spn 1 0 c)), k0_pay44 (wd c) (k0_pay1 (ex I c 0)) (xs I 320 c (spn 1 0 c)) (rs I 320 c (spn 1 0 c)),
            k0_pay45 (wd c) (rs I 320 c (spn 1 0 c)), k0_pay46 (F := F)⟩) Q)
        -∗ WP c (onBufs (k0_part13 (F := F)) c (wd c) w w' (k0_pay1 (ex I c 0)) (acc384 I c (spn 0 0 c)) w''
            (extractStridedSlice S96x1024 ![192, 0] (acc384 I c (spn 0 0 c)) slices_S384x1024_o192_0_S96x1024) v >>= k) Q) := by
  unfold onBufs
  rw [k0_part13_eq_skeleton]
  unfold k0_part13_skel
  simp only [semSignalWord, semWaitWord, Prog.lift, Prog.bind_op, Prog.bind_ret, Prog.pure_eq_ret, Prog.bind_assoc, wp_deviceId]
  unfold xR rR
  iintro ⟨⟨Hx, Hr⟩, H⟩ Hk
  iapply (wp_fill I c 0 0 1 0 0 384 96 rfl rfl rfl (off23_eq c) (sub_p0 I c 0 1 0 192 (by decide) (by decide) (by decide) rfl _ _)) $$ H
  iintro H
  iapply (wp_peek c 0 0 1 1 0 384 96 rfl rfl rfl (off24_eq c)) $$ H
  iintro H
  iapply (wp_fill I c 0 0 1 1 0 384 96 rfl rfl rfl (off24_eq c) (sub_p0 I c 0 1 1 288 (by decide) (by decide) (by decide) rfl _ _)) $$ H
  iintro H
  ihave H := (filled I c 0 0 0 384 rfl rfl g) $$ H
  have hb : spn 1 0 c + 320 ≤ 0 + 2048 := by revert c; decide
  iapply (wp_load_rd xM c (spn 1 0 c) (off25_eq c) (Nat.zero_le _) hb) $$ Hx
  iintro Hx
  iapply (wp_load_rd rM c (spn 1 0 c) (off26_eq c) (Nat.zero_le _) hb) $$ Hr
  iintro Hr
  ispecialize Hk $$ [$Hx $Hr $H]
  iexact Hk

/-- Part 1's lower half: the first of its four sub-blocks. -/
theorem part14 (w w' w'' : BitVec 32) (g : ℕ → ℕ → Elt F .bf16) {k : _ → Prog (TpuEff nD τ sig (Elt F) Λ₀ .tc) α} :
    (rd pM.view c 768 320 fullShare g : sProp 𝕄)
      ⊢ iprop((rd pM.view c 768 320 fullShare (fill I c 1 0 0 0 g)
          -∗ ∀ (w₁ w₂ w₃ : BitVec 32), WP c (k ⟨acc320 I c (spn 1 0 c), w₁, w₂, w₃⟩) Q)
        -∗ WP c (onBufs (k0_part14 (F := F)) c (wd c) w w' w'' (k0_pay2 (ex I c 1)) (k0_pay3 (ex I c 2)) (k0_pay4 (ex I c 3))
            (k0_pay42 (xs I 320 c (spn 1 0 c))) (k0_pay43 (rs I 320 c (spn 1 0 c))) (k0_pay44 (wd c) (k0_pay1 (ex I c 0)) (xs I 320 c (spn 1 0 c)) (rs I 320 c (spn 1 0 c)))
            (k0_pay45 (wd c) (rs I 320 c (spn 1 0 c))) (k0_pay46 (F := F)) >>= k) Q) := by
  unfold onBufs
  rw [k0_part14_eq_skeleton]
  unfold k0_part14_skel
  simp only [semSignalWord, semWaitWord, Prog.lift, Prog.bind_op, Prog.bind_ret, Prog.pure_eq_ret, Prog.bind_assoc, wp_deviceId]
  rw [acc_p1']
  iintro H Hk
  iapply (wp_peek c 1 0 0 0 768 320 80 rfl rfl rfl (off27_eq c)) $$ H
  iintro H
  iapply (wp_fill I c 1 0 0 0 768 320 80 rfl rfl rfl (off27_eq c) (sub_p1 I 1 (by decide) c 0 0 0 0 (by decide) (by decide) (by decide) rfl _ _)) $$ H
  iintro H
  ispecialize Hk $$ H %_ %_ %_
  iexact Hk

/-- The other three. -/
theorem part15 (w w' w'' w₃ w₄ : BitVec 32) (g : ℕ → ℕ → Elt F .bf16) {k : _ → Prog (TpuEff nD τ sig (Elt F) Λ₀ .tc) α} :
    (rd pM.view c 768 320 fullShare (fill I c 1 0 0 0 g) : sProp 𝕄)
      ⊢ iprop((rd pM.view c 768 320 fullShare (P0 I 1 c) -∗ ∀ w₁ : BitVec 32, WP c (k w₁) Q)
        -∗ WP c (onBufs (k0_part15 (F := F)) c w w' (acc320 I c (spn 1 0 c)) w'' w₃ w₄ >>= k) Q) := by
  unfold onBufs
  rw [k0_part15_eq_skeleton]
  unfold k0_part15_skel
  simp only [semSignalWord, semWaitWord, Prog.lift, Prog.bind_op, Prog.bind_ret, Prog.pure_eq_ret, Prog.bind_assoc, wp_deviceId]
  iintro H Hk
  iapply (wp_peek c 1 0 0 1 768 320 80 rfl rfl rfl (off28_eq c)) $$ H
  iintro H
  iapply (wp_fill I c 1 0 0 1 768 320 80 rfl rfl rfl (off28_eq c) (sub_p1 I 1 (by decide) c 0 0 1 80 (by decide) (by decide) (by decide) rfl _ _)) $$ H
  iintro H
  iapply (wp_peek c 1 0 1 0 768 320 80 rfl rfl rfl (off29_eq c)) $$ H
  iintro H
  iapply (wp_fill I c 1 0 1 0 768 320 80 rfl rfl rfl (off29_eq c) (sub_p1 I 1 (by decide) c 0 1 0 160 (by decide) (by decide) (by decide) rfl _ _)) $$ H
  iintro H
  iapply (wp_peek c 1 0 1 1 768 320 80 rfl rfl rfl (off30_eq c)) $$ H
  iintro H
  iapply (wp_fill I c 1 0 1 1 768 320 80 rfl rfl rfl (off30_eq c) (sub_p1 I 1 (by decide) c 0 1 1 240 (by decide) (by decide) (by decide) rfl _ _)) $$ H
  iintro H
  ihave H := (filled I c 1 0 768 320 rfl rfl g) $$ H
  ispecialize Hk $$ H %_
  iexact Hk

/-- The tokens and routes of part 2's second span. -/
theorem part16 (w : BitVec 32) {k : _ → Prog (TpuEff nD τ sig (Elt F) Λ₀ .tc) α} :
    iprop(xR I c ∗ rR I c)
      ⊢ iprop(((xR I c ∗ rR I c)
          -∗ WP c (k ⟨k0_pay52 (xs I 320 c (spn 2 0 c)), k0_pay54 (wd c) (k0_pay1 (ex I c 0)) (k0_pay2 (ex I c 1)) (k0_pay3 (ex I c 2)) (xs I 320 c (spn 2 0 c)) (rs I 320 c (spn 2 0 c)),
            k0_pay55 (wd c) (rs I 320 c (spn 2 0 c)), k0_pay56 (F := F)⟩) Q)
        -∗ WP c (onBufs (k0_part16 (F := F)) c (wd c) (k0_pay1 (ex I c 0)) (k0_pay2 (ex I c 1)) (k0_pay3 (ex I c 2)) w >>= k) Q) := by
  unfold onBufs
  rw [k0_part16_eq_skeleton]
  unfold k0_part16_skel
  simp only [semSignalWord, semWaitWord, Prog.lift, Prog.bind_op, Prog.bind_ret, Prog.pure_eq_ret, Prog.bind_assoc, wp_deviceId]
  unfold xR rR
  iintro ⟨Hx, Hr⟩ Hk
  have hb : spn 2 0 c + 320 ≤ 0 + 2048 := by revert c; decide
  iapply (wp_load_rd xM c (spn 2 0 c) (off31_eq c) (Nat.zero_le _) hb) $$ Hx
  iintro Hx
  iapply (wp_load_rd rM c (spn 2 0 c) (off32_eq c) (Nat.zero_le _) hb) $$ Hr
  iintro Hr
  ispecialize Hk $$ [$Hx $Hr]
  iexact Hk

/-- Part 2's lower half: the first two of its sub-blocks. -/
theorem part17 (w w' w'' : BitVec 32) (g : ℕ → ℕ → Elt F .bf16) {k : _ → Prog (TpuEff nD τ sig (Elt F) Λ₀ .tc) α} :
    (rd pM.view c 1408 320 fullShare g : sProp 𝕄)
      ⊢ iprop((rd pM.view c 1408 320 fullShare (fill I c 2 0 0 1 (fill I c 2 0 0 0 g))
          -∗ ∀ (w₁ w₂ w₃ : BitVec 32), WP c (k ⟨acc320 I c (spn 2 0 c), w₁,
            extractStridedSlice S80x1024 ![160, 0] (acc320 I c (spn 2 0 c)) slices_S320x1024_o160_0_S80x1024, w₂, w₃⟩) Q)
        -∗ WP c (onBufs (k0_part17 (F := F)) c w w' w'' (k0_pay4 (ex I c 3)) (k0_pay52 (xs I 320 c (spn 2 0 c))) (k0_pay54 (wd c) (k0_pay1 (ex I c 0)) (k0_pay2 (ex I c 1)) (k0_pay3 (ex I c 2)) (xs I 320 c (spn 2 0 c)) (rs I 320 c (spn 2 0 c)))
            (k0_pay55 (wd c) (rs I 320 c (spn 2 0 c))) (k0_pay56 (F := F)) >>= k) Q) := by
  unfold onBufs
  rw [k0_part17_eq_skeleton]
  unfold k0_part17_skel
  simp only [semSignalWord, semWaitWord, Prog.lift, Prog.bind_op, Prog.bind_ret, Prog.pure_eq_ret, Prog.bind_assoc, wp_deviceId]
  rw [acc_p2']
  iintro H Hk
  iapply (wp_peek c 2 0 0 0 1408 320 80 rfl rfl rfl (off33_eq c)) $$ H
  iintro H
  iapply (wp_fill I c 2 0 0 0 1408 320 80 rfl rfl rfl (off33_eq c) (sub_p1 I 2 (by decide) c 0 0 0 0 (by decide) (by decide) (by decide) rfl _ _)) $$ H
  iintro H
  iapply (wp_peek c 2 0 0 1 1408 320 80 rfl rfl rfl (off34_eq c)) $$ H
  iintro H
  iapply (wp_fill I c 2 0 0 1 1408 320 80 rfl rfl rfl (off34_eq c) (sub_p1 I 2 (by decide) c 0 0 1 80 (by decide) (by decide) (by decide) rfl _ _)) $$ H
  iintro H
  ispecialize Hk $$ H %_ %_ %_
  iexact Hk

end Cert.Parts
-- ==== Proof.PartsD.lean ====
/-
# The body, part by part: the first two exchanges
-/
module

public import proofs.«01_k».proof.Proof.PartsC

@[expose] public section

noncomputable section

namespace Cert.Parts

open Cert.KernelIdeal Cert.KernelIdeal.Gen Cert.Geom Cert.Regions Cert.Contents Cert.Protocol Cert.Offsets Cert.Blocks Cert.Ops Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × Fin 44 → ℕ)
variable {α : Type} {Q : α → sProp (MT nD τ sig Unit (Elt F) ℕ UU ℕ)} (c : Dev nD)

/-- Part 2's lower half, its other two sub-blocks; part 0's first exchange received and added. -/
theorem part18 (w w' w'' w₃ w₄ w₅ w₆ : BitVec 32) (g : ℕ → ℕ → Elt F .bf16) {k : _ → Prog (TpuEff nD τ sig (Elt F) Λ₀ .tc) α} :
    iprop(recs I K ∗ rd pM.view c 1408 320 fullShare (fill I c 2 0 0 1 (fill I c 2 0 0 0 g)) ∗ rd pM.view c 0 384 fullShare (P0 I 0 c) ∗ Rx 0 c ∗ Ow c 18)
      ⊢ iprop(((rd pM.view c 1408 320 fullShare (P0 I 2 c) ∗ rd pM.view c 0 384 fullShare (P1 I 0 c) ∗ Zr 0 c ∗ rd g0M.view c 0 384 fullShare (SG I 0 c) ∗ Ow c 18)
          -∗ ∀ w₁ : BitVec 32, WP c (k w₁) Q)
        -∗ WP c (onBufs (k0_part18 (F := F)) c w w' w'' w₃ (acc320 I c (spn 2 0 c)) w₄
            (extractStridedSlice S80x1024 ![160, 0] (acc320 I c (spn 2 0 c)) slices_S320x1024_o160_0_S80x1024) w₅ w₆ >>= k) Q) := by
  unfold onBufs
  rw [k0_part18_eq_skeleton]
  unfold k0_part18_skel
  simp only [semSignalWord, semWaitWord, Prog.lift, Prog.bind_op, Prog.bind_ret, Prog.pure_eq_ret, Prog.bind_assoc, wp_deviceId]
  iintro ⟨#HR, H, H0, R0, HO⟩ Hk
  iapply (wp_peek c 2 0 1 0 1408 320 80 rfl rfl rfl (off35_eq c)) $$ H
  iintro H
  iapply (wp_fill I c 2 0 1 0 1408 320 80 rfl rfl rfl (off35_eq c) (sub_p1 I 2 (by decide) c 0 1 0 160 (by decide) (by decide) (by decide) rfl _ _)) $$ H
  iintro H
  iapply (wp_peek c 2 0 1 1 1408 320 80 rfl rfl rfl (off36_eq c)) $$ H
  iintro H
  iapply (wp_fill I c 2 0 1 1 1408 320 80 rfl rfl rfl (off36_eq c) (sub_p1 I 2 (by decide) c 0 1 1 240 (by decide) (by decide) (by decide) rfl _ _)) $$ H
  iintro H
  ihave H := (filled I c 2 0 1408 320 rfl rfl g) $$ H
  iapply (wp_take I K c 0 18 (by decide) (rd g0M.view c 0 384 fullShare (SG I 0 c)) rfl rfl rfl) $$ [$HR $R0 $HO]
  iintro ⟨Z0, G0, HO⟩
  iapply (wp_load_rd pM c 0 rfl (lo := 0) (n := 384) (by decide) (by decide)) $$ H0
  iintro H0
  iapply (wp_load_rd g0M c 0 rfl (lo := 0) (n := 384) (by decide) (by decide)) $$ G0
  iintro G0
  iapply (wp_load_rd pM c 0 rfl (lo := 0) (n := 384) (by decide) (by decide)) $$ H0
  iintro H0
  iapply (wp_store_rd pM c 0 rfl (lo := 0) (n := 384) (le_refl _) (le_refl _) (P1 I 0 c) (sum_cast (P0 I 0 c) (SG I 0 c) (P1 I 0 c) 0 0 0 (fun o k ho => add0' I 0 c o k ho) _) no_rest) $$ H0
  iintro H0
  ispecialize Hk $$ [$H $H0 $Z0 $G0 $HO] %_
  iexact Hk

/-- The same for parts 1 and 2. -/
theorem part19 (w w' w'' : BitVec 32) {k : _ → Prog (TpuEff nD τ sig (Elt F) Λ₀ .tc) α} :
    iprop(recs I K ∗ rd pM.view c 768 320 fullShare (P0 I 1 c) ∗ rd pM.view c 1408 320 fullShare (P0 I 2 c) ∗ (Rx 1 c ∗ Rx 2 c) ∗ Ow c 18)
      ⊢ iprop(((rd pM.view c 768 320 fullShare (P1 I 1 c) ∗ rd pM.view c 1408 320 fullShare (P1 I 2 c) ∗ (Zr 1 c ∗ Zr 2 c)
            ∗ (rd g1M.view c 0 320 fullShare (SG I 1 c) ∗ rd g2M.view c 0 320 fullShare (SG I 2 c)) ∗ Ow c 18) -∗ WP c (k ⟨⟩) Q)
        -∗ WP c (onBufs (k0_part19 (F := F)) w w' w'' >>= k) Q) := by
  unfold onBufs
  rw [k0_part19_eq_skeleton]
  unfold k0_part19_skel
  simp only [semSignalWord, semWaitWord, Prog.lift, Prog.bind_op, Prog.bind_ret, Prog.pure_eq_ret, Prog.bind_assoc, wp_deviceId]
  iintro ⟨#HR, H1, H2, ⟨R1, R2⟩, HO⟩ Hk
  iapply (wp_take I K c 1 18 (by decide) (rd g1M.view c 0 320 fullShare (SG I 1 c)) rfl rfl rfl) $$ [$HR $R1 $HO]
  iintro ⟨Z1, G1, HO⟩
  iapply (wp_load_rd pM c 768 rfl (lo := 768) (n := 320) (by decide) (by decide)) $$ H1
  iintro H1
  iapply (wp_load_rd g1M c 0 rfl (lo := 0) (n := 320) (by decide) (by decide)) $$ G1
  iintro G1
  iapply (wp_load_rd pM c 768 rfl (lo := 768) (n := 320) (by decide) (by decide)) $$ H1
  iintro H1
  iapply (wp_store_rd pM c 768 rfl (lo := 768) (n := 320) (le_refl _) (le_refl _) (P1 I 1 c) (sum_cast (P0 I 1 c) (SG I 1 c) (P1 I 1 c) 768 0 768 (fun o k ho => add0' I 1 c o k ho) _) no_rest) $$ H1
  iintro H1
  iapply (wp_take I K c 2 18 (by decide) (rd g2M.view c 0 320 fullShare (SG I 2 c)) rfl rfl rfl) $$ [$HR $R2 $HO]
  iintro ⟨Z2, G2, HO⟩
  iapply (wp_load_rd pM c 1408 rfl (lo := 1408) (n := 320) (by decide) (by decide)) $$ H2
  iintro H2
  iapply (wp_load_rd g2M c 0 rfl (lo := 0) (n := 320) (by decide) (by decide)) $$ G2
  iintro G2
  iapply (wp_load_rd pM c 1408 rfl (lo := 1408) (n := 320) (by decide) (by decide)) $$ H2
  iintro H2
  iapply (wp_store_rd pM c 1408 rfl (lo := 1408) (n := 320) (le_refl _) (le_refl _) (P1 I 2 c) (sum_cast (P0 I 2 c) (SG I 2 c) (P1 I 2 c) 1408 0 1408 (fun o k ho => add0' I 2 c o k ho) _) no_rest) $$ H2
  iintro H2
  ispecialize Hk $$ [$H1 $H2 $Z1 $Z2 $G1 $G2 $HO]
  iexact Hk

/-- The second exchange: each part's upper half of what is left sent, part 0's received. -/
theorem part20 (w w' w'' : BitVec 32) {k : _ → Prog (TpuEff nD τ sig (Elt F) Λ₀ .tc) α} :
    iprop(recs I K ∗ (Tx 3 c ∗ room (F := F) 3 (tgt 3 c) ∗ rd pM.view c 0 384 fullShare (P1 I 0 c)) ∗ (Tx 4 c ∗ room (F := F) 4 (tgt 4 c) ∗ rd pM.view c 768 320 fullShare (P1 I 1 c))
        ∗ (Tx 5 c ∗ room (F := F) 5 (tgt 5 c) ∗ rd pM.view c 1408 320 fullShare (P1 I 2 c)) ∗ Rx 3 c ∗ Ow c 18)
      ⊢ iprop(((rd pM.view c 0 192 fullShare (P1 I 0 c) ∗ rd pM.view c 768 160 fullShare (P1 I 1 c) ∗ rd pM.view c 1408 160 fullShare (P1 I 2 c)
            ∗ (Sent 3 c ∗ Sent 4 c ∗ Sent 5 c) ∗ Zr 3 c ∗ rd g0M.view c 384 192 fullShare (SG I 0 c) ∗ Ow c 15) -∗ WP c (k ⟨⟩) Q)
        -∗ WP c (onBufs (k0_part20 (F := F)) c w w' w'' >>= k) Q) := by
  unfold onBufs
  rw [k0_part20_eq_skeleton]
  unfold k0_part20_skel
  simp only [semSignalWord, semWaitWord, Prog.lift, Prog.bind_op, Prog.bind_ret, Prog.pure_eq_ret, Prog.bind_assoc, wp_deviceId]
  iintro ⟨#HR, ⟨T3, P3, H0⟩, ⟨T4, P4, H1⟩, ⟨T5, P5, H2⟩, R3, HO⟩ Hk
  ihave H0 := (rd_cut pM.view c (lo₁ := 0) (n₁ := 192) (lo₂ := 192) (n₂ := 192) fullShare _ rfl rfl rfl) $$ H0
  icases H0 with ⟨H0, U0⟩
  ihave H1 := (rd_cut pM.view c (lo₁ := 768) (n₁ := 160) (lo₂ := 928) (n₂ := 160) fullShare _ rfl rfl rfl) $$ H1
  icases H1 with ⟨H1, U1⟩
  ihave H2 := (rd_cut pM.view c (lo₁ := 1408) (n₁ := 160) (lo₂ := 1568) (n₂ := 160) fullShare _ rfl rfl rfl) $$ H2
  icases H2 with ⟨H2, U2⟩
  iapply (wp_give I K c pM g0M 3 17 18 rfl _ (dev7_eq c) 192 384 rfl rfl (SG I 0 (tgt 3 c)) rfl (fun _ => rfl) rfl
    (fun o k ho _ => land1 I 0 c o k ho) rfl rfl rfl) $$ [$HR $T3 $P3 $U0 $HO]
  iintro ⟨S3, HO⟩
  iapply (wp_give I K c pM g1M 4 16 17 rfl _ (dev8_eq c) 928 320 rfl rfl (SG I 1 (tgt 4 c)) rfl (fun _ => rfl) rfl
    (fun o k ho _ => land1 I 1 c o k ho) rfl rfl rfl) $$ [$HR $T4 $P4 $U1 $HO]
  iintro ⟨S4, HO⟩
  iapply (wp_give I K c pM g2M 5 15 16 rfl _ (dev9_eq c) 1568 320 rfl rfl (SG I 2 (tgt 5 c)) rfl (fun _ => rfl) rfl
    (fun o k ho _ => land1 I 2 c o k ho) rfl rfl rfl) $$ [$HR $T5 $P5 $U2 $HO]
  iintro ⟨S5, HO⟩
  iapply (wp_take I K c 3 15 (by decide) (rd g0M.view c 384 192 fullShare (SG I 0 c)) rfl rfl rfl) $$ [$HR $R3 $HO]
  iintro ⟨Z3, G3, HO⟩
  ispecialize Hk $$ [$H0 $H1 $H2 $S3 $S4 $S5 $Z3 $G3 $HO]
  iexact Hk

/-- Added, for parts 0 and 1; part 2's received and read. -/
theorem part21 (w w' : BitVec 32) {k : _ → Prog (TpuEff nD τ sig (Elt F) Λ₀ .tc) α} :
    iprop(recs I K ∗ rd pM.view c 0 192 fullShare (P1 I 0 c) ∗ rd pM.view c 768 160 fullShare (P1 I 1 c) ∗ rd pM.view c 1408 160 fullShare (P1 I 2 c)
        ∗ rd g0M.view c 384 192 fullShare (SG I 0 c) ∗ (Rx 4 c ∗ Rx 5 c) ∗ Ow c 15)
      ⊢ iprop(((rd pM.view c 0 192 fullShare (P2 I 0 c) ∗ rd pM.view c 768 160 fullShare (P2 I 1 c) ∗ rd pM.view c 1408 160 fullShare (P1 I 2 c)
            ∗ (Zr 4 c ∗ Zr 5 c) ∗ (rd g0M.view c 384 192 fullShare (SG I 0 c) ∗ rd g1M.view c 320 160 fullShare (SG I 1 c) ∗ rd g2M.view c 320 160 fullShare (SG I 2 c)) ∗ Ow c 15)
          -∗ WP c (k ⟨blk (P1 I 2 c) 1408, blk (SG I 2 c) 320⟩) Q)
        -∗ WP c (onBufs (k0_part21 (F := F)) w w' >>= k) Q) := by
  unfold onBufs
  rw [k0_part21_eq_skeleton]
  unfold k0_part21_skel
  simp only [semSignalWord, semWaitWord, Prog.lift, Prog.bind_op, Prog.bind_ret, Prog.pure_eq_ret, Prog.bind_assoc, wp_deviceId]
  iintro ⟨#HR, H0, H1, H2, G3, ⟨R4, R5⟩, HO⟩ Hk
  iapply (wp_load_rd pM c 0 rfl (lo := 0) (n := 192) (by decide) (by decide)) $$ H0
  iintro H0
  iapply (wp_load_rd g0M c 384 rfl (lo := 384) (n := 192) (by decide) (by decide)) $$ G3
  iintro G3
  iapply (wp_load_rd pM c 0 rfl (lo := 0) (n := 192) (by decide) (by decide)) $$ H0
  iintro H0
  iapply (wp_store_rd pM c 0 rfl (lo := 0) (n := 192) (le_refl _) (le_refl _) (P2 I 0 c) (sum_cast (P1 I 0 c) (SG I 0 c) (P2 I 0 c) 0 384 0 (fun o k ho => add1 I 0 c o k ho) _) no_rest) $$ H0
  iintro H0
  iapply (wp_take I K c 4 15 (by decide) (rd g1M.view c 320 160 fullShare (SG I 1 c)) rfl rfl rfl) $$ [$HR $R4 $HO]
  iintro ⟨Z4, G4, HO⟩
  iapply (wp_load_rd pM c 768 rfl (lo := 768) (n := 160) (by decide) (by decide)) $$ H1
  iintro H1
  iapply (wp_load_rd g1M c 320 rfl (lo := 320) (n := 160) (by decide) (by decide)) $$ G4
  iintro G4
  iapply (wp_load_rd pM c 768 rfl (lo := 768) (n := 160) (by decide) (by decide)) $$ H1
  iintro H1
  iapply (wp_store_rd pM c 768 rfl (lo := 768) (n := 160) (le_refl _) (le_refl _) (P2 I 1 c) (sum_cast (P1 I 1 c) (SG I 1 c) (P2 I 1 c) 768 320 768 (fun o k ho => add1 I 1 c o k ho) _) no_rest) $$ H1
  iintro H1
  iapply (wp_take I K c 5 15 (by decide) (rd g2M.view c 320 160 fullShare (SG I 2 c)) rfl rfl rfl) $$ [$HR $R5 $HO]
  iintro ⟨Z5, G5, HO⟩
  iapply (wp_load_rd pM c 1408 rfl (lo := 1408) (n := 160) (by decide) (by decide)) $$ H2
  iintro H2
  iapply (wp_load_rd g2M c 320 rfl (lo := 320) (n := 160) (by decide) (by decide)) $$ G5
  iintro G5
  ispecialize Hk $$ [$H0 $H1 $H2 $Z4 $Z5 $G3 $G4 $G5 $HO]
  iexact Hk

/-- Part 2's added. The third exchange, whose rows are lent by half: part 0's two sub-blocks and the second of part 1's. -/
theorem part22 (w w' : BitVec 32) {k : _ → Prog (TpuEff nD τ sig (Elt F) Λ₀ .tc) α} :
    iprop(recs I K ∗ ((Tx 6 c ∗ room (F := F) 6 (tgt 6 c)) ∗ (Tx 7 c ∗ room (F := F) 7 (tgt 7 c)) ∗ rd pM.view c 0 192 fullShare (P2 I 0 c)) ∗ (Tx 8 c ∗ room (F := F) 8 (tgt 8 c) ∗ rd pM.view c 768 160 fullShare (P2 I 1 c))
        ∗ rd pM.view c 1408 160 fullShare (P1 I 2 c) ∗ Ow c 15)
      ⊢ iprop(((rd pM.view c 0 96 fullShare.right (P2 I 0 c) ∗ rd pM.view c 96 96 fullShare.right (P2 I 0 c) ∗ rd pM.view c 768 80 fullShare (P2 I 1 c) ∗ rd pM.view c 848 80 fullShare.right (P2 I 1 c)
            ∗ rd pM.view c 1408 160 fullShare (P2 I 2 c) ∗ (Sent 6 c ∗ Sent 7 c ∗ Sent 8 c) ∗ Ow c 12) -∗ WP c (k ⟨⟩) Q)
        -∗ WP c (onBufs (k0_part22 (F := F)) c w w' (blk (P1 I 2 c) 1408) (blk (SG I 2 c) 320) >>= k) Q) := by
  unfold onBufs
  rw [k0_part22_eq_skeleton]
  unfold k0_part22_skel
  simp only [semSignalWord, semWaitWord, Prog.lift, Prog.bind_op, Prog.bind_ret, Prog.pure_eq_ret, Prog.bind_assoc, wp_deviceId]
  iintro ⟨#HR, ⟨⟨T6, P6⟩, ⟨T7, P7⟩, H0⟩, ⟨T8, P8, H1⟩, H2, HO⟩ Hk
  iapply (wp_load_rd pM c 1408 rfl (lo := 1408) (n := 160) (by decide) (by decide)) $$ H2
  iintro H2
  iapply (wp_store_rd pM c 1408 rfl (lo := 1408) (n := 160) (le_refl _) (le_refl _) (P2 I 2 c) (sum_cast (P1 I 2 c) (SG I 2 c) (P2 I 2 c) 1408 320 1408 (fun o k ho => add1 I 2 c o k ho) _) no_rest) $$ H2
  iintro H2
  ihave H0 := (rd_cut pM.view c (lo₁ := 0) (n₁ := 96) (lo₂ := 96) (n₂ := 96) fullShare _ rfl rfl rfl) $$ H0
  icases H0 with ⟨H0, U0⟩
  ihave H1 := (rd_cut pM.view c (lo₁ := 768) (n₁ := 80) (lo₂ := 848) (n₂ := 80) fullShare _ rfl rfl rfl) $$ H1
  icases H1 with ⟨H1, U1⟩
  ihave H0 := (rd_halve pM.view c 0 96 _) $$ H0
  icases H0 with ⟨L0, H0⟩
  ihave U0 := (rd_halve pM.view c 96 96 _) $$ U0
  icases U0 with ⟨M0, U0⟩
  ihave U1 := (rd_halve pM.view c 848 80 _) $$ U1
  icases U1 with ⟨M1, U1⟩
  iapply (wp_give I K c pM g0M 6 14 15 rfl _ (dev10_eq c) 96 576 rfl rfl (SG I 0 (tgt 6 c)) rfl (fun _ => rfl) rfl
    (fun o k ho _ => land2 I 0 c o k ho) rfl rfl rfl) $$ [$HR $T6 $P6 $M0 $HO]
  iintro ⟨S6, HO⟩
  iapply (wp_give I K c pM g0M 7 13 14 rfl _ (dev11_eq c) 0 672 rfl rfl (SG I 0 (tgt 7 c)) rfl (fun _ => rfl) rfl
    (fun o k ho _ => land3 I 0 c o k ho) rfl rfl rfl) $$ [$HR $T7 $P7 $L0 $HO]
  iintro ⟨S7, HO⟩
  iapply (wp_give I K c pM g1M 8 12 13 rfl _ (dev12_eq c) 848 480 rfl rfl (SG I 1 (tgt 8 c)) rfl (fun _ => rfl) rfl
    (fun o k ho _ => land2 I 1 c o k ho) rfl rfl rfl) $$ [$HR $T8 $P8 $M1 $HO]
  iintro ⟨S8, HO⟩
  ispecialize Hk $$ [$H0 $U0 $H1 $U1 $H2 $S6 $S7 $S8 $HO]
  iexact Hk

/-- The first of part 1's, and part 2's two. -/
theorem part23 (w w' w'' : BitVec 32) {k : _ → Prog (TpuEff nD τ sig (Elt F) Λ₀ .tc) α} :
    iprop(recs I K ∗ (Tx 9 c ∗ room (F := F) 9 (tgt 9 c) ∗ rd pM.view c 768 80 fullShare (P2 I 1 c)) ∗ ((Tx 10 c ∗ room (F := F) 10 (tgt 10 c)) ∗ (Tx 11 c ∗ room (F := F) 11 (tgt 11 c)) ∗ rd pM.view c 1408 160 fullShare (P2 I 2 c)) ∗ Ow c 12)
      ⊢ iprop(((rd pM.view c 768 80 fullShare.right (P2 I 1 c) ∗ rd pM.view c 1408 80 fullShare.right (P2 I 2 c) ∗ rd pM.view c 1488 80 fullShare.right (P2 I 2 c)
            ∗ (Sent 9 c ∗ Sent 10 c ∗ Sent 11 c) ∗ Ow c 9) -∗ WP c (k ⟨⟩) Q)
        -∗ WP c (onBufs (k0_part23 (F := F)) c w w' w'' >>= k) Q) := by
  unfold onBufs
  rw [k0_part23_eq_skeleton]
  unfold k0_part23_skel
  simp only [semSignalWord, semWaitWord, Prog.lift, Prog.bind_op, Prog.bind_ret, Prog.pure_eq_ret, Prog.bind_assoc, wp_deviceId]
  iintro ⟨#HR, ⟨T9, P9, H1⟩, ⟨⟨T10, P10⟩, ⟨T11, P11⟩, H2⟩, HO⟩ Hk
  ihave H2 := (rd_cut pM.view c (lo₁ := 1408) (n₁ := 80) (lo₂ := 1488) (n₂ := 80) fullShare _ rfl rfl rfl) $$ H2
  icases H2 with ⟨H2, U2⟩
  ihave H1 := (rd_halve pM.view c 768 80 _) $$ H1
  icases H1 with ⟨L1, H1⟩
  ihave H2 := (rd_halve pM.view c 1408 80 _) $$ H2
  icases H2 with ⟨L2, H2⟩
  ihave U2 := (rd_halve pM.view c 1488 80 _) $$ U2
  icases U2 with ⟨M2, U2⟩
  iapply (wp_give I K c pM g1M 9 11 12 rfl _ (dev13_eq c) 768 560 rfl rfl (SG I 1 (tgt 9 c)) rfl (fun _ => rfl) rfl
    (fun o k ho _ => land3 I 1 c o k ho) rfl rfl rfl) $$ [$HR $T9 $P9 $L1 $HO]
  iintro ⟨S9, HO⟩
  iapply (wp_give I K c pM g2M 10 10 11 rfl _ (dev14_eq c) 1488 480 rfl rfl (SG I 2 (tgt 10 c)) rfl (fun _ => rfl) rfl
    (fun o k ho _ => land2 I 2 c o k ho) rfl rfl rfl) $$ [$HR $T10 $P10 $M2 $HO]
  iintro ⟨S10, HO⟩
  iapply (wp_give I K c pM g2M 11 9 10 rfl _ (dev15_eq c) 1408 560 rfl rfl (SG I 2 (tgt 11 c)) rfl (fun _ => rfl) rfl
    (fun o k ho _ => land3 I 2 c o k ho) rfl rfl rfl) $$ [$HR $T11 $P11 $L2 $HO]
  iintro ⟨S11, HO⟩
  ispecialize Hk $$ [$H1 $H2 $U2 $S9 $S10 $S11 $HO]
  iexact Hk

end Cert.Parts
-- ==== Proof.PartsE.lean ====
/-
# The body, part by part: the third exchange, and the result spread
-/
module

public import proofs.«01_k».proof.Proof.PartsD

@[expose] public section

noncomputable section

namespace Cert.Parts

open Cert.KernelIdeal Cert.KernelIdeal.Gen Cert.Geom Cert.Regions Cert.Contents Cert.Protocol Cert.Offsets Cert.Blocks Cert.Ops Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × Fin 44 → ℕ)
variable {α : Type} {Q : α → sProp (MT nD τ sig Unit (Elt F) ℕ UU ℕ)} (c : Dev nD)

/-- Part 0's third exchange received and added into the result. -/
theorem part24 (w w' w'' w₃ : BitVec 32) (o₁ o₂ : ℕ → ℕ → Elt F .bf16) {k : _ → Prog (TpuEff nD τ sig (Elt F) Λ₀ .tc) α} :
    iprop(recs I K ∗ rd pM.view c 0 96 fullShare.right (P2 I 0 c) ∗ rd pM.view c 96 96 fullShare.right (P2 I 0 c) ∗ (rd oM.view c (fin3 0 0 c) 96 fullShare o₁ ∗ rd oM.view c (fin3 0 1 c) 96 fullShare o₂) ∗ (Rx 6 c ∗ Rx 7 c) ∗ Ow c 9)
      ⊢ iprop(((rd pM.view c 0 96 fullShare.right (P2 I 0 c) ∗ rd pM.view c 96 96 fullShare.right (P2 I 0 c) ∗ (rd oM.view c (fin3 0 0 c) 96 fullShare (OUT I 0 c) ∗ rd oM.view c (fin3 0 1 c) 96 fullShare (OUT I 0 c)) ∗ (Zr 6 c ∗ Zr 7 c)
            ∗ (rd g0M.view c 576 96 fullShare (SG I 0 c) ∗ rd g0M.view c 672 96 fullShare (SG I 0 c)) ∗ Ow c 9) -∗ WP c (k ⟨⟩) Q)
        -∗ WP c (onBufs (k0_part24 (F := F)) c w w' w'' w₃ >>= k) Q) := by
  unfold onBufs
  rw [k0_part24_eq_skeleton]
  unfold k0_part24_skel
  simp only [semSignalWord, semWaitWord, Prog.lift, Prog.bind_op, Prog.bind_ret, Prog.pure_eq_ret, Prog.bind_assoc, wp_deviceId]
  iintro ⟨#HR, H, U, ⟨O1, O2⟩, ⟨R6, R7⟩, HO⟩ Hk
  iapply (wp_take I K c 6 9 (by decide) (rd g0M.view c 576 96 fullShare (SG I 0 c)) rfl rfl rfl) $$ [$HR $R6 $HO]
  iintro ⟨Z6, G6, HO⟩
  iapply (wp_take I K c 7 9 (by decide) (rd g0M.view c 672 96 fullShare (SG I 0 c)) rfl rfl rfl) $$ [$HR $R7 $HO]
  iintro ⟨Z7, G7, HO⟩
  iapply (wp_load_rd pM c 0 rfl (lo := 0) (n := 96) (by decide) (by decide)) $$ H
  iintro H
  iapply (wp_load_rd g0M c 576 rfl (lo := 576) (n := 96) (by decide) (by decide)) $$ G6
  iintro G6
  iapply (wp_load_rd oM c (fin3 0 0 c) (off37_eq c) (lo := fin3 0 0 c) (n := 96) (le_refl _) (le_refl _)) $$ O1
  iintro O1
  iapply (wp_store_rd oM c (fin3 0 0 c) (off37_eq c) (lo := fin3 0 0 c) (n := 96) (le_refl _) (le_refl _) (OUT I 0 c)
    (sum_blk (P2 I 0 c) (SG I 0 c) (OUT I 0 c) 0 576 (fin3 0 0 c) (fun o k ho => fin_sum I c 0 0 o k (by decide) ho)) no_rest) $$ O1
  iintro O1
  iapply (wp_load_rd pM c 96 rfl (lo := 96) (n := 96) (by decide) (by decide)) $$ U
  iintro U
  iapply (wp_load_rd g0M c 672 rfl (lo := 672) (n := 96) (by decide) (by decide)) $$ G7
  iintro G7
  iapply (wp_load_rd oM c (fin3 0 1 c) (off38_eq c) (lo := fin3 0 1 c) (n := 96) (le_refl _) (le_refl _)) $$ O2
  iintro O2
  iapply (wp_store_rd oM c (fin3 0 1 c) (off38_eq c) (lo := fin3 0 1 c) (n := 96) (le_refl _) (le_refl _) (OUT I 0 c)
    (sum_blk (P2 I 0 c) (SG I 0 c) (OUT I 0 c) 96 672 (fin3 0 1 c) (fun o k ho => fin_sum I c 0 1 o k (by decide) ho)) no_rest) $$ O2
  iintro O2
  ispecialize Hk $$ [$H $U $O1 $O2 $Z6 $Z7 $G6 $G7 $HO]
  iexact Hk

/-- Part 1's; its second sum made, not yet stored. -/
theorem part25 (w w' w'' w₃ : BitVec 32) (o₁ : ℕ → ℕ → Elt F .bf16) {k : _ → Prog (TpuEff nD τ sig (Elt F) Λ₀ .tc) α} :
    iprop(recs I K ∗ rd pM.view c 768 80 fullShare.right (P2 I 1 c) ∗ rd pM.view c 848 80 fullShare.right (P2 I 1 c) ∗ rd oM.view c (fin3 1 0 c) 80 fullShare o₁ ∗ (Rx 8 c ∗ Rx 9 c) ∗ Ow c 9)
      ⊢ iprop(((rd pM.view c 768 80 fullShare.right (P2 I 1 c) ∗ rd pM.view c 848 80 fullShare.right (P2 I 1 c) ∗ rd oM.view c (fin3 1 0 c) 80 fullShare (OUT I 1 c) ∗ (Zr 8 c ∗ Zr 9 c)
            ∗ (rd g1M.view c 480 80 fullShare (SG I 1 c) ∗ rd g1M.view c 560 80 fullShare (SG I 1 c)) ∗ Ow c 9)
          -∗ ∀ (w₁ w₂ : BitVec 32), WP c (k ⟨addf (φ := .bf16) (blk (P2 I 1 c) 848 : (⟨2, ![80, 1024]⟩ : Shape).Idx → Elt F .bf16) (blk (SG I 1 c) 560), w₁, w₂⟩) Q)
        -∗ WP c (onBufs (k0_part25 (F := F)) c w w' w'' w₃ >>= k) Q) := by
  unfold onBufs
  rw [k0_part25_eq_skeleton]
  unfold k0_part25_skel
  simp only [semSignalWord, semWaitWord, Prog.lift, Prog.bind_op, Prog.bind_ret, Prog.pure_eq_ret, Prog.bind_assoc, wp_deviceId]
  iintro ⟨#HR, H, U, O1, ⟨R8, R9⟩, HO⟩ Hk
  iapply (wp_take I K c 8 9 (by decide) (rd g1M.view c 480 80 fullShare (SG I 1 c)) rfl rfl rfl) $$ [$HR $R8 $HO]
  iintro ⟨Z8, G8, HO⟩
  iapply (wp_take I K c 9 9 (by decide) (rd g1M.view c 560 80 fullShare (SG I 1 c)) rfl rfl rfl) $$ [$HR $R9 $HO]
  iintro ⟨Z9, G9, HO⟩
  iapply (wp_load_rd pM c 768 rfl (lo := 768) (n := 80) (by decide) (by decide)) $$ H
  iintro H
  iapply (wp_load_rd g1M c 480 rfl (lo := 480) (n := 80) (by decide) (by decide)) $$ G8
  iintro G8
  iapply (wp_load_rd oM c (fin3 1 0 c) (off39_eq c) (lo := fin3 1 0 c) (n := 80) (le_refl _) (le_refl _)) $$ O1
  iintro O1
  iapply (wp_store_rd oM c (fin3 1 0 c) (off39_eq c) (lo := fin3 1 0 c) (n := 80) (le_refl _) (le_refl _) (OUT I 1 c)
    (sum_blk (P2 I 1 c) (SG I 1 c) (OUT I 1 c) 768 480 (fin3 1 0 c) (fun o k ho => fin_sum I c 1 0 o k (by decide) ho)) no_rest) $$ O1
  iintro O1
  iapply (wp_load_rd pM c 848 rfl (lo := 848) (n := 80) (by decide) (by decide)) $$ U
  iintro U
  iapply (wp_load_rd g1M c 560 rfl (lo := 560) (n := 80) (by decide) (by decide)) $$ G9
  iintro G9
  ispecialize Hk $$ [$H $U $O1 $Z8 $Z9 $G8 $G9 $HO] %_ %_
  iexact Hk

/-- Stored; part 2's first. -/
theorem part26 (w w' w'' w₃ w₄ w₅ : BitVec 32) (o₁ o₂ : ℕ → ℕ → Elt F .bf16) {k : _ → Prog (TpuEff nD τ sig (Elt F) Λ₀ .tc) α} :
    iprop(recs I K ∗ rd pM.view c 1408 80 fullShare.right (P2 I 2 c) ∗ (rd oM.view c (fin3 1 1 c) 80 fullShare o₁ ∗ rd oM.view c (fin3 2 0 c) 80 fullShare o₂) ∗ (Rx 10 c ∗ Rx 11 c) ∗ Ow c 9)
      ⊢ iprop(((rd pM.view c 1408 80 fullShare.right (P2 I 2 c) ∗ (rd oM.view c (fin3 1 1 c) 80 fullShare (OUT I 1 c) ∗ rd oM.view c (fin3 2 0 c) 80 fullShare (OUT I 2 c)) ∗ (Zr 10 c ∗ Zr 11 c)
            ∗ (rd g2M.view c 480 80 fullShare (SG I 2 c) ∗ rd g2M.view c 560 80 fullShare (SG I 2 c)) ∗ Ow c 9) -∗ ∀ (w₁ w₂ : BitVec 32), WP c (k ⟨w₁, w₂⟩) Q)
        -∗ WP c (onBufs (k0_part26 (F := F)) c w w' w'' w₃
            (addf (φ := .bf16) (blk (P2 I 1 c) 848 : (⟨2, ![80, 1024]⟩ : Shape).Idx → Elt F .bf16) (blk (SG I 1 c) 560)) w₄ w₅ >>= k) Q) := by
  unfold onBufs
  rw [k0_part26_eq_skeleton]
  unfold k0_part26_skel
  simp only [semSignalWord, semWaitWord, Prog.lift, Prog.bind_op, Prog.bind_ret, Prog.pure_eq_ret, Prog.bind_assoc, wp_deviceId]
  iintro ⟨#HR, H, ⟨O1, O2⟩, ⟨R10, R11⟩, HO⟩ Hk
  iapply (wp_load_rd oM c (fin3 1 1 c) (off40_eq c) (lo := fin3 1 1 c) (n := 80) (le_refl _) (le_refl _)) $$ O1
  iintro O1
  iapply (wp_store_rd oM c (fin3 1 1 c) (off40_eq c) (lo := fin3 1 1 c) (n := 80) (le_refl _) (le_refl _) (OUT I 1 c)
    (sum_blk (P2 I 1 c) (SG I 1 c) (OUT I 1 c) 848 560 (fin3 1 1 c) (fun o k ho => fin_sum I c 1 1 o k (by decide) ho)) no_rest) $$ O1
  iintro O1
  iapply (wp_take I K c 10 9 (by decide) (rd g2M.view c 480 80 fullShare (SG I 2 c)) rfl rfl rfl) $$ [$HR $R10 $HO]
  iintro ⟨Z10, G10, HO⟩
  iapply (wp_take I K c 11 9 (by decide) (rd g2M.view c 560 80 fullShare (SG I 2 c)) rfl rfl rfl) $$ [$HR $R11 $HO]
  iintro ⟨Z11, G11, HO⟩
  iapply (wp_load_rd pM c 1408 rfl (lo := 1408) (n := 80) (by decide) (by decide)) $$ H
  iintro H
  iapply (wp_load_rd g2M c 480 rfl (lo := 480) (n := 80) (by decide) (by decide)) $$ G10
  iintro G10
  iapply (wp_load_rd oM c (fin3 2 0 c) (off41_eq c) (lo := fin3 2 0 c) (n := 80) (le_refl _) (le_refl _)) $$ O2
  iintro O2
  iapply (wp_store_rd oM c (fin3 2 0 c) (off41_eq c) (lo := fin3 2 0 c) (n := 80) (le_refl _) (le_refl _) (OUT I 2 c)
    (sum_blk (P2 I 2 c) (SG I 2 c) (OUT I 2 c) 1408 480 (fin3 2 0 c) (fun o k ho => fin_sum I c 2 0 o k (by decide) ho)) no_rest) $$ O2
  iintro O2
  ispecialize Hk $$ [$H $O1 $O2 $Z10 $Z11 $G10 $G11 $HO] %_ %_
  iexact Hk

/-- Part 2's second; part 0's finished pair sent to the second partner, lent by half. -/
theorem part27 (w w' w'' w₃ w₄ w₅ w₆ : BitVec 32) (o₁ : ℕ → ℕ → Elt F .bf16) {k : _ → Prog (TpuEff nD τ sig (Elt F) Λ₀ .tc) α} :
    iprop(recs I K ∗ rd pM.view c 1488 80 fullShare.right (P2 I 2 c) ∗ rd g2M.view c 560 80 fullShare (SG I 2 c) ∗ rd oM.view c (fin3 2 1 c) 80 fullShare o₁
        ∗ (Tx 12 c ∗ room (F := F) 12 (tgt 12 c) ∗ rd oM.view c (fin3 0 0 c) 96 fullShare (OUT I 0 c) ∗ rd oM.view c (fin3 0 1 c) 96 fullShare (OUT I 0 c)) ∗ Ow c 9)
      ⊢ iprop(((rd pM.view c 1488 80 fullShare.right (P2 I 2 c) ∗ rd g2M.view c 560 80 fullShare (SG I 2 c) ∗ rd oM.view c (fin3 2 1 c) 80 fullShare (OUT I 2 c) ∗ rd oM.view c (own2 0 c) 192 fullShare.right (OUT I 0 c) ∗ Sent 12 c ∗ Ow c 8) -∗ WP c (k ⟨⟩) Q)
        -∗ WP c (onBufs (k0_part27 (F := F)) c w w' w'' w₃ w₄ w₅ w₆ >>= k) Q) := by
  unfold onBufs
  rw [k0_part27_eq_skeleton]
  unfold k0_part27_skel
  simp only [semSignalWord, semWaitWord, Prog.lift, Prog.bind_op, Prog.bind_ret, Prog.pure_eq_ret, Prog.bind_assoc, wp_deviceId]
  iintro ⟨#HR, U, G11, O2, ⟨T12, P12, A, B⟩, HO⟩ Hk
  iapply (wp_load_rd pM c 1488 rfl (lo := 1488) (n := 80) (by decide) (by decide)) $$ U
  iintro U
  iapply (wp_load_rd g2M c 560 rfl (lo := 560) (n := 80) (by decide) (by decide)) $$ G11
  iintro G11
  iapply (wp_load_rd oM c (fin3 2 1 c) (off42_eq c) (lo := fin3 2 1 c) (n := 80) (le_refl _) (le_refl _)) $$ O2
  iintro O2
  iapply (wp_store_rd oM c (fin3 2 1 c) (off42_eq c) (lo := fin3 2 1 c) (n := 80) (le_refl _) (le_refl _) (OUT I 2 c)
    (sum_blk (P2 I 2 c) (SG I 2 c) (OUT I 2 c) 1488 560 (fin3 2 1 c) (fun o k ho => fin_sum I c 2 1 o k (by decide) ho)) no_rest) $$ O2
  iintro O2
  ihave A := (own2_glue c fullShare (OUT I 0 c) 0 96 192 rfl rfl) $$ [$A $B]
  ihave A := (rd_halve oM.view c (own2 0 c) 192 _) $$ A
  icases A with ⟨L, A⟩
  iapply (wp_give I K c oM oM 12 8 9 rfl _ (dev16_eq c) (own2 0 c) (own2 0 c) (off43_eq c) (off43_eq c) (OUT I 0 (tgt 12 c)) rfl
    (fun f => land_out c 12 (by decide) f) (recv_out I c 12 (by decide)) (fun o k ho _ => land4 I c 0 o k ho) rfl rfl rfl) $$ [$HR $T12 $P12 $L $HO]
  iintro ⟨S12, HO⟩
  ispecialize Hk $$ [$U $G11 $O2 $A $S12 $HO]
  iexact Hk

/-- The same for parts 1 and 2; parts 0's and 1's partners' pairs received. -/
theorem part28 (w w' w'' w₃ w₄ : BitVec 32) {k : _ → Prog (TpuEff nD τ sig (Elt F) Λ₀ .tc) α} :
    iprop(recs I K ∗ (Tx 13 c ∗ room (F := F) 13 (tgt 13 c) ∗ rd oM.view c (fin3 1 0 c) 80 fullShare (OUT I 1 c) ∗ rd oM.view c (fin3 1 1 c) 80 fullShare (OUT I 1 c))
        ∗ (Tx 14 c ∗ room (F := F) 14 (tgt 14 c) ∗ rd oM.view c (fin3 2 0 c) 80 fullShare (OUT I 2 c) ∗ rd oM.view c (fin3 2 1 c) 80 fullShare (OUT I 2 c)) ∗ (Rx 12 c ∗ Rx 13 c) ∗ Ow c 8)
      ⊢ iprop(((rd oM.view c (own2 1 c) 160 fullShare.right (OUT I 1 c) ∗ rd oM.view c (own2 2 c) 160 fullShare.right (OUT I 2 c) ∗ (Sent 13 c ∗ Sent 14 c) ∗ (Zr 12 c ∗ Zr 13 c)
            ∗ (rd oM.view c (own2 0 (tgt 12 c)) 192 fullShare (OUT I 0 c) ∗ rd oM.view c (own2 1 (tgt 13 c)) 160 fullShare (OUT I 1 c)) ∗ Ow c 6) -∗ WP c (k ⟨⟩) Q)
        -∗ WP c (onBufs (k0_part28 (F := F)) c w w' w'' w₃ w₄ >>= k) Q) := by
  unfold onBufs
  rw [k0_part28_eq_skeleton]
  unfold k0_part28_skel
  simp only [semSignalWord, semWaitWord, Prog.lift, Prog.bind_op, Prog.bind_ret, Prog.pure_eq_ret, Prog.bind_assoc, wp_deviceId]
  iintro ⟨#HR, ⟨T13, P13, A, B⟩, ⟨T14, P14, C, D⟩, ⟨R12, R13⟩, HO⟩ Hk
  ihave A := (own2_glue c fullShare (OUT I 1 c) 1 80 160 rfl rfl) $$ [$A $B]
  ihave A := (rd_halve oM.view c (own2 1 c) 160 _) $$ A
  icases A with ⟨L, A⟩
  ihave C := (own2_glue c fullShare (OUT I 2 c) 2 80 160 rfl rfl) $$ [$C $D]
  ihave C := (rd_halve oM.view c (own2 2 c) 160 _) $$ C
  icases C with ⟨M, C⟩
  iapply (wp_give I K c oM oM 13 7 8 rfl _ (dev17_eq c) (own2 1 c) (own2 1 c) (off44_eq c) (off44_eq c) (OUT I 1 (tgt 13 c)) rfl
    (fun f => land_out c 13 (by decide) f) (recv_out I c 13 (by decide)) (fun o k ho _ => land4 I c 1 o k ho) rfl rfl rfl) $$ [$HR $T13 $P13 $L $HO]
  iintro ⟨S13, HO⟩
  iapply (wp_give I K c oM oM 14 6 7 rfl _ (dev18_eq c) (own2 2 c) (own2 2 c) (off45_eq c) (off45_eq c) (OUT I 2 (tgt 14 c)) rfl
    (fun f => land_out c 14 (by decide) f) (recv_out I c 14 (by decide)) (fun o k ho _ => land4 I c 2 o k ho) rfl rfl rfl) $$ [$HR $T14 $P14 $M $HO]
  iintro ⟨S14, HO⟩
  iapply (wp_take I K c 12 6 (by decide) (rd oM.view c (own2 0 (tgt 12 c)) 192 fullShare (OUT I 0 c)) rfl rfl rfl) $$ [$HR $R12 $HO]
  iintro ⟨Z12, G12, HO⟩
  iapply (wp_take I K c 13 6 (by decide) (rd oM.view c (own2 1 (tgt 13 c)) 160 fullShare (OUT I 1 c)) rfl rfl rfl) $$ [$HR $R13 $HO]
  iintro ⟨Z13, G13, HO⟩
  ispecialize Hk $$ [$A $C $S13 $S14 $Z12 $Z13 $G12 $G13 $HO]
  iexact Hk

/-- Part 2's received; part 0's finished half sent to the first partner, lent by half. -/
theorem part29 (w w' w'' w₃ : BitVec 32) {k : _ → Prog (TpuEff nD τ sig (Elt F) Λ₀ .tc) α} :
    iprop(recs I K ∗ (Tx 15 c ∗ room (F := F) 15 (tgt 15 c) ∗ rd oM.view c (own2 0 c) 192 fullShare.right (OUT I 0 c) ∗ rd oM.view c (own2 0 (tgt 12 c)) 192 fullShare (OUT I 0 c)) ∗ Rx 14 c ∗ Ow c 6)
      ⊢ iprop(((rd oM.view c (own2 0 (tgt 12 c)) 192 fullShare.left (OUT I 0 c) ∗ Sent 15 c ∗ Zr 14 c ∗ rd oM.view c (own2 2 (tgt 14 c)) 160 fullShare (OUT I 2 c) ∗ Ow c 5) -∗ WP c (k ⟨⟩) Q)
        -∗ WP c (onBufs (k0_part29 (F := F)) c w w' w'' w₃ >>= k) Q) := by
  unfold onBufs
  rw [k0_part29_eq_skeleton]
  unfold k0_part29_skel
  simp only [semSignalWord, semWaitWord, Prog.lift, Prog.bind_op, Prog.bind_ret, Prog.pure_eq_ret, Prog.bind_assoc, wp_deviceId]
  iintro ⟨#HR, ⟨T15, P15, A, B⟩, R14, HO⟩ Hk
  iapply (wp_take I K c 14 6 (by decide) (rd oM.view c (own2 2 (tgt 14 c)) 160 fullShare (OUT I 2 c)) rfl rfl rfl) $$ [$HR $R14 $HO]
  iintro ⟨Z14, G14, HO⟩
  ihave B := (rd_halve oM.view c (own2 0 (tgt 12 c)) 192 _) $$ B
  icases B with ⟨L, B⟩
  ihave A := (own4_glue c fullShare.right (OUT I 0 c) 0 192 384 rfl rfl) $$ [$A $B]
  iapply (wp_give I K c oM oM 15 5 6 rfl _ (dev19_eq c) (own4 0 c) (own4 0 c) (off46_eq c) (off46_eq c) (OUT I 0 (tgt 15 c)) rfl
    (fun f => land_out c 15 (by decide) f) (recv_out I c 15 (by decide)) (fun o k ho _ => land5 I c 0 o k ho) rfl rfl rfl) $$ [$HR $T15 $P15 $A $HO]
  iintro ⟨S15, HO⟩
  ispecialize Hk $$ [$L $S15 $Z14 $G14 $HO]
  iexact Hk

/-- Parts 1's and 2's; parts 0's and 1's partners' halves received. -/
theorem part30 (w w' w'' w₃ : BitVec 32) {k : _ → Prog (TpuEff nD τ sig (Elt F) Λ₀ .tc) α} :
    iprop(recs I K ∗ (Tx 16 c ∗ room (F := F) 16 (tgt 16 c) ∗ rd oM.view c (own2 1 c) 160 fullShare.right (OUT I 1 c) ∗ rd oM.view c (own2 1 (tgt 13 c)) 160 fullShare (OUT I 1 c))
        ∗ (Tx 17 c ∗ room (F := F) 17 (tgt 17 c) ∗ rd oM.view c (own2 2 c) 160 fullShare.right (OUT I 2 c) ∗ rd oM.view c (own2 2 (tgt 14 c)) 160 fullShare (OUT I 2 c)) ∗ (Rx 15 c ∗ Rx 16 c) ∗ Ow c 5)
      ⊢ iprop(((rd oM.view c (own2 1 (tgt 13 c)) 160 fullShare.left (OUT I 1 c) ∗ rd oM.view c (own2 2 (tgt 14 c)) 160 fullShare.left (OUT I 2 c) ∗ (Sent 16 c ∗ Sent 17 c)
            ∗ (Zr 15 c ∗ Zr 16 c) ∗ (rd oM.view c (own4 0 (tgt 15 c)) 384 fullShare (OUT I 0 c) ∗ rd oM.view c (own4 1 (tgt 16 c)) 320 fullShare (OUT I 1 c)) ∗ Ow c 3) -∗ WP c (k ⟨⟩) Q)
        -∗ WP c (onBufs (k0_part30 (F := F)) c w w' w'' w₃ >>= k) Q) := by
  unfold onBufs
  rw [k0_part30_eq_skeleton]
  unfold k0_part30_skel
  simp only [semSignalWord, semWaitWord, Prog.lift, Prog.bind_op, Prog.bind_ret, Prog.pure_eq_ret, Prog.bind_assoc, wp_deviceId]
  iintro ⟨#HR, ⟨T16, P16, A, B⟩, ⟨T17, P17, C, D⟩, ⟨R15, R16⟩, HO⟩ Hk
  ihave B := (rd_halve oM.view c (own2 1 (tgt 13 c)) 160 _) $$ B
  icases B with ⟨L, B⟩
  ihave A := (own4_glue c fullShare.right (OUT I 1 c) 1 160 320 rfl rfl) $$ [$A $B]
  ihave D := (rd_halve oM.view c (own2 2 (tgt 14 c)) 160 _) $$ D
  icases D with ⟨M, D⟩
  ihave C := (own4_glue c fullShare.right (OUT I 2 c) 2 160 320 rfl rfl) $$ [$C $D]
  iapply (wp_give I K c oM oM 16 4 5 rfl _ (dev20_eq c) (own4 1 c) (own4 1 c) (off47_eq c) (off47_eq c) (OUT I 1 (tgt 16 c)) rfl
    (fun f => land_out c 16 (by decide) f) (recv_out I c 16 (by decide)) (fun o k ho _ => land5 I c 1 o k ho) rfl rfl rfl) $$ [$HR $T16 $P16 $A $HO]
  iintro ⟨S16, HO⟩
  iapply (wp_give I K c oM oM 17 3 4 rfl _ (dev21_eq c) (own4 2 c) (own4 2 c) (off48_eq c) (off48_eq c) (OUT I 2 (tgt 17 c)) rfl
    (fun f => land_out c 17 (by decide) f) (recv_out I c 17 (by decide)) (fun o k ho _ => land5 I c 2 o k ho) rfl rfl rfl) $$ [$HR $T17 $P17 $C $HO]
  iintro ⟨S17, HO⟩
  iapply (wp_take I K c 15 3 (by decide) (rd oM.view c (own4 0 (tgt 15 c)) 384 fullShare (OUT I 0 c)) rfl rfl rfl) $$ [$HR $R15 $HO]
  iintro ⟨Z15, G15, HO⟩
  iapply (wp_take I K c 16 3 (by decide) (rd oM.view c (own4 1 (tgt 16 c)) 320 fullShare (OUT I 1 c)) rfl rfl rfl) $$ [$HR $R16 $HO]
  iintro ⟨Z16, G16, HO⟩
  ispecialize Hk $$ [$L $M $S16 $S17 $Z15 $Z16 $G15 $G16 $HO]
  iexact Hk

end Cert.Parts
-- ==== Proof.PartsF.lean ====
/-
# The body, part by part: the sources given back
-/
module

public import proofs.«01_k».proof.Proof.PartsE

@[expose] public section

noncomputable section

namespace Cert.Parts

open Cert.KernelIdeal Cert.KernelIdeal.Gen Cert.Geom Cert.Regions Cert.Contents Cert.Protocol Cert.Offsets Cert.Blocks Cert.Ops Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × Fin 44 → ℕ)
variable {α : Type} {Q : α → sProp (MT nD τ sig Unit (Elt F) ℕ UU ℕ)} (c : Dev nD)

/-- The last half received; the first transfers' sources given back. -/
theorem part31 {k : _ → Prog (TpuEff nD τ sig (Elt F) Λ₀ .tc) α} :
    iprop(recs I K ∗ Rx 17 c ∗ (Sent 0 c ∗ Sent 1 c ∗ Sent 2 c ∗ Sent 3 c) ∗ Ow c 3)
      ⊢ iprop((((Zr 17 c ∗ rd oM.view c (own4 2 (tgt 17 c)) 320 fullShare (OUT I 2 c)) ∗ ((Zs 0 c ∗ sendPay I 0 c) ∗ (Zs 1 c ∗ sendPay I 1 c) ∗ (Zs 2 c ∗ sendPay I 2 c) ∗ (Zs 3 c ∗ sendPay I 3 c)) ∗ Ow c 3) -∗ WP c (k ⟨⟩) Q)
        -∗ WP c (onBufs (k0_part31 (F := F)) c >>= k) Q) := by
  unfold onBufs
  rw [k0_part31_eq_skeleton]
  unfold k0_part31_skel
  simp only [semSignalWord, semWaitWord, Prog.lift, Prog.bind_op, Prog.bind_ret, Prog.pure_eq_ret, Prog.bind_assoc, wp_deviceId]
  iintro ⟨#HR, R17, ⟨S0, S1, S2, S3⟩, HO⟩ Hk
  iapply (wp_take I K c 17 3 (by decide) (rd oM.view c (own4 2 (tgt 17 c)) 320 fullShare (OUT I 2 c)) rfl rfl rfl) $$ [$HR $R17 $HO]
  iintro ⟨Y17, G17, HO⟩
  iapply (wp_sent I K c 0 3 rfl rfl) $$ [$HR $S0 $HO]
  iintro ⟨Z0, B0, HO⟩
  iapply (wp_sent I K c 1 3 rfl rfl) $$ [$HR $S1 $HO]
  iintro ⟨Z1, B1, HO⟩
  iapply (wp_sent I K c 2 3 rfl rfl) $$ [$HR $S2 $HO]
  iintro ⟨Z2, B2, HO⟩
  iapply (wp_sent I K c 3 3 rfl rfl) $$ [$HR $S3 $HO]
  iintro ⟨Z3, B3, HO⟩
  ispecialize Hk $$ [$Y17 $G17 $Z0 $B0 $Z1 $B1 $Z2 $B2 $Z3 $B3 $HO]
  iexact Hk

/-- The next ones'. -/
theorem part32 {k : _ → Prog (TpuEff nD τ sig (Elt F) Λ₀ .tc) α} :
    iprop(recs I K ∗ (Sent 4 c ∗ Sent 5 c ∗ Sent 6 c ∗ Sent 7 c ∗ Sent 8 c) ∗ Ow c 3)
      ⊢ iprop(((((Zs 4 c ∗ sendPay I 4 c) ∗ (Zs 5 c ∗ sendPay I 5 c) ∗ (Zs 6 c ∗ sendPay I 6 c) ∗ (Zs 7 c ∗ sendPay I 7 c) ∗ (Zs 8 c ∗ sendPay I 8 c)) ∗ Ow c 3) -∗ WP c (k ⟨⟩) Q)
        -∗ WP c (onBufs (k0_part32 (F := F)) >>= k) Q) := by
  unfold onBufs
  rw [k0_part32_eq_skeleton]
  unfold k0_part32_skel
  simp only [semSignalWord, semWaitWord, Prog.lift, Prog.bind_op, Prog.bind_ret, Prog.pure_eq_ret, Prog.bind_assoc, wp_deviceId]
  iintro ⟨#HR, ⟨S4, S5, S6, S7, S8⟩, HO⟩ Hk
  iapply (wp_sent I K c 4 3 rfl rfl) $$ [$HR $S4 $HO]
  iintro ⟨Z4, B4, HO⟩
  iapply (wp_sent I K c 5 3 rfl rfl) $$ [$HR $S5 $HO]
  iintro ⟨Z5, B5, HO⟩
  iapply (wp_sent I K c 6 3 rfl rfl) $$ [$HR $S6 $HO]
  iintro ⟨Z6, B6, HO⟩
  iapply (wp_sent I K c 7 3 rfl rfl) $$ [$HR $S7 $HO]
  iintro ⟨Z7, B7, HO⟩
  iapply (wp_sent I K c 8 3 rfl rfl) $$ [$HR $S8 $HO]
  iintro ⟨Z8, B8, HO⟩
  ispecialize Hk $$ [$Z4 $B4 $Z5 $B5 $Z6 $B6 $Z7 $B7 $Z8 $B8 $HO]
  iexact Hk

/-- The next ones'. -/
theorem part33 {k : _ → Prog (TpuEff nD τ sig (Elt F) Λ₀ .tc) α} :
    iprop(recs I K ∗ (Sent 9 c ∗ Sent 10 c ∗ Sent 11 c ∗ Sent 12 c ∗ Sent 13 c) ∗ Ow c 3)
      ⊢ iprop(((((Zs 9 c ∗ sendPay I 9 c) ∗ (Zs 10 c ∗ sendPay I 10 c) ∗ (Zs 11 c ∗ sendPay I 11 c) ∗ (Zs 12 c ∗ sendPay I 12 c) ∗ (Zs 13 c ∗ sendPay I 13 c)) ∗ Ow c 3) -∗ WP c (k ⟨⟩) Q)
        -∗ WP c (onBufs (k0_part33 (F := F)) c >>= k) Q) := by
  unfold onBufs
  rw [k0_part33_eq_skeleton]
  unfold k0_part33_skel
  simp only [semSignalWord, semWaitWord, Prog.lift, Prog.bind_op, Prog.bind_ret, Prog.pure_eq_ret, Prog.bind_assoc, wp_deviceId]
  iintro ⟨#HR, ⟨S9, S10, S11, S12, S13⟩, HO⟩ Hk
  iapply (wp_sent I K c 9 3 rfl rfl) $$ [$HR $S9 $HO]
  iintro ⟨Z9, B9, HO⟩
  iapply (wp_sent I K c 10 3 rfl rfl) $$ [$HR $S10 $HO]
  iintro ⟨Z10, B10, HO⟩
  iapply (wp_sent I K c 11 3 rfl rfl) $$ [$HR $S11 $HO]
  iintro ⟨Z11, B11, HO⟩
  iapply (wp_sent I K c 12 3 rfl rfl) $$ [$HR $S12 $HO]
  iintro ⟨Z12, B12, HO⟩
  iapply (wp_sent I K c 13 3 rfl rfl) $$ [$HR $S13 $HO]
  iintro ⟨Z13, B13, HO⟩
  ispecialize Hk $$ [$Z9 $B9 $Z10 $B10 $Z11 $B11 $Z12 $B12 $Z13 $B13 $HO]
  iexact Hk

end Cert.Parts
-- ==== Proof.Ends.lean ====
/-
# The buffers before and after

Before the body every buffer is owned whole, at whatever contents; the body wants them band by band, the rows its partners may
write set apart. Behind it the bands are put together again: the scratch buffers at some contents, the result at the finished
one.
-/
module

public import proofs.«01_k».proof.Proof.Steps

@[expose] public section

noncomputable section

namespace Cert.Ends

open Cert.KernelIdeal Cert.KernelIdeal.Gen Cert.Geom Cert.Regions Cert.Contents Cert.Protocol Cert.Offsets Cert.Blocks Cert.Ops Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem fin18 (Φ : Fin 18 → sProp (MT nD τ sig Unit (Elt F) ℕ UU ℕ)) : bigSep Finset.univ Φ = iprop(Φ 0 ∗ Φ 1 ∗ Φ 2 ∗ Φ 3 ∗ Φ 4 ∗ Φ 5 ∗ Φ 6 ∗ Φ 7 ∗ Φ 8 ∗ Φ 9
    ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

/-! ## Bands at some contents -/

section Some
variable {R C : ℕ} {e : EltTy} (v : View sig .tc .vmem ⟨2, ![R, C]⟩ e) (c : Dev nD)

/-- A band at some contents. -/
def rdx (lo n : ℕ) : sProp 𝕄 := iprop(∃ g, rd (F := F) v c lo n fullShare g)

theorem rdx_of (lo n : ℕ) (g : ℕ → ℕ → Elt F e) : (rd v c lo n fullShare g : sProp 𝕄) ⊢ rdx (F := F) v c lo n := by
  unfold rdx; iintro H; iexists g; iexact H

theorem rdx_ex (lo n : ℕ) : (rdx v c lo n : sProp 𝕄) ⊢ iprop(∃ g, rd (F := F) v c lo n fullShare g) := by unfold rdx; iintro H; iexact H

theorem rdx_glue {lo n lo₁ n₁ lo₂ n₂ : ℕ} (h₁ : lo₁ = lo) (h₂ : lo₂ = lo + n₁) (h : n = n₁ + n₂) :
    iprop(rdx (F := F) v c lo₁ n₁ ∗ rdx (F := F) v c lo₂ n₂) ⊢ (rdx v c lo n : sProp 𝕄) := by
  unfold rdx
  iintro ⟨⟨%g, H⟩, ⟨%g', H'⟩⟩
  iexists fun r k => if r < lo₂ then g r k else g' r k
  iapply (rd_glue v c (lo₁ := lo₁) (n₁ := n₁) (lo₂ := lo₂) (n₂ := n₂) fullShare _ h₁ h₂ h)
  isplitl [H]
  · iapply (rd_congr v c lo₁ n₁ fullShare (g := g) fun r k _ h' _ => (if_pos (by omega)).symm); iexact H
  · iapply (rd_congr v c lo₂ n₂ fullShare (g := g') fun r k h' _ _ => (if_neg (by omega)).symm); iexact H'

/-- Two halves of a band, at one contents. -/
theorem rdx_unhalve (lo n : ℕ) (g : ℕ → ℕ → Elt F e) :
    iprop(rd v c lo n fullShare.left g ∗ rd v c lo n fullShare.right g) ⊢ (rdx (F := F) v c lo n : sProp 𝕄) :=
  (rd_unhalve v c lo n g).trans (rdx_of v c lo n g)

theorem rdx_intro (f : Buf (Elt F) (v.loc (c : Thread nD τ))) (hR : 0 < R) (hC : 0 < C) :
    (v.loc (c : Thread nD τ) ↦[v.setOn Finset.univ]{fullShare} f : sProp 𝕄) ⊢ rdx (F := F) v c 0 R :=
  (rd_intro v c fullShare f hR hC).trans (rdx_of v c 0 R _)

theorem rdx_elim : (rdx v c 0 R : sProp 𝕄) ⊢ iprop(∃ f, v.loc (c : Thread nD τ) ↦[v.setOn Finset.univ]{fullShare} f) := by
  unfold rdx
  iintro ⟨%g, H⟩
  ihave H := (rd_elim v c fullShare g) $$ H
  icases H with ⟨%f, -, H⟩
  iexists f; iexact H

theorem rdx_cut {lo n lo₁ n₁ lo₂ n₂ : ℕ} (h₁ : lo₁ = lo) (h₂ : lo₂ = lo + n₁) (h : n = n₁ + n₂) :
    (rdx v c lo n : sProp 𝕄) ⊢ iprop(rdx (F := F) v c lo₁ n₁ ∗ rdx (F := F) v c lo₂ n₂) := by
  unfold rdx
  iintro ⟨%g, H⟩
  ihave H := (rd_cut v c (lo₁ := lo₁) (n₁ := n₁) (lo₂ := lo₂) (n₂ := n₂) fullShare g h₁ h₂ h) $$ H
  icases H with ⟨H1, H2⟩
  isplitl [H1]
  · iexists g; iexact H1
  · iexists g; iexact H2

end Some

variable (I : Inp F) (c : Dev nD)

/-! ## Before -/

theorem own2_cutx (p : Fin 3) (s n : ℕ) (hs : s = sub p) (hn : n = 2 * sub p) :
    (rdx oM.view c (own2 p c) n : sProp 𝕄) ⊢ iprop(rdx (F := F) oM.view c (fin3 p 0 c) s ∗ rdx (F := F) oM.view c (fin3 p 1 c) s) := by
  unfold rdx
  iintro ⟨%g, H⟩
  ihave H := (own2_cut c fullShare g p s n hs hn) $$ H
  icases H with ⟨H1, H2⟩
  isplitl [H1]
  · iexists g; iexact H1
  · iexists g; iexact H2
theorem own4_cutx (p : Fin 3) (s n : ℕ) (hs : s = 2 * sub p) (hn : n = 4 * sub p) :
    (rdx oM.view c (own4 p c) n : sProp 𝕄) ⊢ iprop(rdx (F := F) oM.view c (own2 p c) s ∗ rdx (F := F) oM.view c (own2 p (peer p 1 c)) s) := by
  unfold rdx
  iintro ⟨%g, H⟩
  ihave H := (own4_cut c fullShare g p s n hs hn) $$ H
  icases H with ⟨H1, H2⟩
  isplitl [H1]
  · iexists g; iexact H1
  · iexists g; iexact H2
theorem own8_cutx (p : Fin 3) (s n : ℕ) (hs : s = 4 * sub p) (hn : n = 8 * sub p) :
    (rdx oM.view c (base p) n : sProp 𝕄) ⊢ iprop(rdx (F := F) oM.view c (own4 p c) s ∗ rdx (F := F) oM.view c (own4 p (peer p 0 c)) s) := by
  unfold rdx
  iintro ⟨%g, H⟩
  ihave H := (own8_cut c fullShare g p s n hs hn) $$ H
  icases H with ⟨H1, H2⟩
  isplitl [H1]
  · iexists g; iexact H1
  · iexists g; iexact H2

/-- A part's rows of the result: the partner's half, the second partner's pair, and the device's own two sub-blocks. -/
theorem part_rows (p : Fin 3) (b : ℕ) (hb : b = base p) (s1 s2 s4 s8 : ℕ) (h1 : s1 = sub p) (h2 : s2 = 2 * sub p) (h4 : s4 = 4 * sub p) (h8 : s8 = 8 * sub p) :
    (rdx oM.view c b s8 : sProp 𝕄) ⊢ iprop(rdx (F := F) oM.view c (own4 p (peer p 0 c)) s4 ∗ rdx (F := F) oM.view c (own2 p (peer p 1 c)) s2
      ∗ rdx (F := F) oM.view c (fin3 p 0 c) s1 ∗ rdx (F := F) oM.view c (fin3 p 1 c) s1) := by
  subst hb
  iintro H
  ihave H := (own8_cutx (F := F) c p s4 s8 h4 h8) $$ H
  icases H with ⟨H, H4⟩
  ihave H := (own4_cutx (F := F) c p s2 s4 h2 h4) $$ H
  icases H with ⟨H, H2⟩
  ihave H := (own2_cutx (F := F) c p s1 s2 h1 h2) $$ H
  icases H with ⟨H, H1⟩
  isplitl [H4]; · iexact H4
  isplitl [H2]; · iexact H2
  isplitl [H]; · iexact H
  iexact H1

/-- The rows a transfer may write, at some contents. -/
theorem room_of (t : Fin 18) {R : ℕ} (v : View sig .tc .vmem ⟨2, ![R, 1024]⟩ .bf16) (lo n : ℕ)
    (h : ∀ g, land t c g = (rd v c lo n fullShare g : sProp 𝕄)) : (rdx v c lo n : sProp 𝕄) ⊢ room (F := F) t c := by
  unfold rdx room
  iintro ⟨%g, H⟩
  iexists g
  iapply (Entails.of_eq (h g).symm)
  iexact H

/-- The rows a partner may write, apart from the device's own: the four buffers handed in whole. -/
theorem entry_rooms :
    iprop(rdx (F := F) oM.view c 0 2048 ∗ rdx (F := F) g0M.view c 0 768 ∗ rdx (F := F) g1M.view c 0 640 ∗ rdx (F := F) g2M.view c 0 640)
      ⊢ iprop((rooms (F := F) 0 c ∗ rooms (F := F) 1 c ∗ rooms (F := F) 2 c)
        ∗ (rdx (F := F) oM.view c (fin3 0 0 c) 96 ∗ rdx (F := F) oM.view c (fin3 0 1 c) 96)
        ∗ (rdx (F := F) oM.view c (fin3 1 0 c) 80 ∗ rdx (F := F) oM.view c (fin3 1 1 c) 80)
        ∗ (rdx (F := F) oM.view c (fin3 2 0 c) 80 ∗ rdx (F := F) oM.view c (fin3 2 1 c) 80)) := by
  iintro ⟨HO, H0, H1, H2⟩
  ihave H0 := (rdx_cut (F := F) g0M.view c (lo := 0) (n := 768) (lo₁ := 0) (n₁ := 384) (lo₂ := 384) (n₂ := 384) rfl rfl rfl) $$ H0
  icases H0 with ⟨X0, H0⟩
  ihave H0 := (rdx_cut (F := F) g0M.view c (lo := 384) (n := 384) (lo₁ := 384) (n₁ := 192) (lo₂ := 576) (n₂ := 192) rfl rfl rfl) $$ H0
  icases H0 with ⟨X3, H0⟩
  ihave H0 := (rdx_cut (F := F) g0M.view c (lo := 576) (n := 192) (lo₁ := 576) (n₁ := 96) (lo₂ := 672) (n₂ := 96) rfl rfl rfl) $$ H0
  icases H0 with ⟨X6, H0⟩
  ihave H1 := (rdx_cut (F := F) g1M.view c (lo := 0) (n := 640) (lo₁ := 0) (n₁ := 320) (lo₂ := 320) (n₂ := 320) rfl rfl rfl) $$ H1
  icases H1 with ⟨X1, H1⟩
  ihave H1 := (rdx_cut (F := F) g1M.view c (lo := 320) (n := 320) (lo₁ := 320) (n₁ := 160) (lo₂ := 480) (n₂ := 160) rfl rfl rfl) $$ H1
  icases H1 with ⟨X4, H1⟩
  ihave H1 := (rdx_cut (F := F) g1M.view c (lo := 480) (n := 160) (lo₁ := 480) (n₁ := 80) (lo₂ := 560) (n₂ := 80) rfl rfl rfl) $$ H1
  icases H1 with ⟨X8, H1⟩
  ihave H2 := (rdx_cut (F := F) g2M.view c (lo := 0) (n := 640) (lo₁ := 0) (n₁ := 320) (lo₂ := 320) (n₂ := 320) rfl rfl rfl) $$ H2
  icases H2 with ⟨X2, H2⟩
  ihave H2 := (rdx_cut (F := F) g2M.view c (lo := 320) (n := 320) (lo₁ := 320) (n₁ := 160) (lo₂ := 480) (n₂ := 160) rfl rfl rfl) $$ H2
  icases H2 with ⟨X5, H2⟩
  ihave H2 := (rdx_cut (F := F) g2M.view c (lo := 480) (n := 160) (lo₁ := 480) (n₁ := 80) (lo₂ := 560) (n₂ := 80) rfl rfl rfl) $$ H2
  icases H2 with ⟨X10, H2⟩
  ihave HO := (rdx_cut (F := F) oM.view c (lo := 0) (n := 2048) (lo₁ := 0) (n₁ := 768) (lo₂ := 768) (n₂ := 1280) rfl rfl rfl) $$ HO
  icases HO with ⟨O0, HO⟩
  ihave HO := (rdx_cut (F := F) oM.view c (lo := 768) (n := 1280) (lo₁ := 768) (n₁ := 640) (lo₂ := 1408) (n₂ := 640) rfl rfl rfl) $$ HO
  icases HO with ⟨O1, HO⟩
  ihave O0 := (part_rows (F := F) c 0 0 rfl 96 192 384 768 rfl rfl rfl rfl) $$ O0
  icases O0 with ⟨X15, X12, F0, G0⟩
  ihave O1 := (part_rows (F := F) c 1 768 rfl 80 160 320 640 rfl rfl rfl rfl) $$ O1
  icases O1 with ⟨X16, X13, F1, G1⟩
  ihave HO := (part_rows (F := F) c 2 1408 rfl 80 160 320 640 rfl rfl rfl rfl) $$ HO
  icases HO with ⟨X17, X14, F2, G2⟩
  isplitl [X0 X1 X2 X3 X4 X5 X6 X8 X10 X12 X13 X14 X15 X16 X17 H0 H1 H2]
  · unfold rooms
    isplitl [X0 X5 X8 H1 X14 X15]
    · isplitl [X0]; · iapply (room_of c (ofMask 0 0) g0M.view 0 384 fun _ => rfl); iexact X0
      isplitl [X5]; · iapply (room_of c (ofMask 0 1) g2M.view 320 160 fun _ => rfl); iexact X5
      isplitl [X8]; · iapply (room_of c (ofMask 0 2) g1M.view 480 80 fun _ => rfl); iexact X8
      isplitl [H1]; · iapply (room_of c (ofMask 0 3) g1M.view 560 80 fun _ => rfl); iexact H1
      isplitl [X14]; · iapply (room_of c (ofMask 0 4) oM.view (own2 2 (peer 2 1 c)) 160 fun _ => rfl); iexact X14
      iapply (room_of c (ofMask 0 5) oM.view (own4 0 (peer 0 0 c)) 384 fun _ => rfl); iexact X15
    isplitl [X1 X3 X10 H2 X12 X16]
    · isplitl [X1]; · iapply (room_of c (ofMask 1 0) g1M.view 0 320 fun _ => rfl); iexact X1
      isplitl [X3]; · iapply (room_of c (ofMask 1 1) g0M.view 384 192 fun _ => rfl); iexact X3
      isplitl [X10]; · iapply (room_of c (ofMask 1 2) g2M.view 480 80 fun _ => rfl); iexact X10
      isplitl [H2]; · iapply (room_of c (ofMask 1 3) g2M.view 560 80 fun _ => rfl); iexact H2
      isplitl [X12]; · iapply (room_of c (ofMask 1 4) oM.view (own2 0 (peer 0 1 c)) 192 fun _ => rfl); iexact X12
      iapply (room_of c (ofMask 1 5) oM.view (own4 1 (peer 1 0 c)) 320 fun _ => rfl); iexact X16
    isplitl [X2]; · iapply (room_of c (ofMask 2 0) g2M.view 0 320 fun _ => rfl); iexact X2
    isplitl [X4]; · iapply (room_of c (ofMask 2 1) g1M.view 320 160 fun _ => rfl); iexact X4
    isplitl [X6]; · iapply (room_of c (ofMask 2 2) g0M.view 576 96 fun _ => rfl); iexact X6
    isplitl [H0]; · iapply (room_of c (ofMask 2 3) g0M.view 672 96 fun _ => rfl); iexact H0
    isplitl [X13]; · iapply (room_of c (ofMask 2 4) oM.view (own2 1 (peer 1 1 c)) 160 fun _ => rfl); iexact X13
    iapply (room_of c (ofMask 2 5) oM.view (own4 2 (peer 2 0 c)) 320 fun _ => rfl); iexact X17
  isplitl [F0 G0]
  · isplitl [F0] <;> iassumption
  isplitl [F1 G1]
  · isplitl [F1] <;> iassumption
  isplitl [F2] <;> iassumption

/-- The rooms of the partners, by transfer. -/
theorem rooms_by :
    iprop(rooms (F := F) 0 (pr 0 c) ∗ rooms (F := F) 1 (pr 1 c) ∗ rooms (F := F) 2 (pr 2 c))
      ⊢ (bigSep Finset.univ fun t : Fin 18 => room (F := F) t (tgt t c) : sProp 𝕄) := by
  rw [fin18]
  unfold rooms
  iintro ⟨⟨X0, X5, X8, X9, X14, X15⟩, ⟨X1, X3, X10, X11, X12, X16⟩, ⟨X2, X4, X6, X7, X13, X17⟩⟩
  isplitl [X0]; · iexact X0
  isplitl [X1]; · iexact X1
  isplitl [X2]; · iexact X2
  isplitl [X3]; · iexact X3
  isplitl [X4]; · iexact X4
  isplitl [X5]; · iexact X5
  isplitl [X6]; · iexact X6
  isplitl [X7]; · iexact X7
  isplitl [X8]; · iexact X8
  isplitl [X9]; · iexact X9
  isplitl [X10]; · iexact X10
  isplitl [X11]; · iexact X11
  isplitl [X12]; · iexact X12
  isplitl [X13]; · iexact X13
  isplitl [X14]; · iexact X14
  isplitl [X15]; · iexact X15
  isplitl [X16]; · iexact X16
  iexact X17

/-! ## Behind -/

/-- A part of the result put together: the pair lent to the second partner, the second partner's, the half lent to the
    partner, the partner's. -/
theorem part_done (p : Fin 3) (s2 s4 s8 : ℕ) (h2 : s2 = 2 * sub p) (h4 : s4 = 4 * sub p) (h8 : s8 = 8 * sub p) (g : ℕ → ℕ → Elt F .bf16)
    (A C : sProp 𝕄) (hA : A = rd oM.view c (own2 p c) s2 fullShare.left g) (hC : C = rd oM.view c (own4 p c) s4 fullShare.right g) :
    iprop(A ∗ rd oM.view c (own2 p (peer p 1 c)) s2 fullShare.left g ∗ C ∗ rd oM.view c (own4 p (peer p 0 c)) s4 fullShare g)
      ⊢ (rd oM.view c (base p) s8 fullShare g : sProp 𝕄) := by
  subst hA hC
  iintro ⟨A, B, C, D⟩
  ihave A := (own4_glue c fullShare.left g p s2 s4 h2 h4) $$ [$A $B]
  ihave A := (rd_unhalve oM.view c (own4 p c) s4 g) $$ [$A $C]
  iapply (own8_glue c fullShare g p s4 s8 h4 h8)
  isplitl [A] <;> iassumption

/-- The finished result: each part's rows. -/
def RES (r k : ℕ) : Elt F .bf16 := if r < 768 then OUT I 0 c r k else if r < 1408 then OUT I 1 c r k else OUT I 2 c r k

theorem res_done :
    iprop(rd oM.view c 0 768 fullShare (OUT I 0 c) ∗ rd oM.view c 768 640 fullShare (OUT I 1 c) ∗ rd oM.view c 1408 640 fullShare (OUT I 2 c))
      ⊢ (rd oM.view c 0 2048 fullShare (RES I c) : sProp 𝕄) := by
  iintro ⟨A, B, C⟩
  ihave A := (rd_congr oM.view c 0 768 fullShare (g' := RES I c) fun r k _ h _ => by unfold RES; rw [if_pos (by omega)]) $$ A
  ihave B := (rd_congr oM.view c 768 640 fullShare (g' := RES I c) fun r k _ h _ => by unfold RES; rw [if_neg (by omega), if_pos (by omega)]) $$ B
  ihave C := (rd_congr oM.view c 1408 640 fullShare (g' := RES I c) fun r k _ h _ => by unfold RES; rw [if_neg (by omega), if_neg (by omega)]) $$ C
  ihave A := (rd_glue oM.view c (lo := 0) (n := 1408) (lo₁ := 0) (n₁ := 768) (lo₂ := 768) (n₂ := 640) fullShare _ rfl rfl rfl) $$ [$A $B]
  iapply (rd_glue oM.view c (lo := 0) (n := 2048) (lo₁ := 0) (n₁ := 1408) (lo₂ := 1408) (n₂ := 640) fullShare _ rfl rfl rfl)
  isplitl [A] <;> iassumption

/-- A part's rows of the partial sums put together: the first two exchanges' sources, the third's lent halves and kept ones. -/
theorem sums_done (b n4 n2 n1 : ℕ) (h4 : n4 = 2 * n2) (h2 : n2 = 2 * n1) (p0 p1 p2 : ℕ → ℕ → Elt F .bf16) (n8 lo4 lo2 lo1 : ℕ) (h8 : n8 = 2 * n4)
    (l4 : lo4 = b + n4) (l2 : lo2 = b + n2) (l1 : lo1 = b + n1) (A B C D : sProp 𝕄)
    (hA : A = rd pM.view c lo4 n4 fullShare p0) (hB : B = rd pM.view c lo2 n2 fullShare p1)
    (hC : C = rd pM.view c b n1 fullShare.left p2) (hD : D = rd pM.view c lo1 n1 fullShare.left p2) :
    iprop(A ∗ B ∗ (C ∗ rd pM.view c b n1 fullShare.right p2) ∗ (D ∗ rd pM.view c lo1 n1 fullShare.right p2))
      ⊢ (rdx (F := F) pM.view c b n8 : sProp 𝕄) := by
  subst h8 h4 h2 l4 l2 l1 hA hB hC hD
  iintro ⟨A, B, C, D⟩
  ihave A := (rdx_of pM.view c _ _ p0) $$ A
  ihave B := (rdx_of pM.view c _ _ p1) $$ B
  ihave C := (rdx_unhalve pM.view c b n1 p2) $$ C
  ihave D := (rdx_unhalve pM.view c (b + n1) n1 p2) $$ D
  ihave C := (rdx_glue (F := F) pM.view c (lo := b) (n := 2 * n1) (lo₁ := b) (n₁ := n1) (lo₂ := b + n1) (n₂ := n1) rfl rfl (by omega)) $$ [$C $D]
  ihave C := (rdx_glue (F := F) pM.view c (lo := b) (n := 2 * (2 * n1)) (lo₁ := b) (n₁ := 2 * n1) (lo₂ := b + 2 * n1) (n₂ := 2 * n1) rfl rfl (by omega)) $$ [$C $B]
  iapply (rdx_glue (F := F) pM.view c (lo₁ := b) (n₁ := 2 * (2 * n1)) (lo₂ := b + 2 * (2 * n1)) (n₂ := 2 * (2 * n1)) rfl rfl (by omega))
  isplitl [C] <;> iassumption

/-- A landing buffer put together. -/
theorem lands_done {R : ℕ} (M : Memref sig .tc .vmem ⟨2, ![R, 1024]⟩ .bf16) (n4 n2 n1 l2 l1 : ℕ) (h4 : n4 = 2 * n2) (h2 : n2 = 2 * n1) (hR : R = 2 * n4)
    (e2 : l2 = n4 + n2) (e1 : l1 = n4 + n2 + n1) (g : ℕ → ℕ → Elt F .bf16) :
    iprop(rd M.view c 0 n4 fullShare g ∗ rd M.view c n4 n2 fullShare g ∗ rd M.view c l2 n1 fullShare g ∗ rd M.view c l1 n1 fullShare g)
      ⊢ (rdx (F := F) M.view c 0 R : sProp 𝕄) := by
  subst h4 h2 e2 e1
  iintro ⟨A, B, C, D⟩
  ihave A := (rd_glue M.view c (lo := 0) (n := 2 * (2 * n1) + 2 * n1) (lo₁ := 0) (n₁ := 2 * (2 * n1)) (lo₂ := 2 * (2 * n1)) (n₂ := 2 * n1) fullShare _ rfl (by omega) rfl) $$ [$A $B]
  ihave C := (rd_glue M.view c (lo := 2 * (2 * n1) + 2 * n1) (n := 2 * n1) (n₁ := n1) (n₂ := n1) fullShare _ rfl rfl (by omega)) $$ [$C $D]
  ihave A := (rd_glue M.view c (lo := 0) (n := R) (lo₁ := 0) (n₁ := 2 * (2 * n1) + 2 * n1) (lo₂ := 2 * (2 * n1) + 2 * n1) (n₂ := 2 * n1) fullShare _ rfl (by omega) (by omega)) $$ [$A $C]
  iapply (rdx_of M.view c 0 R g)
  iexact A

end Cert.Ends
-- ==== Proof.Body.lean ====
/-
# The body

The parts one after the other, from what the launch deals a device to what it leaves.
-/
module

public import proofs.«01_k».proof.Proof.PartsF
public import proofs.«01_k».proof.Proof.Ends

@[expose] public section

noncomputable section

namespace Cert.Body

open Cert.KernelIdeal Cert.KernelIdeal.Gen Cert.Geom Cert.Regions Cert.Contents Cert.Protocol Cert.Offsets Cert.Blocks Cert.Ops Cert.Steps Cert.Parts Cert.Ends

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × Fin 44 → ℕ)
variable {α : Type} {Q : α → sProp (MT nD τ sig Unit (Elt F) ℕ UU ℕ)} (c : Dev nD)

/-- What a device starts the body with, the buffers apart. -/
def begin : sProp 𝕄 :=
  iprop((dutyTok ER (bCell (pr 0 c)) 0 0 ∗ dutyTok ER (bCell (pr 1 c)) 0 1 ∗ dutyTok ER (bCell (pr 2 c)) 0 2)
    ∗ (dutyTok ER (eCell (pr 0 c)) 0 0 ∗ dutyTok ER (eCell (pr 1 c)) 0 1 ∗ dutyTok ER (eCell (pr 2 c)) 0 2)
    ∗ (atPos ER (bCell c) 0 ∅ 0 ∗ cred (tallyAt (bCell c) () 3)) ∗ (atPos ER (eCell c) 0 ∅ 0 ∗ cred (tallyAt (eCell c) () 3))
    ∗ (bigSep Finset.univ fun t => Tx (F := F) t c) ∗ bigSep Finset.univ fun t => Rx (F := F) t c)

/-- Its cells at rest behind the body. -/
def rest : sProp 𝕄 :=
  iprop(semVal (bCell c) 0 ∗ semVal (eCell c) 0 ∗ (bigSep Finset.univ fun t => Zs (F := F) t c) ∗ bigSep Finset.univ fun t => Zr (F := F) t c)

/-- The scratch buffers, whole at some contents. -/
def scratch : sProp 𝕄 :=
  iprop(rdx (F := F) pM.view c 0 2048 ∗ rdx (F := F) g0M.view c 0 768 ∗ rdx (F := F) g1M.view c 0 640 ∗ rdx (F := F) g2M.view c 0 640)

set_option maxHeartbeats 4000000 in
/-- The whole body of device `c`. -/
theorem body_run {Q : PUnit → sProp (MT nD τ sig Unit (Elt F) ℕ UU ℕ)} :
    iprop(recs I K ∗ (xR I c ∗ rR I c ∗ eR I c) ∗ rdx (F := F) oM.view c 0 2048 ∗ scratch (F := F) c ∗ begin (F := F) c ∗ Ow c 24)
      ⊢ iprop((((xR I c ∗ rR I c ∗ eR I c) ∗ rd oM.view c 0 2048 fullShare (RES I c) ∗ scratch (F := F) c ∗ rest (F := F) c ∗ Ow c 0) -∗ Q ⟨⟩)
        -∗ WP c (onBufs (cc0_body (F := F))) Q) := by
  unfold onBufs
  rw [cc0_body_eq_skeleton]
  unfold cc0_body_skel
  rw [k0_part34_eq_skeleton]
  unfold k0_part34_skel
  simp only [semSignalWord, semWaitWord, Prog.lift, Prog.bind_op, Prog.bind_ret, Prog.pure_eq_ret, Prog.bind_assoc]
  unfold begin scratch rest
  rw [fin18, fin18, fin18, fin18]
  iintro ⟨#HR, ⟨X, R, E⟩, RO, ⟨H, RG⟩, ⟨BT, ET, ⟨BA, BC⟩, ⟨EA, EC⟩, ⟨T0, T1, T2, T3, T4, T5, T6, T7, T8, T9, T10, T11, T12, T13, T14, T15, T16, T17⟩, ⟨R0, R1, R2, R3, R4, R5, R6, R7, R8, R9, R10, R11, R12, R13, R14, R15, R16, R17⟩⟩, HO⟩ Hk
  ihave H := (rdx_ex (F := F) pM.view c 0 2048) $$ H
  icases H with ⟨%g, H⟩
  ihave RM := (entry_rooms (F := F) c) $$ [$RO $RG]
  icases RM with ⟨RM, ⟨O0, O1⟩, ⟨O2, O3⟩, ⟨O4, O5⟩⟩
  ihave H := (rd_cut pM.view c (lo := 0) (n := 2048) (lo₁ := 0) (n₁ := 384) (lo₂ := 384) (n₂ := 1664) fullShare g rfl rfl rfl) $$ H
  icases H with ⟨L0, H⟩
  ihave H := (rd_cut pM.view c (lo := 384) (n := 1664) (lo₁ := 384) (n₁ := 384) (lo₂ := 768) (n₂ := 1280) fullShare g rfl rfl rfl) $$ H
  icases H with ⟨U0, H⟩
  ihave H := (rd_cut pM.view c (lo := 768) (n := 1280) (lo₁ := 768) (n₁ := 320) (lo₂ := 1088) (n₂ := 960) fullShare g rfl rfl rfl) $$ H
  icases H with ⟨L1, H⟩
  ihave H := (rd_cut pM.view c (lo := 1088) (n := 960) (lo₁ := 1088) (n₁ := 320) (lo₂ := 1408) (n₂ := 640) fullShare g rfl rfl rfl) $$ H
  icases H with ⟨U1, H⟩
  ihave H := (rd_cut pM.view c (lo := 1408) (n := 640) (lo₁ := 1408) (n₁ := 320) (lo₂ := 1728) (n₂ := 320) fullShare g rfl rfl rfl) $$ H
  icases H with ⟨L2, H⟩
  ihave O0 := (rdx_ex (F := F) oM.view c _ _) $$ O0
  icases O0 with ⟨%o0, O0⟩
  ihave O1 := (rdx_ex (F := F) oM.view c _ _) $$ O1
  icases O1 with ⟨%o1, O1⟩
  ihave O2 := (rdx_ex (F := F) oM.view c _ _) $$ O2
  icases O2 with ⟨%o2, O2⟩
  ihave O3 := (rdx_ex (F := F) oM.view c _ _) $$ O3
  icases O3 with ⟨%o3, O3⟩
  ihave O4 := (rdx_ex (F := F) oM.view c _ _) $$ O4
  icases O4 with ⟨%o4, O4⟩
  ihave O5 := (rdx_ex (F := F) oM.view c _ _) $$ O5
  icases O5 with ⟨%o5, O5⟩
  iapply (part1 I K c ) $$ [$HR $RM $BT $BA $BC $HO]
  iintro ⟨ZB, M0, M1, M2, HO⟩
  iintro %_ %_ %_ %_ %_ %_
  ihave RM := ((rooms_by (F := F) c).trans (Entails.of_eq (fin18 _))) $$ [$M0 $M1 $M2]
  icases RM with ⟨P0, P1, P2, P3, P4, P5, P6, P7, P8, P9, P10, P11, P12, P13, P14, P15, P16, P17⟩
  iapply (part2 I c _) $$ [$X $R $E]
  iintro ⟨X, R, E⟩
  iintro %_
  iapply (part3 I c _ _ _ _ g) $$ [$U0]
  iintro U0
  iintro %_ %_ %_
  iapply (part4 I c _ _ _ _ _ _ g) $$ [$U0]
  iintro U0
  iapply (part5 I K c _) $$ [$HR $X $R $T0 $P0 $U0 $HO]
  iintro ⟨⟨X, R⟩, S0, HO⟩
  iintro %_
  iapply (part6 I c _ _ _ _ g) $$ [$U1]
  iintro U1
  iintro %_
  iapply (part7 I c _ _ _ _ g) $$ [$U1]
  iintro U1
  iapply (part8 I K c _) $$ [$HR $X $R $T1 $P1 $U1 $HO]
  iintro ⟨⟨X, R⟩, S1, HO⟩
  iintro %_
  iapply (part9 I c _ _ _ _ g) $$ [$H]
  iintro H
  iintro %_ %_ %_ %_
  iapply (part10 I K c _ _ _ _ _ _ _ g) $$ [$HR $X $T2 $P2 $H $HO]
  iintro ⟨X, S2, HO⟩
  iintro %_
  iapply (part11 I c _) $$ [$R]
  iintro R
  iapply (part12 I c _ _ _ g) $$ [$L0]
  iintro L0
  iintro %_ %_
  iapply (part13 I c _ _ _ _ g) $$ [$X $R $L0]
  iintro ⟨⟨X, R⟩, L0⟩
  iapply (part14 I c _ _ _ g) $$ [$L1]
  iintro L1
  iintro %_ %_ %_
  iapply (part15 I c _ _ _ _ _ g) $$ [$L1]
  iintro L1
  iintro %_
  iapply (part16 I c _) $$ [$X $R]
  iintro ⟨X, R⟩
  iapply (part17 I c _ _ _ g) $$ [$L2]
  iintro L2
  iintro %_ %_ %_
  iapply (part18 I K c _ _ _ _ _ _ _ g) $$ [$HR $L2 $L0 $R0 $HO]
  iintro ⟨L2, L0, Y0, A0, HO⟩
  iintro %_
  iapply (part19 I K c _ _ _) $$ [$HR $L1 $L2 $R1 $R2 $HO]
  iintro ⟨L1, L2, ⟨Y1, Y2⟩, ⟨B0, C0⟩, HO⟩
  iapply (part20 I K c _ _ _) $$ [$HR $T3 $P3 $L0 $T4 $P4 $L1 $T5 $P5 $L2 $R3 $HO]
  iintro ⟨L0, L1, L2, ⟨S3, S4, S5⟩, Y3, A1, HO⟩
  iapply (part21 I K c _ _) $$ [$HR $L0 $L1 $L2 $A1 $R4 $R5 $HO]
  iintro ⟨L0, L1, L2, ⟨Y4, Y5⟩, ⟨A1, B1, C1⟩, HO⟩
  iapply (part22 I K c _ _) $$ [$HR $T6 $P6 $T7 $P7 $L0 $T8 $P8 $L1 $L2 $HO]
  iintro ⟨L0, V0, L1, V1, L2, ⟨S6, S7, S8⟩, HO⟩
  iapply (part23 I K c _ _ _) $$ [$HR $T9 $P9 $L1 $T10 $P10 $T11 $P11 $L2 $HO]
  iintro ⟨L1, L2, V2, ⟨S9, S10, S11⟩, HO⟩
  iapply (part24 I K c _ _ _ _ _ _) $$ [$HR $L0 $V0 $O0 $O1 $R6 $R7 $HO]
  iintro ⟨L0, V0, ⟨O0, O1⟩, ⟨Y6, Y7⟩, ⟨A2, A3⟩, HO⟩
  iapply (part25 I K c _ _ _ _ _) $$ [$HR $L1 $V1 $O2 $R8 $R9 $HO]
  iintro ⟨L1, V1, O2, ⟨Y8, Y9⟩, ⟨B2, B3⟩, HO⟩
  iintro %_ %_
  iapply (part26 I K c _ _ _ _ _ _ _ _) $$ [$HR $L2 $O3 $O4 $R10 $R11 $HO]
  iintro ⟨L2, ⟨O3, O4⟩, ⟨Y10, Y11⟩, ⟨C2, C3⟩, HO⟩
  iintro %_ %_
  iapply (part27 I K c _ _ _ _ _ _ _ _) $$ [$HR $V2 $C3 $O5 $T12 $P12 $O0 $O1 $HO]
  iintro ⟨V2, C3, O5, O0, S12, HO⟩
  iapply (part28 I K c _ _ _ _ _) $$ [$HR $T13 $P13 $O2 $O3 $T14 $P14 $O4 $O5 $R12 $R13 $HO]
  iintro ⟨O1, O2, ⟨S13, S14⟩, ⟨Y12, Y13⟩, ⟨D0, D1⟩, HO⟩
  iapply (part29 I K c _ _ _ _) $$ [$HR $T15 $P15 $O0 $D0 $R14 $HO]
  iintro ⟨D0, S15, Y14, D2, HO⟩
  iapply (part30 I K c _ _ _ _) $$ [$HR $T16 $P16 $O1 $D1 $T17 $P17 $O2 $D2 $R15 $R16 $HO]
  iintro ⟨D1, D2, ⟨S16, S17⟩, ⟨Y15, Y16⟩, ⟨E0, E1⟩, HO⟩
  iapply (part31 I K c ) $$ [$HR $R17 $S0 $S1 $S2 $S3 $HO]
  iintro ⟨⟨Y17, E2⟩, ⟨⟨Z0, S0⟩, ⟨Z1, S1⟩, ⟨Z2, S2⟩, ⟨Z3, S3⟩⟩, HO⟩
  iapply (part32 I K c ) $$ [$HR $S4 $S5 $S6 $S7 $S8 $HO]
  iintro ⟨⟨⟨Z4, S4⟩, ⟨Z5, S5⟩, ⟨Z6, S6⟩, ⟨Z7, S7⟩, ⟨Z8, S8⟩⟩, HO⟩
  iapply (part33 I K c ) $$ [$HR $S9 $S10 $S11 $S12 $S13 $HO]
  iintro ⟨⟨⟨Z9, S9⟩, ⟨Z10, S10⟩, ⟨Z11, S11⟩, ⟨Z12, S12⟩, ⟨Z13, S13⟩⟩, HO⟩
  iapply (wp_sent I K c 14 3 rfl rfl) $$ [$HR $S14 $HO]
  iintro ⟨Z14, S14, HO⟩
  iapply (wp_sent I K c 15 3 rfl rfl) $$ [$HR $S15 $HO]
  iintro ⟨Z15, S15, HO⟩
  iapply (wp_sent I K c 16 3 rfl rfl) $$ [$HR $S16 $HO]
  iintro ⟨Z16, S16, HO⟩
  iapply (wp_sent I K c 17 3 rfl rfl) $$ [$HR $S17 $HO]
  iintro ⟨Z17, S17, HO⟩
  icases ET with ⟨E3, E4, E5⟩
  iapply (wp_esig I K c 0 2 3 rfl _ (dev22_eq c) _ (by decide) rfl) $$ [$HR $E3 $HO]
  iintro HO
  iapply (wp_esig I K c 1 1 2 rfl _ (dev23_eq c) _ (by decide) rfl) $$ [$HR $E4 $HO]
  iintro HO
  iapply (wp_esig I K c 2 0 1 rfl _ (dev24_eq c) _ (by decide) rfl) $$ [$HR $E5 $HO]
  iintro HO
  iapply (wp_ewait I K c _ (by decide) rfl) $$ [$HR $EA $EC $HO]
  iintro ⟨ZE, HO⟩
  ihave HP0 := (sums_done c 0 384 192 96 rfl rfl (P0 I 0 c) (P1 I 0 c) (P2 I 0 c) 768 384 192 96 rfl rfl rfl rfl
    (sendPay I 0 c) (sendPay I 3 c) (sendPay I 7 c) (sendPay I 6 c) rfl rfl rfl rfl) $$ [$S0 $S3 $S7 $L0 $S6 $V0]
  ihave HP1 := (sums_done c 768 320 160 80 rfl rfl (P0 I 1 c) (P1 I 1 c) (P2 I 1 c) 640 1088 928 848 rfl rfl rfl rfl
    (sendPay I 1 c) (sendPay I 4 c) (sendPay I 9 c) (sendPay I 8 c) rfl rfl rfl rfl) $$ [$S1 $S4 $S9 $L1 $S8 $V1]
  ihave HP2 := (sums_done c 1408 320 160 80 rfl rfl (P0 I 2 c) (P1 I 2 c) (P2 I 2 c) 640 1728 1568 1488 rfl rfl rfl rfl
    (sendPay I 2 c) (sendPay I 5 c) (sendPay I 11 c) (sendPay I 10 c) rfl rfl rfl rfl) $$ [$S2 $S5 $S11 $L2 $S10 $V2]
  ihave HP0 := (rdx_glue (F := F) pM.view c (lo := 0) (n := 1408) (lo₁ := 0) (n₁ := 768) (lo₂ := 768) (n₂ := 640) rfl rfl rfl) $$ [$HP0 $HP1]
  ihave HP0 := (rdx_glue (F := F) pM.view c (lo := 0) (n := 2048) (lo₁ := 0) (n₁ := 1408) (lo₂ := 1408) (n₂ := 640) rfl rfl rfl) $$ [$HP0 $HP2]
  ihave A0 := (lands_done c g0M 384 192 96 576 672 rfl rfl rfl rfl rfl (SG I 0 c)) $$ [$A0 $A1 $A2 $A3]
  ihave D0 := (part_done c 0 192 384 768 rfl rfl rfl (OUT I 0 c) (sendPay I 12 c) (sendPay I 15 c) rfl rfl) $$ [$S12 $D0 $S15 $E0]
  ihave B0 := (lands_done c g1M 320 160 80 480 560 rfl rfl rfl rfl rfl (SG I 1 c)) $$ [$B0 $B1 $B2 $B3]
  ihave D1 := (part_done c 1 160 320 640 rfl rfl rfl (OUT I 1 c) (sendPay I 13 c) (sendPay I 16 c) rfl rfl) $$ [$S13 $D1 $S16 $E1]
  ihave C0 := (lands_done c g2M 320 160 80 480 560 rfl rfl rfl rfl rfl (SG I 2 c)) $$ [$C0 $C1 $C2 $C3]
  ihave D2 := (part_done c 2 160 320 640 rfl rfl rfl (OUT I 2 c) (sendPay I 14 c) (sendPay I 17 c) rfl rfl) $$ [$S14 $D2 $S17 $E2]
  ihave D0 := (res_done I c) $$ [$D0 $D1 $D2]
  ispecialize Hk $$ [$X $R $E $D0 $HP0 $A0 $B0 $C0 $ZB $ZE $Z0 $Z1 $Z2 $Z3 $Z4 $Z5 $Z6 $Z7 $Z8 $Z9 $Z10 $Z11 $Z12 $Z13 $Z14 $Z15 $Z16 $Z17 $Y0 $Y1 $Y2 $Y3 $Y4 $Y5 $Y6 $Y7 $Y8 $Y9 $Y10 $Y11 $Y12 $Y13 $Y14 $Y15 $Y16 $Y17 $HO]
  unfold WP
  rw [wp_ret]
  imodintro
  iexact Hk

end Cert.Body
-- ==== Proof.Ghost.lean ====
/-
# The launch: cells, duties and credits dealt out

Every device starts with the counters of its forty-four semaphores. Put under the cells' invariants they become places in the
cells' rounds and duty tokens; the tokens are dealt around to the devices that pay them, and the credit each cell is owed at
launch goes to the device that waits on it. The six cells no transfer uses are closed again at once.
-/
module

public import proofs.«01_k».proof.Proof.Body

@[expose] public section

noncomputable section

namespace Cert.Ghost

open Cert.KernelIdeal Cert.KernelIdeal.Gen Cert.Geom Cert.Regions Cert.Contents Cert.Protocol Cert.Ops Cert.Ends Cert.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

/-! ## The forty-four cells by kind -/

def eS : Fin 18 ↪ Fin 44 := ⟨iS, by decide⟩
def eR : Fin 18 ↪ Fin 44 := ⟨iR, by decide⟩
def eU : Fin 6 ↪ Fin 44 := ⟨iU, by decide⟩

theorem cells_split : (Finset.univ : Finset (Fin 44))
    = insert 0 (insert 1 (Finset.univ.map eS ∪ (Finset.univ.map eR ∪ Finset.univ.map eU))) := by decide +kernel

omit [FloatOps F] in
/-- Over all cells: the barrier, the second barrier, the sends, the receives, the unused. -/
theorem fin44 (Φ : Fin 44 → sProp (MT nD τ sig Unit (Elt F) ℕ UU ℕ)) :
    bigSep Finset.univ Φ = iprop(Φ 0 ∗ Φ 1 ∗ (bigSep Finset.univ fun t => Φ (iS t)) ∗ (bigSep Finset.univ fun t => Φ (iR t))
      ∗ bigSep Finset.univ fun u => Φ (iU u)) := by
  rw [cells_split, bigSep_insert (by decide +kernel), bigSep_insert (by decide +kernel), bigSep_union (by decide +kernel), bigSep_union (by decide +kernel),
    bigSep_map, bigSep_map, bigSep_map]
  rfl

/-- The kernel's own semaphores: all but the barrier's. -/
abbrev OwnIx := Fin 1 ⊕ Fin 18 ⊕ Fin 18 ⊕ Fin 6
def osem : OwnIx → SemLoc sig
  | .inl _ => cellSem 1
  | .inr (.inl t) => cellSem (iS t)
  | .inr (.inr (.inl t)) => cellSem (iR t)
  | .inr (.inr (.inr u)) => cellSem (iU u)

theorem ownSemFacts : Pipeline.OwnSemFacts cfg0.spec osem := by decide +kernel

/-- The counter of a device's cell at zero. -/
abbrev zero (c : Dev nD) (k : Fin 44) : sProp 𝕄 := semVal (kcell (c, k)) 0

omit [FloatOps F] in
theorem ownSems0_eq (c : Dev nD) : (Pipeline.ownSems0 (Ix := Unit) (Name := ℕ) (U := UU) (Lvl := ℕ) (Val := Elt F) (τ := τ) osem c : sProp 𝕄)
    = iprop(zero (F := F) c 1 ∗ (bigSep Finset.univ fun t => zero (F := F) c (iS t)) ∗ (bigSep Finset.univ fun t => zero (F := F) c (iR t))
      ∗ bigSep Finset.univ fun u => zero (F := F) c (iU u)) := by
  unfold Pipeline.ownSems0
  rw [bigSep_univ_sum, bigSep_univ_sum, bigSep_univ_sum, bigSep_univ_of_subsingleton (0 : Fin 1)]
  rfl

omit [FloatOps F] in
theorem unscopedSems0_eq (c : Dev nD) : (unscopedSems0 c : sProp 𝕄) = zero (F := F) c 0 := by
  unfold unscopedSems0; rw [bigSep_eq_bigSepL_of_eq [SemLoc.reg 0] (by decide +kernel) (by decide +kernel)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 44 => semVal (kcell (c, k)) 0 : sProp 𝕄) := by
  rw [ownSems0_eq, unscopedSems0_eq, fin44]
  iintro ⟨⟨H1, HS, HR, HU⟩, H0⟩
  isplitl [H0]; · iexact H0
  isplitl [H1]; · iexact H1
  isplitl [HS]; · iexact HS
  isplitl [HR]; · iexact HR
  iexact HU

/-! ## Cells and tokens as minted -/

theorem kcell_injective : Function.Injective (kcell : Dev nD × Fin 44 → GSem nD τ sig) := by
  rintro ⟨c, k⟩ ⟨c', k'⟩ h
  have h1 : c = c' := congrArg (fun g : GSem nD τ sig => g.1.1) h
  subst h1
  have h2 : cellSem k = cellSem k' := congrArg Prod.snd h
  have h3 : Function.Injective cellSem := by decide +kernel
  rw [h3 h2]
def theCells : Finset (GSem nD τ sig) := Finset.univ.map ⟨kcell, kcell_injective⟩

/-- A device's own cells' duties: three a barrier, one a transfer's send and receive. -/
abbrev TokIx := Fin 3 ⊕ Fin 3 ⊕ Fin 18 ⊕ Fin 18
def tokAt : TokIx → Fin 44 × Fin 3
  | .inl d => (0, d)
  | .inr (.inl d) => (1, d)
  | .inr (.inr (.inl t)) => (iS t, 0)
  | .inr (.inr (.inr t)) => (iR t, 0)
theorem tokAt_injective : Function.Injective tokAt := by decide +kernel
def tokOf (cj : Dev nD × TokIx) : GSem nD τ sig × ℕ × Fin 3 := (kcell (cj.1, (tokAt cj.2).1), 0, (tokAt cj.2).2)
theorem tokOf_injective : Function.Injective tokOf := by
  rintro ⟨c, j⟩ ⟨c', j'⟩ h
  have h1 : kcell (c, (tokAt j).1) = kcell (c', (tokAt j').1) := congrArg (fun x : GSem nD τ sig × ℕ × Fin 3 => x.1) h
  have h2 : (tokAt j).2 = (tokAt j').2 := congrArg (fun x : GSem nD τ sig × ℕ × Fin 3 => x.2.2) h
  have h3 := kcell_injective h1
  have h4 : c = c' := congrArg Prod.fst h3
  have h5 : (tokAt j).1 = (tokAt j').1 := congrArg Prod.snd h3
  rw [h4, tokAt_injective (Prod.ext h5 h2)]
def theToks : Finset (GSem nD τ sig × ℕ × Fin 3) := Finset.univ.map ⟨tokOf, tokOf_injective⟩

/-- The launch element: the pipeline's part and this protocol's. -/
def u₀ : UU := (initOf (Pipeline.cells cfgs cellOf_inj) (Pipeline.launchToks cfgs cellOf_inj), initOf theCells theToks)

/-- The tokens of device `c`'s own cells. -/
def toks (c : Dev nD) : sProp 𝕄 :=
  iprop((bigSep Finset.univ fun d : Fin 3 => dutyTok ER (bCell c) 0 d) ∗ (bigSep Finset.univ fun d : Fin 3 => dutyTok ER (eCell c) 0 d)
    ∗ (bigSep Finset.univ fun t : Fin 18 => dutyTok ER (sCell t c) 0 0) ∗ bigSep Finset.univ fun t : Fin 18 => dutyTok ER (rCell t c) 0 0)
/-- The tokens of the duties device `c` pays. -/
def payToks (c : Dev nD) : sProp 𝕄 :=
  iprop((bigSep Finset.univ fun d : Fin 3 => dutyTok ER (bCell (pr d c)) 0 d) ∗ (bigSep Finset.univ fun d : Fin 3 => dutyTok ER (eCell (pr d c)) 0 d)
    ∗ (bigSep Finset.univ fun t : Fin 18 => dutyTok ER (sCell t c) 0 0) ∗ bigSep Finset.univ fun t : Fin 18 => dutyTok ER (rCell t (tgt t c)) 0 0)

omit [FloatOps F] in
/-- A family over the devices and `J`, each member moved along an involution of the devices. -/
theorem around {J : Type} [Fintype J] (σ : J → Dev nD → Dev nD) (h : ∀ j c, σ j (σ j c) = c) (Φ : J → Dev nD → sProp (MT nD τ sig Unit (Elt F) ℕ UU ℕ)) :
    (bigSep Finset.univ fun c : Dev nD => bigSep Finset.univ fun j : J => Φ j c) = bigSep Finset.univ fun c : Dev nD => bigSep Finset.univ fun j : J => Φ j (σ j c) := by
  rw [← bigSep_univ_prod (fun x : Dev nD × J => Φ x.2 x.1), ← bigSep_univ_prod (fun x : Dev nD × J => Φ x.2 (σ x.2 x.1)),
    bigSep_univ_equiv (⟨fun x => (σ x.2 x.1, x.2), fun x => (σ x.2 x.1, x.2), fun x => by simp only [h], fun x => by simp only [h]⟩ : Dev nD × J ≃ Dev nD × J)]
  rfl

omit [FloatOps F] in
/-- The tokens dealt around. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    around pr (fun m c => pr_pr m c) (fun d c => (dutyTok ER (bCell c) 0 d : sProp 𝕄)),
    around pr (fun m c => pr_pr m c) (fun d c => (dutyTok ER (eCell c) 0 d : sProp 𝕄)),
    around tgt tgt_tgt (fun t c => (dutyTok ER (rCell t c) 0 0 : sProp 𝕄))]

/-- What the launch element deals device `c`. -/
def G (c : Dev nD) : sProp 𝕄 :=
  iprop((bigSep Finset.univ fun k : Fin 44 => roundState ER (Rd I) (kcell (c, k)) 0)
    ∗ (bigSep Finset.univ fun k : Fin 44 => iprop(atPos ER (kcell (c, k)) 0 ∅ 0 ∗ reached ER (kcell (c, k)) 0)) ∗ toks (F := F) c)

theorem fund : BI.own (ER (initOf theCells theToks)) ⊢ (|==> bigSep Finset.univ (G I) : sProp 𝕄) := by
  have hX (Φ : GSem nD τ sig → sProp 𝕄) : bigSep theCells Φ = bigSep Finset.univ fun c : Dev nD => bigSep Finset.univ fun k : Fin 44 => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    refine bigSep_congr fun c _ => ?_
    rw [bigSep_univ_sum, bigSep_univ_sum, bigSep_univ_sum]
    unfold toks
    simp only [← kcell_iS, ← kcell_iR]
    rfl
  iintro HX
  imod (Rounds.fund ER (Rd I) theCells theToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants, and what each device keeps -/

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (Rd I) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Fin 44 => semVal (kcell (c, k)) 0) ∗ bigSep Finset.univ fun k : Fin 44 => roundState ER (Rd I) (kcell (c, k)) 0)
      ⊢ (|={Set.univ}=> bigSep Finset.univ fun k => iprop(∃ κ : ℕ, cellInv ER (Rd I) κ (kcell (c, k))) : sProp 𝕄) from by
        rw [← bigSep_sep']
        exact (bigSep_mono fun k _ => (Rounds.body_intro ER (Rd I) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The invariants and reached rounds of all cells, under the names `K`. -/
def records (K : Dev nD × Fin 44 → ℕ) : sProp 𝕄 :=
  iprop((bigSep Finset.univ fun ck : Dev nD × Fin 44 => cellInv ER (Rd I) (K ck) (kcell ck))
    ∗ bigSep Finset.univ fun ck : Dev nD × Fin 44 => reached ER (kcell ck) 0)
instance records_persistent (K : Dev nD × Fin 44 → ℕ) : BI.Persistent (records I K) := by unfold records; infer_instance

theorem recs_of (K : Dev nD × Fin 44 → ℕ) : iprop(levAts L lv ∗ records I K) ⊢ recs I K := Entails.of_eq rfl

/-- A device's places in the rounds, and the tokens it pays with. -/
def linear (c : Dev nD) : sProp 𝕄 := iprop((bigSep Finset.univ fun k : Fin 44 => atPos ER (kcell (c, k)) 0 ∅ 0) ∗ payToks (F := F) c)
def G' (c : Dev nD) : sProp 𝕄 := iprop(∃ K, records I K ∗ linear (F := F) c)

theorem ghost_intro (K : Dev nD × Fin 44 → ℕ) (c : Dev nD) : iprop(records I K ∗ linear (F := F) c) ⊢ G' I c := by
  unfold G'
  iintro H
  iexists K
  iexact H

omit [FloatOps F] in
theorem with_persistent {J : Type} [DecidableEq J] {S : Finset J} {R : sProp (MT nD τ sig Unit (Elt F) ℕ UU ℕ)} [BI.Persistent R]
    {Φ Ψ : J → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd I) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' I) := by
  rw [bigSep_sep', bigSep_sep', ← bigSep_univ_prod (fun ck : Dev nD × Fin 44 => iprop(∃ κ : ℕ, cellInv ER (Rd I) κ (kcell ck))),
    bigSep_congr (s := Finset.univ) (fun (c : Dev nD) _ => bigSep_sep' Finset.univ (fun k : Fin 44 => (atPos ER (kcell (c, k)) 0 ∅ 0 : sProp 𝕄)) (fun k => reached ER (kcell (c, k)) 0)),
    bigSep_sep', ← bigSep_univ_prod (fun ck : Dev nD × Fin 44 => (reached ER (kcell ck) 0 : sProp 𝕄))]
  iintro ⟨HI, ⟨Hat, #HR⟩, Htok⟩
  ihave HK := (BI.bigSep_exists_pi Finset.univ (fun (ck : Dev nD × Fin 44) (κ : ℕ) => (cellInv ER (Rd I) κ (kcell ck) : sProp 𝕄))) $$ HI
  icases HK with ⟨%K, #HI⟩
  ihave Htk := (toks_around (F := F)) $$ Htok
  iapply (with_persistent (R := records I K) fun c _ => ghost_intro I K c)
  isplitr
  · unfold records; isplitl; · iexact HI
    iexact HR
  · iapply (Entails.of_eq (bigSep_sep' Finset.univ (fun c : Dev nD => bigSep Finset.univ fun k : Fin 44 => (atPos ER (kcell (c, k)) 0 ∅ 0 : sProp 𝕄)) payToks).symm)
    isplitl [Hat]; · iexact Hat
    iexact Htk

/-- The step over all devices at once: semaphores to invariants, tokens to their payers. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The credit at launch -/

/-- The `k`-th credit as the device that receives it sees it. -/
def due (c : Dev nD) (k : ℕ) : GSem nD τ sig × ℕ :=
  if k < 3 then (bCell c, 1)
  else if k < 21 then (rCell (Fin.ofNat 18 (k - 3)) c, amt (Fin.ofNat 18 (k - 3)))
  else (eCell c, 1)

omit [FloatOps F] in
theorem cred_due (c : Dev nD) (k : ℕ) :
    (Pipeline.launchCred (fun d => tallyAt (item d k).1 () (item d k).2) c : sProp 𝕄) ⊢ cred (tallyAt (due c k).1 () (due c k).2) := by
  unfold item due
  split
  · exact Pipeline.launchCred_tallyAt bar0 (pr (Fin.ofNat 3 k)) (pr (Fin.ofNat 3 k)) (pr_pr _) (pr_pr _) () 1 c
  · split
    · exact Pipeline.launchCred_tallyAt (.dma (tR (Fin.ofNat 18 (k - 3)))) (tgt (Fin.ofNat 18 (k - 3))) (tgt (Fin.ofNat 18 (k - 3))) (tgt_tgt _) (tgt_tgt _) () _ c
    · exact Pipeline.launchCred_tallyAt bar1 (pr (Fin.ofNat 3 k)) (pr (Fin.ofNat 3 k)) (pr_pr _) (pr_pr _) () 1 c

omit [FloatOps F] in
theorem creds_all (c : Dev nD) (n : ℕ) :
    (Pipeline.launchCred (fun d => OT d n) c : sProp 𝕄) ⊢ bigSep (Finset.range n) fun j => cred (tallyAt (due c (23 - j)).1 () (due c (23 - j)).2) := by
  induction n with
  | zero => rw [Finset.range_zero, BI.bigSep_empty]; exact Entails.of_eq (Pipeline.launchCred_zero c)
  | succ n ih =>
    rw [Finset.range_add_one, bigSep_insert Finset.notMem_range_self]
    show (Pipeline.launchCred (fun d => OT d n + tallyAt (item d (23 - n)).1 () (item d (23 - n)).2) c : sProp 𝕄)
      ⊢ iprop(cred (tallyAt (due c (23 - n)).1 () (due c (23 - n)).2) ∗ bigSep (Finset.range n) fun j => cred (tallyAt (due c (23 - j)).1 () (due c (23 - j)).2))
    rw [Pipeline.launchCred_add]
    iintro ⟨H, H'⟩
    isplitl [H']
    · iapply (cred_due c (23 - n)); iexact H'
    · iapply ih; iexact H

omit [FloatOps F] in
theorem cred_join (g : GSem nD τ sig) (a b : ℕ) : iprop(cred (tallyAt g () a) ∗ cred (tallyAt g () b)) ⊢ (cred (tallyAt g () (a + b)) : sProp 𝕄) := by
  rw [← tallyAt_add]; exact (cred_add _ _).2

/-- Three units from each barrier's partners, and the amount of each transfer it receives. -/
theorem creds (c : Dev nD) :
    (Pipeline.launchCred (fun d => OT d 24) c : sProp 𝕄) ⊢ iprop(cred (tallyAt (bCell c) () 3) ∗ cred (tallyAt (eCell c) () 3)
      ∗ bigSep Finset.univ fun t => cred (tallyAt (rCell t c) () (amt t))) := by
  refine (creds_all c 24).trans ((Entails.of_eq (show bigSep (Finset.range 24) (fun j => cred (tallyAt (due c (23 - j)).1 () (due c (23 - j)).2)) = iprop(cred (tallyAt (eCell c) () 1) ∗ cred (tallyAt (eCell c) () 1) ∗ cred (tallyAt (eCell c) () 1)
      ∗ cred (tallyAt (rCell 17 c) () (amt 17)) ∗ cred (tallyAt (rCell 16 c) () (amt 16)) ∗ cred (tallyAt (rCell 15 c) () (amt 15))
      ∗ cred (tallyAt (rCell 14 c) () (amt 14)) ∗ cred (tallyAt (rCell 13 c) () (amt 13)) ∗ cred (tallyAt (rCell 12 c) () (amt 12))
      ∗ cred (tallyAt (rCell 11 c) () (amt 11)) ∗ cred (tallyAt (rCell 10 c) () (amt 10)) ∗ cred (tallyAt (rCell 9 c) () (amt 9))
      ∗ cred (tallyAt (rCell 8 c) () (amt 8)) ∗ cred (tallyAt (rCell 7 c) () (amt 7)) ∗ cred (tallyAt (rCell 6 c) () (amt 6))
      ∗ cred (tallyAt (rCell 5 c) () (amt 5)) ∗ cred (tallyAt (rCell 4 c) () (amt 4)) ∗ cred (tallyAt (rCell 3 c) () (amt 3))
      ∗ cred (tallyAt (rCell 2 c) () (amt 2)) ∗ cred (tallyAt (rCell 1 c) () (amt 1)) ∗ cred (tallyAt (rCell 0 c) () (amt 0))
      ∗ cred (tallyAt (bCell c) () 1) ∗ cred (tallyAt (bCell c) () 1) ∗ cred (tallyAt (bCell c) () 1)) from
      bigSep_eq_bigSepL_of_eq [0, 1, 2, 3, 4, 5, 6, 7, 8, 9, 10, 11, 12, 13, 14, 15, 16, 17, 18, 19, 20, 21, 22, 23] (by decide) (by decide) _)).trans ?_)
  rw [fin18]
  iintro ⟨E0, E1, E2, R17, R16, R15, R14, R13, R12, R11, R10, R9, R8, R7, R6, R5, R4, R3, R2, R1, R0, B0, B1, B2⟩
  isplitl [B0 B1 B2]
  · iapply (cred_join (bCell c) 2 1)
    isplitl [B0 B1]
    · iapply (cred_join (bCell c) 1 1)
      isplitl [B0]; · iexact B0
      iexact B1
    iexact B2
  isplitl [E0 E1 E2]
  · iapply (cred_join (eCell c) 2 1)
    isplitl [E0 E1]
    · iapply (cred_join (eCell c) 1 1)
      isplitl [E0]; · iexact E0
      iexact E1
    iexact E2
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [R16]; · iexact R16
  iexact R17

/-! ## What the body starts from -/

/-- The unused cells' counters. -/
def unused (c : Dev nD) : sProp 𝕄 := bigSep Finset.univ fun u => zero (F := F) c (iU u)

omit [FloatOps F] in
theorem fin3 (Φ : Fin 3 → sProp (MT nD τ sig Unit (Elt F) ℕ UU ℕ)) : bigSep Finset.univ Φ = iprop(Φ 0 ∗ Φ 1 ∗ Φ 2) :=
  bigSep_univ_eq_bigSepL [0, 1, 2] (by decide) (by decide) Φ

/-- The unused cells closed. -/
theorem close_unused (K : Dev nD × Fin 44 → ℕ) (c : Dev nD) :
    iprop(recs I K ∗ bigSep Finset.univ fun u : Fin 6 => atPos ER (kcell (c, iU u)) 0 ∅ 0) ⊢ |={Set.univ}=> unused (F := F) c := by
  refine (with_persistent (Ψ := fun u => iprop(|={Set.univ}=> zero (F := F) c (iU u))) fun u _ => ?_).trans (bigSep_fupd _ _)
  refine (sep_mono_left (recs_inv I K (c, iU u))).trans ?_
  exact Rounds.cell_close ER (Rd I) (Set.mem_univ _) (fun h => h) (duties_unused I c u)

/-- Places, tokens and credits put together as the body takes them. -/
theorem begin_intro (c : Dev nD) :
    iprop((atPos ER (kcell (c, 0)) 0 ∅ 0 ∗ atPos ER (kcell (c, 1)) 0 ∅ 0 ∗ (bigSep Finset.univ fun t => atPos ER (kcell (c, iS t)) 0 ∅ 0)
        ∗ (bigSep Finset.univ fun t => atPos ER (kcell (c, iR t)) 0 ∅ 0)) ∗ payToks (F := F) c
        ∗ cred (tallyAt (bCell c) () 3) ∗ cred (tallyAt (eCell c) () 3) ∗ bigSep Finset.univ fun t => cred (tallyAt (rCell t c) () (amt t)))
      ⊢ (begin (F := F) c : sProp 𝕄) := by
  unfold payToks begin Tx Rx
  simp only [kcell_iS, kcell_iR, bigSep_sep']
  rw [fin3, fin3]
  iintro ⟨⟨A0, A1, AS, AR⟩, ⟨B, E, S, R⟩, C0, C1, CR⟩
  isplitl [B]; · iexact B
  isplitl [E]; · iexact E
  isplitl [A0 C0]
  · isplitl [A0]; · iexact A0
    iexact C0
  isplitl [A1 C1]
  · isplitl [A1]; · iexact A1
    iexact C1
  isplitl [AS S R]
  · isplitl [AS]; · iexact AS
    isplitl [S]; · iexact S
    iexact R
  isplitl [AR]; · iexact AR
  iexact CR

/-- What a device's body starts from, the buffers apart. -/
def start (c : Dev nD) : sProp 𝕄 := iprop((∃ K, recs I K) ∗ unused (F := F) c ∗ begin (F := F) c)

theorem start_of (c : Dev nD) :
    iprop(levAts L lv ∗ Pipeline.launchCred (fun d => OT d 24) c ∗ G' I c) ⊢ |={Set.univ}=> start I c := by
  unfold G' linear start
  rw [fin44]
  iintro ⟨HL, HC, ⟨%K, HK, ⟨A0, A1, AS, AR, AU⟩, HP⟩⟩
  ihave HC := (creds (F := F) c) $$ HC
  icases HC with ⟨C0, C1, CR⟩
  ihave #HK := (recs_of I K) $$ [$HL $HK]
  imod (close_unused I K c) $$ [AU] with HU
  · isplitr; · iexact HK
    iexact AU
  imodintro
  isplitr
  · iexists K; iexact HK
  isplitl [HU]; · iexact HU
  iapply (begin_intro (F := F) c)
  isplitl [A0 A1 AS AR]
  · isplitl [A0]; · iexact A0
    isplitl [A1]; · iexact A1
    isplitl [AS]; · iexact AS
    iexact AR
  isplitl [HP]; · iexact HP
  isplitl [C0]; · iexact C0
  isplitl [C1]; · iexact C1
  iexact CR

end Cert.Ghost
-- ==== Proof.Launch.lean ====
/-
# The launch: what a device starts from, and the body under it

The pipeline's proof data, its windows' blocks (each its whole array), and the body obligation: `Cert.Body.body_run`
between the staging buffers as the pipeline hands them over and as it takes them back.
-/
module

public import proofs.«01_k».proof.Proof.Ghost
public import proofs.«01_k».proof.Proof.Gen.KernelIdeal.Launch
public import proofs.«01_k».proof.Proof.Gen.KernelIdeal.Points
public import proofs.«01_k».proof.Proof.Gen.KernelIdeal.Frame

@[expose] public section

noncomputable section

namespace Cert.Launch

open Cert.KernelIdeal Cert.KernelIdeal.Gen Cert.Geom Cert.Regions Cert.Contents Cert.Protocol Cert.Ops Cert.Parts Cert.Ends Cert.Body Cert.Ghost

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The devices' arrays. -/
def inp : Inp F where
  x c := m ((c : Thread nD τ).loc main_arg0)
  r c := m ((c : Thread nD τ).loc main_arg2)
  e c := m ((c : Thread nD τ).loc main_arg3)

/-- Device `c`'s result. -/
def outAt (c : Dev nD) : S2048x1024.Idx → Elt F .bf16 := fun i => RES (inp m) c (i 0).val (i 1).val

/-! ## The pipeline's proof data -/

def Φ₀ (c : Dev nD) : sProp 𝕄 := iprop(start (inp m) c ∗ scratch (F := F) c)
def Φ₁ (c : Dev nD) : sProp 𝕄 := iprop(scratch (F := F) c ∗ rest (F := F) c ∗ unused (F := F) c)

def dats (_ : Fin 1) (c : Dev nD) : Dat τ (Elt F) Unit ℕ UU ℕ cfg0 c where
  A w := m ((cfg0.win w).arr.view.loc (c : Thread nD τ))
  after w _ := match w with
    | ⟨0, _⟩ => m ((c : Thread nD τ).loc main_arg0)
    | ⟨1, _⟩ => m ((c : Thread nD τ).loc main_arg1)
    | ⟨2, _⟩ => m ((c : Thread nD τ).loc main_arg2)
    | ⟨3, _⟩ => m ((c : Thread nD τ).loc main_arg3)
    | ⟨4, _⟩ => outAt m c
  Φ t := match t with
    | ⟨0, _⟩ => Φ₀ m c
    | ⟨_ + 1, _⟩ => Φ₁ c
  q _ := fullShare
  owed t := match t with
    | ⟨0, _⟩ => OT c 24
    | ⟨_ + 1, _⟩ => 0

/-! The one block of each window is its array. -/

omit [FloatOps F] in
theorem iblk_0 (c : Dev nD) (t : Fin cfg0.N) : iblk m c 0 t = m ((c : Thread nD τ).loc main_arg0) := by
  rw [fin_N0 t]
  exact Memref.read_access_unit_zero (Elt F) main_arg0 (funext fun a => by fin_cases a <;> decide : (fun a => (win0_0.index t0_0) a * main_arg0.ty.shape.size a) = fun _ => 0)
    (fun a => by fin_cases a <;> decide) _
omit [FloatOps F] in
theorem iblk_1 (c : Dev nD) (t : Fin cfg0.N) : iblk m c 1 t = m ((c : Thread nD τ).loc main_arg1) := by
  rw [fin_N0 t]
  exact Memref.read_access_unit_zero (Elt F) main_arg1 (funext fun a => by fin_cases a <;> decide : (fun a => (win0_1.index t0_0) a * main_arg1.ty.shape.size a) = fun _ => 0)
    (fun a => by fin_cases a <;> decide) _
omit [FloatOps F] in
theorem iblk_2 (c : Dev nD) (t : Fin cfg0.N) : iblk m c 2 t = m ((c : Thread nD τ).loc main_arg2) := by
  rw [fin_N0 t]
  exact Memref.read_access_unit_zero (Elt F) main_arg2 (funext fun a => by fin_cases a <;> decide : (fun a => (win0_2.index t0_0) a * main_arg2.ty.shape.size a) = fun _ => 0)
    (fun a => by fin_cases a <;> decide) _
omit [FloatOps F] in
theorem iblk_3 (c : Dev nD) (t : Fin cfg0.N) : iblk m c 3 t = m ((c : Thread nD τ).loc main_arg3) := by
  rw [fin_N0 t]
  exact Memref.read_access_unit_zero (Elt F) main_arg3 (funext fun a => by fin_cases a <;> decide : (fun a => (win0_3.index t0_0) a * main_arg3.ty.shape.size a) = fun _ => 0)
    (fun a => by fin_cases a <;> decide) _
omit [FloatOps F] in
theorem blk_out (f : main_v1.ty.Contents (Elt F)) : (win0_4.blk t0_0).view.read (Elt F) f = f :=
  Memref.read_access_unit_zero (Elt F) main_v1 (funext fun a => by fin_cases a <;> decide : (fun a => (win0_4.index t0_0) a * main_v1.ty.shape.size a) = fun _ => 0)
    (fun a => by fin_cases a <;> decide) f

theorem before_0 (c : Dev nD) (t : Fin cfg0.N) (d) : (dats m 0 c).before 0 t d = m ((c : Thread nD τ).loc main_arg0) := by
  unfold Dat.before
  rw [if_pos (fetch0_0 t)]
  exact iblk_0 m c t
theorem before_1 (c : Dev nD) (t : Fin cfg0.N) (d) : (dats m 0 c).before 1 t d = m ((c : Thread nD τ).loc main_arg1) := by
  unfold Dat.before
  rw [if_pos (fetch0_1 t)]
  exact iblk_1 m c t
theorem before_2 (c : Dev nD) (t : Fin cfg0.N) (d) : (dats m 0 c).before 2 t d = m ((c : Thread nD τ).loc main_arg2) := by
  unfold Dat.before
  rw [if_pos (fetch0_2 t)]
  exact iblk_2 m c t
theorem before_3 (c : Dev nD) (t : Fin cfg0.N) (d) : (dats m 0 c).before 3 t d = m ((c : Thread nD τ).loc main_arg3) := by
  unfold Dat.before
  rw [if_pos (fetch0_3 t)]
  exact iblk_3 m c t

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Staging buffers and bands -/

/-- A whole buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- A whole buffer of two axes as the band of all its rows, and back. -/
theorem whole_rd {R C : ℕ} {e : EltTy} (v : View sig .tc .vmem ⟨2, ![R, C]⟩ e) (c : Dev nD) (f : Buf (Elt F) (v.loc (c : Thread nD τ)))
    (hs : v.setOn Finset.univ = Finset.univ) (hR : 0 < R) (hC : 0 < C) :
    (v.loc (c : Thread nD τ) ↦{fullShare} f : sProp 𝕄) ⊢ rd v c 0 R fullShare (nat2 (v.read (Elt F) f) hR hC) :=
  (Entails.of_eq (by rw [hs])).trans (rd_intro v c fullShare f hR hC)

omit [FloatOps F] in
theorem rd_whole {R C : ℕ} {e : EltTy} (v : View sig .tc .vmem ⟨2, ![R, C]⟩ e) (c : Dev nD) (g : ℕ → ℕ → Elt F e)
    (hs : v.setOn Finset.univ = Finset.univ) :
    (rd v c 0 R fullShare g : sProp 𝕄) ⊢ iprop(∃ f : Buf (Elt F) (v.loc (c : Thread nD τ)), ⌜∀ i, v.read (Elt F) f i = g (i 0).val (i 1).val⌝ ∗ (v.loc (c : Thread nD τ) ↦{fullShare} f)) := by
  have h := rd_elim (F := F) (v := v) (c := c) (R := R) fullShare g
  rw [hs] at h
  exact h

theorem x_in (c : Dev nD) : (stg (F := F) c cc0_stg0_0 (m ((c : Thread nD τ).loc main_arg0))) ⊢ xR (inp m) c := by
  iintro ⟨%f, %hf, H⟩
  subst hf
  ihave H := (whole_rd (F := F) xM.view c (m ((c : Thread nD τ).loc main_arg0)) (View.setOn_whole_univ _) (by decide) (by decide)) $$ H
  unfold xR
  iexact H
theorem x_out (c : Dev nD) : xR (inp m) c ⊢ stg (F := F) c cc0_stg0_0 (m ((c : Thread nD τ).loc main_arg0)) := by
  refine (rd_whole (F := F) xM.view c _ (View.setOn_whole_univ _)).trans ?_
  iintro ⟨%f, %hf, H⟩
  iexists f
  isplitr
  · ipureintro; exact funext fun i => (hf i).trans (nat2_val _ _ _ i)
  · iexact H
theorem r_in (c : Dev nD) : (stg (F := F) c cc0_stg2_0 (m ((c : Thread nD τ).loc main_arg2))) ⊢ rR (inp m) c := by
  iintro ⟨%f, %hf, H⟩
  subst hf
  ihave H := (whole_rd (F := F) rM.view c (m ((c : Thread nD τ).loc main_arg2)) (View.setOn_whole_univ _) (by decide) (by decide)) $$ H
  unfold rR
  iexact H
theorem r_out (c : Dev nD) : rR (inp m) c ⊢ stg (F := F) c cc0_stg2_0 (m ((c : Thread nD τ).loc main_arg2)) := by
  refine (rd_whole (F := F) rM.view c _ (View.setOn_whole_univ _)).trans ?_
  iintro ⟨%f, %hf, H⟩
  iexists f
  isplitr
  · ipureintro; exact funext fun i => (hf i).trans (nat2_val _ _ _ i)
  · iexact H
theorem e_eq (c : Dev nD) : Parts.eR (inp m) c = stg (F := F) c cc0_stg3_0 (m ((c : Thread nD τ).loc main_arg3)) := by
  unfold Parts.eR stg
  rw [View.setOn_whole_univ]
  rfl
theorem o_in (c : Dev nD) (X : cc0_stg4_0.ty.Contents (Elt F)) : (stg (F := F) c cc0_stg4_0 X) ⊢ rdx (F := F) oM.view c 0 2048 := by
  iintro ⟨%f, %hf, H⟩
  iapply (rdx_of (F := F) oM.view c 0 2048 _)
  iapply (whole_rd (F := F) oM.view c f (View.setOn_whole_univ _) (by decide) (by decide)); iexact H
theorem o_out (c : Dev nD) : rd oM.view c 0 2048 fullShare (RES (inp m) c) ⊢ stg (F := F) c cc0_stg4_0 (outAt m c) := by
  refine (rd_whole (F := F) oM.view c _ (View.setOn_whole_univ _)).trans ?_
  iintro ⟨%f, %hf, H⟩
  iexists f
  isplitr
  · ipureintro; exact funext fun i => hf i
  · iexact H

/-- The scratch buffers, whole. -/
theorem scratch_in (c : Dev nD) : (Pipeline.scopedRest (Ix := Unit) (Name := ℕ) (U := UU) (Lvl := ℕ) (Val := Elt F) cfg0.spec c : sProp 𝕄) ⊢ scratch (F := F) c := by
  rw [scopedRest0_eq]
  unfold scratch
  iintro ⟨⟨%f0, H0⟩, ⟨%f1, H1⟩, ⟨%f2, H2⟩, ⟨%f3, H3⟩⟩
  isplitl [H0]
  · iapply (rdx_of (F := F) pM.view c 0 2048 _)
    iapply (whole_rd (F := F) pM.view c f0 (View.setOn_whole_univ _) (by decide) (by decide)); iexact H0
  isplitl [H1]
  · iapply (rdx_of (F := F) g0M.view c 0 768 _)
    iapply (whole_rd (F := F) g0M.view c f1 (View.setOn_whole_univ _) (by decide) (by decide)); iexact H1
  isplitl [H2]
  · iapply (rdx_of (F := F) g1M.view c 0 640 _)
    iapply (whole_rd (F := F) g1M.view c f2 (View.setOn_whole_univ _) (by decide) (by decide)); iexact H2
  iapply (rdx_of (F := F) g2M.view c 0 640 _)
  iapply (whole_rd (F := F) g2M.view c f3 (View.setOn_whole_univ _) (by decide) (by decide)); iexact H3

theorem rdx_whole {R C : ℕ} {e : EltTy} (v : View sig .tc .vmem ⟨2, ![R, C]⟩ e) (c : Dev nD) (hs : v.setOn Finset.univ = Finset.univ) :
    (rdx (F := F) v c 0 R : sProp 𝕄) ⊢ iprop(∃ f : Buf (Elt F) (v.loc (c : Thread nD τ)), v.loc (c : Thread nD τ) ↦{fullShare} f) := by
  have h := rdx_elim (F := F) (R := R) v c
  rw [hs] at h
  exact h

theorem scratch_out (c : Dev nD) : scratch (F := F) c ⊢ (Pipeline.scopedRest (Ix := Unit) (Name := ℕ) (U := UU) (Lvl := ℕ) (Val := Elt F) cfg0.spec c : sProp 𝕄) := by
  rw [scopedRest0_eq]
  unfold scratch
  iintro ⟨H0, H1, H2, H3⟩
  isplitl [H0]; · iapply (rdx_whole (F := F) pM.view c (View.setOn_whole_univ _)); iexact H0
  isplitl [H1]; · iapply (rdx_whole (F := F) g0M.view c (View.setOn_whole_univ _)); iexact H1
  isplitl [H2]; · iapply (rdx_whole (F := F) g1M.view c (View.setOn_whole_univ _)); iexact H2
  iapply (rdx_whole (F := F) g2M.view c (View.setOn_whole_univ _)); iexact H3

/-! ## The body obligation -/

def bodyPre (c : Dev nD) : sProp 𝕄 :=
  iprop(Φ₀ m c ∗ (dats m 0 c).owesAt () t0_0.castSucc
    ∗ (∃ d, stg c cc0_stg0_0 ((dats m 0 c).before 0 t0_0 d)) ∗ (∃ d, stg c cc0_stg1_0 ((dats m 0 c).before 1 t0_0 d))
    ∗ (∃ d, stg c cc0_stg2_0 ((dats m 0 c).before 2 t0_0 d)) ∗ (∃ d, stg c cc0_stg3_0 ((dats m 0 c).before 3 t0_0 d))
    ∗ (∃ d, stg c cc0_stg4_0 ((dats m 0 c).before 4 t0_0 d)))

def bodyPost (c : Dev nD) : sProp 𝕄 :=
  iprop(Φ₁ (F := F) c ∗ (dats m 0 c).owesAt () t0_0.succ
    ∗ stg c cc0_stg0_0 (m ((c : Thread nD τ).loc main_arg0)) ∗ stg c cc0_stg1_0 (m ((c : Thread nD τ).loc main_arg1))
    ∗ stg c cc0_stg2_0 (m ((c : Thread nD τ).loc main_arg2)) ∗ stg c cc0_stg3_0 (m ((c : Thread nD τ).loc main_arg3))
    ∗ stg c cc0_stg4_0 (outAt m c))

theorem sound_body (c : Dev nD) : bodyPre m c ⊢ WP c (onBufs (cc0_body (F := F))) (fun _ => bodyPost m c) := by
  unfold bodyPre Φ₀ start
  simp only [before_0, before_1, before_2, before_3]
  iintro ⟨⟨⟨⟨%K, HK⟩, HU, HB⟩, HS⟩, Ho, ⟨%_, X⟩, ⟨%_, U⟩, ⟨%_, R⟩, ⟨%_, E⟩, ⟨%d, O⟩⟩
  unfold Dat.owesAt Pipeline.owesWithin
  icases Ho with ⟨%W, %hW, HO⟩
  ihave X := (x_in m c) $$ X
  ihave R := (r_in m c) $$ R
  ihave E := (Entails.of_eq (e_eq m c).symm) $$ E
  ihave O := (o_in (F := F) c _) $$ O
  ihave HO := (show (owes (c : Thread nD τ) ((dats m 0 c).owed t0_0.castSucc) W : sProp 𝕄) ⊢ Ow c 24 from by
    unfold Ow; iintro H; iexists W; iexact H) $$ HO
  iapply (body_run (inp m) K c) $$ [$HK $X $R $E $O $HS $HB $HO]
  iintro ⟨⟨X, R, E⟩, O, HS, HR, HO⟩
  unfold bodyPost Φ₁ Ow
  icases HO with ⟨%W', HO⟩
  isplitl [HS HR HU]
  · isplitl [HS]; · iexact HS
    isplitl [HR]; · iexact HR
    iexact HU
  isplitl [HO]
  · unfold Dat.owesAt Pipeline.owesWithin
    iexists W'
    isplitr; · ipureintro; exact fun _ _ => Or.inl trivial
    iexact HO
  isplitl [X]; · iapply (x_out m c); iexact X
  isplitl [U]; · iexact U
  isplitl [R]; · iapply (r_out m c); iexact R
  isplitl [E]; · iapply (Entails.of_eq (e_eq m c)); iexact E
  iapply (o_out m c); iexact O

set_option maxRecDepth 8000 in
theorem body_obligation (c : Dev nD) : BodyObligation (dats m 0 c) (defs₀ (F := F)) 𝒱₀ () Set.univ := fun t => by
  rw [fin_N0 t]
  rw [bigSep_W0, bigSep_W0]
  simp only [owns_whole_eq]
  exact sound_body m c

end Cert.Launch
-- ==== Proof.Run.lean ====
/-
# The run of all eight devices

Every fair execution of the kernel on the eight devices ends, the argument arrays as they were, every counter at zero, and
each device's result array at `RES`.
-/
module

public import proofs.«01_k».proof.Proof.Launch
public import Idealize.ShloMosaic.Lib.Pipeline.CollectiveSegs

@[expose] public section

noncomputable section

namespace Cert.Run

open Cert.KernelIdeal Cert.KernelIdeal.Gen Cert.Geom Cert.Regions Cert.Contents Cert.Protocol Cert.Ops Cert.Parts Cert.Ends Cert.Body Cert.Ghost Cert.Launch

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m 0 c).share w = fullShare := by unfold Dat.share; split <;> rfl

/-- What a device starts with, from its credits, the levels and the ghost state dealt to it. -/
theorem start_intro (c : Dev nD) :
    iprop(Pipeline.unscopedRestP Pipeline.Prefetch.none cfg0.spec c (fun b => m ((c : Thread nD τ).loc b)) ∗ levAts L lv
        ∗ Pipeline.launchCred (fun d => OT d 24) c ∗ prngReg c (ρ c) ∗ G' (inp m) c)
      ⊢ |={Set.univ}=> iprop(start (inp m) c ∗ emp) := by
  iintro ⟨-, HL, HC, -, HG⟩
  imod (start_of (inp m) c) $$ [HL HC HG] with HS
  · isplitl [HL]; · iexact HL
    isplitl [HC] <;> iassumption
  imodintro
  isplitl [HS]; · iexact HS
  iempintro

theorem phi0_intro (c : Dev nD) :
    iprop(start (inp m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scratch_in (F := F) c); iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, ownSems0_eq, unscopedSems0_eq]
  unfold Φ₁ rest unused zero
  simp only [kcell_iS, kcell_iR]
  iintro ⟨HS, ⟨HB, HE, Hs, Hr⟩, HU⟩
  isplitl [HB]; · iexact HB
  isplitl [HE Hs Hr HU]
  · isplitl [HE]; · iexact HE
    isplitl [Hs]; · iexact Hs
    isplitl [Hr]; · iexact Hr
    iexact HU
  iapply (scratch_out (F := F) c); iexact HS

/-- The pipeline's waits on its staging cells, below everything a device owes. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait (F := F) c _ 24 (by fin_cases w <;> fin_cases s <;> decide)
    · show _ ⊢ MayWait (c : Thread nD τ) _ () 0
      rw [MayWait_zero]
      iintro -
      iempintro

/-- What array `w` of device `c` holds at the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with every counter at zero, every fair execution of the eight devices ends, each array at `finalA` and
    every counter at zero. -/
theorem run_windows : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => OT d 24) (howed₀ := fun _ => rfl) (howedN := fun _ => rfl)
    (L := L) (lv := lv) (hL := L_of_ne) (hwaits := waits m)
    (G := G (inp m)) (G' := G' (inp m)) (u₀ := u₀)
    (hu₀ := by
      unfold u₀
      iintro Hu
      ihave H := (ownU_pair _ _) $$ Hu
      icases H with ⟨HP, HX⟩
      imod (fund (inp m)) $$ HX with HG
      imodintro
      isplitl [HP] <;> iassumption)
    (hglob := glob (inp m))
    (hA := fun _ _ => rfl) (hpf := fun _ k => k.elim0)
    (X := start (inp m)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array holds what the body left. -/
theorem finalA_out (c : Dev nD) : finalA m c 4 = outAt m c := by
  unfold finalA
  rw [show cfg0.N = t0_0.val + 1 from rfl, (dats m 0 c).arrAt_succ 4 t0_0]
  rw [flush0_4 t0_0, if_pos rfl]
  exact (blk_out _).symm.trans (View.read_write_univ _ _)

/-- From any memory with every counter at zero, every fair execution of the eight devices ends: each device's result array
    at `outAt`, its arguments as they were, every counter at zero. -/
theorem run_main : θ_run defs (onTc (τ := τ) (main (F := F))) ⟨m, fun _ => 0, ρ⟩ (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => ⟨(h.1 c 4).trans (finalA_out m c),
    (h.1 c 0).trans ((dats m 0 c).arrAt_in 0 rfl _), (h.1 c 1).trans ((dats m 0 c).arrAt_in 1 rfl _),
    (h.1 c 2).trans ((dats m 0 c).arrAt_in 2 rfl _), (h.1 c 3).trans ((dats m 0 c).arrAt_in 3 rfl _)⟩, h.2⟩) (run_windows m ρ)

end Cert.Run
-- ==== Proof.Ref.lean ====
/-
# The run of the reference

The reference is one device's straight line of array operations: for any float values it ends with its result at `refOut` of
its arguments, the arguments as they were.
-/
module

public import proofs.«01_k».proof.ReferenceIdeal
public import proofs.«01_k».proof.Proof.Gen.ReferenceIdeal
public import Idealize.ShloMosaic.Lib.StableHlo.Run
public import Idealize.ShloMosaic.Lib.Quiescent

@[expose] public section

noncomputable section

namespace Cert.Ref

open Cert.ReferenceIdeal Cert.ReferenceIdeal.Gen
open Idealize.ShloMosaic Idealize.ShloMosaic.TcCoe Idealize.ShloMosaic.StableHlo Idealize.SL.Sem

variable {F : FTy → Type} [FloatOps F]

/-- The index of each token's expert, a negative one counted from the end. -/
abbrev refRoute (r : IVec S2048x1 32) : IVec S2048x1 32 :=
  broadcastInDim S2048x1 ![0] bcast_S2048_S2048x1_0
    (select (cmpi .slt (shapeCast S2048 r shapeCasts_S2048x1_S2048) (broadcastInDim S2048 ![] bcast_S_S2048 (constantI S_ 32 0#32)))
      (addi (shapeCast S2048 r shapeCasts_S2048x1_S2048) (broadcastInDim S2048 ![] bcast_S_S2048 (constantI S_ 32 32#32)))
      (shapeCast S2048 r shapeCasts_S2048x1_S2048))

/-- The products to be summed: each token's row, down the column of each output of its expert. -/
abbrev refProds (x : FVec F S2048x512 .bf16) (r : IVec S2048x1 32) (e : FVec F S32x512x1024 .bf16) : FVec F S2048x512x1024 .f32 :=
  mulf (broadcastInDim S2048x512x1024 ![0, 1, 2] bcast_S2048x512x1_S2048x512x1024_0_1_2
      (broadcastInDim S2048x512x1 ![0, 1] bcast_S2048x512_S2048x512x1_0_1 (extf .f32 x bitsLt_bf16_f32)))
    (Host.gather gather_S32x512x1024_S2048x1_S2048x512x1024_12_0_n_n_0_1_15121024 (extf .f32 e bitsLt_bf16_f32) (refRoute r))

/-- The reference's result. -/
abbrev refOut (x : FVec F S2048x512 .bf16) (r : IVec S2048x1 32) (e : FVec F S32x512x1024 .bf16) : FVec F S2048x1024 .bf16 :=
  truncf .bf16 (Host.reduceAdd (refProds x r e) (constant S_ .f32 0x00000000#32) reducesTo_S2048x512x1024_S2048x1024_d1 h_S_) bitsLt_bf16_f32

/-- Its operations, in order. -/
abbrev ops : List (HloOp τ sig (Elt F)) :=
  [ unary main_arg3 main_v0 (extf .f32 · bitsLt_bf16_f32),
    reshape main_arg2 main_v1 rfl shapeCasts_S2048x1_S2048,
    nullary main_c (constantI S_ 32 0#32),
    unary main_c main_v2 (broadcastInDim S2048 ![] bcast_S_S2048),
    binary main_v1 main_v2 main_v3 (cmpi .slt),
    nullary main_c_0 (constantI S_ 32 32#32),
    unary main_c_0 main_v4 (broadcastInDim S2048 ![] bcast_S_S2048),
    binary main_v1 main_v4 main_v5 addi,
    ternary main_v3 main_v5 main_v1 main_v6 select,
    unary main_v6 main_v7 (broadcastInDim S2048x1 ![0] bcast_S2048_S2048x1_0),
    binary main_v0 main_v7 main_v8 (fun x i => Host.gather gather_S32x512x1024_S2048x1_S2048x512x1024_12_0_n_n_0_1_15121024 x i),
    unary main_arg0 main_v9 (extf .f32 · bitsLt_bf16_f32),
    unary main_v9 main_v10 (broadcastInDim S2048x512x1 ![0, 1] bcast_S2048x512_S2048x512x1_0_1),
    unary main_v10 main_v11 (broadcastInDim S2048x512x1024 ![0, 1, 2] bcast_S2048x512x1_S2048x512x1024_0_1_2),
    binary main_v11 main_v8 main_v12 mulf,
    nullary main_cst (constant S_ .f32 0x00000000#32),
    binary main_v12 main_cst main_v13 (fun x v => Host.reduceAdd x v reducesTo_S2048x512x1024_S2048x1024_d1 h_S_),
    unary main_v13 main_v14 (truncf .bf16 · bitsLt_bf16_f32) ]

theorem main_eq (c : Dev nD) : main (F := F) c = seq ops := rfl

theorem out_eq (V : Valuation τ sig (Elt F)) : after ops V (main_v14 : DevRef τ sig)
    = refOut (V (main_arg0 : DevRef τ sig)) (V (main_arg2 : DevRef τ sig)) (V (main_arg3 : DevRef τ sig)) := by
  after_results
  rfl

theorem arg0_eq (V : Valuation τ sig (Elt F)) : after ops V (main_arg0 : DevRef τ sig) = V (main_arg0 : DevRef τ sig) := by after_results
theorem arg1_eq (V : Valuation τ sig (Elt F)) : after ops V (main_arg1 : DevRef τ sig) = V (main_arg1 : DevRef τ sig) := by after_results
theorem arg2_eq (V : Valuation τ sig (Elt F)) : after ops V (main_arg2 : DevRef τ sig) = V (main_arg2 : DevRef τ sig) := by after_results
theorem arg3_eq (V : Valuation τ sig (Elt F)) : after ops V (main_arg3 : DevRef τ sig) = V (main_arg3 : DevRef τ sig) := by after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub .., unary_bufs_sub ..,
    binary_bufs_sub .., nullary_bufs_sub .., binary_bufs_sub .., unary_bufs_sub ..⟩

/-- From any memory with every counter at zero, every fair execution of the reference ends with the result at `refOut` of the
    arguments, the arguments as they were. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v14)
          = refOut (m ((c.tc : Thread nD τ).loc main_arg0)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run defs _ _).mono (fun _ h c => ⟨(h c main_v14).trans (out_eq _), (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.Ref

end
-- ==== Proof.Frames.lean ====
/-
# The frames

Each program runs to its end from any memory with every counter at zero, its arguments as they were and every counter at zero
again. The kernel's two frames are its one run, over either kind of float values.
-/
module

public import proofs.«01_k».proof.Defs
public import proofs.«01_k».proof.Proof.Gen.Kernel
public import proofs.«01_k».proof.Proof.Run
public import proofs.«01_k».proof.Proof.Ref

@[expose] public section

noncomputable section

namespace Cert.Frames

open Idealize.ShloMosaic Idealize.SL.Sem

/-! The two printings of the kernel are one program. -/

theorem bodies_eq : Cert.Kernel.defs₀ (F := Bits) = Cert.KernelIdeal.defs₀ (F := Bits) :=
  congrArg Defs.onTc (funext fun l => funext fun a => match l, a with | 0, (_, _) => rfl)

theorem defs_eq : Cert.Kernel.defs (F := Bits) = Cert.KernelIdeal.defs (F := Bits) := congrArg (Pipeline.defs Cert.Kernel.pcfgs) bodies_eq

theorem frame_kernel : Cert.quiescent_Kernel := fun m ρ _ => by
  rw [defs_eq]
  exact (θ_run (Cert.KernelIdeal.defs (F := Bits)) _ _).mono (fun _ h => ⟨fun c => (h.1 c).2, h.2⟩) (Cert.Run.run_main (F := Bits) m ρ)

theorem frame_kernelIdeal : Cert.quiescent_KernelIdeal := fun m ρ _ =>
  (θ_run Cert.KernelIdeal.defs _ _).mono (fun _ h => ⟨fun c => (h.1 c).2, h.2⟩) (Cert.Run.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.Ref.run_main (F := Ideal) m ρ)

end Cert.Frames

end
-- ==== Proof.Experts.lean ====
/-
# A device's partial result, read at an element

At the ideal values a block of rows is, at each element, the sum over the device's four experts of the expert's product where
the row is routed to it and of zero elsewhere: a row that is not routed to an expert is zeroed before the product.
-/
module

public import proofs.«01_k».proof.Proof.Contents
public import Idealize.ShloMosaic.Lib.MatmulPlain
public import Idealize.ShloMosaic.Lib.Pipeline.Value
public import Idealize.ShloMosaic.Lib.WordCmp

@[expose] public section

noncomputable section

namespace Cert.Experts

open Cert.KernelIdeal Cert.KernelIdeal.Gen Cert.Geom Cert.Regions Cert.Contents
open Idealize.ShloMosaic

/-! ## One expert -/

/-- The mask of a column of flags, spread along the rows, picks the row or zeros. -/
theorem mask_apply {h : ℕ} (mk : IVec ⟨2, ![h, 1]⟩ 1) (hsc : (⟨2, ![h, 1]⟩ : Shape).ShapeCasts ⟨2, ![h, 1]⟩)
    (hbc : (⟨2, ![h, 1]⟩ : Shape).Broadcasts ⟨2, ![h, 512]⟩) (x : FVec Ideal ⟨2, ![h, 512]⟩ .bf16) (o : Fin h) (j : Fin 512) :
    select (broadcastTo ⟨2, ![h, 512]⟩ (shapeCast ⟨2, ![h, 1]⟩ mk hsc) hbc) x (broadcast ⟨2, ![h, 512]⟩ (Scalar.ofBits .bf16 0x0000#16)) (ix2 o j)
      = if mk (ix2 o 0) = 1#1 then x (ix2 o j) else (0 : EReal) := by
  have hb : broadcastTo ⟨2, ![h, 512]⟩ (shapeCast ⟨2, ![h, 1]⟩ mk hsc) hbc (ix2 o j) = mk (ix2 o 0) := by
    rw [shapeCast_self]
    refine broadcastTo_apply _ _ _ _ fun a => ?_
    match a with
    | ⟨0, _⟩ =>
      show o.val = if h = 1 then 0 else o.val
      have := o.isLt
      split <;> omega
    | ⟨1, _⟩ => rfl
  have hz : (Scalar.ofBits .bf16 0x0000#16 : Ideal .bf16) = (0 : EReal) := by
    show Ideal.ofBits .bf16 0x0000#16 = 0
    simp [Ideal.ofBits, Ideal.ieee]
  show Scalar.select (broadcastTo ⟨2, ![h, 512]⟩ (shapeCast ⟨2, ![h, 1]⟩ mk hsc) hbc (ix2 o j)) (x (ix2 o j)) (Scalar.ofBits .bf16 0x0000#16) = _
  rw [hb, hz]
  rfl

/-- A masked block of rows times an expert's weights. -/
theorem expert_apply {h : ℕ} (d : DotDims ⟨2, ![h, 512]⟩ S512x1024 ⟨2, ![h, 1024]⟩) (hd : d = DotDims.plain h 512 1024)
    (mk : IVec ⟨2, ![h, 1]⟩ 1) (hsc : (⟨2, ![h, 1]⟩ : Shape).ShapeCasts ⟨2, ![h, 1]⟩)
    (hbc : (⟨2, ![h, 1]⟩ : Shape).Broadcasts ⟨2, ![h, 512]⟩) (x : FVec Ideal ⟨2, ![h, 512]⟩ .bf16) (w : FVec Ideal S1x512x1024 .bf16)
    (hw : S1x512x1024.ShapeCasts S512x1024) (o : Fin h) (k : Fin 1024) :
    FloatOps.matmul d none
        (select (broadcastTo ⟨2, ![h, 512]⟩ (shapeCast ⟨2, ![h, 1]⟩ mk hsc) hbc) x (broadcast ⟨2, ![h, 512]⟩ (Scalar.ofBits .bf16 0x0000#16)))
        (shapeCast S512x1024 w hw) (constant ⟨2, ![h, 1024]⟩ .f32 0x00000000#32) (ix2 o k)
      = if mk (ix2 o 0) = 1#1 then ∑ j : Fin 512, x (ix2 o j) * w (ix3 0 j k) else (0 : EReal) := by
  subst hd
  refine (Ideal.matmul_plain_apply none _ _ _ o k).trans ?_
  change _ + ∑ j : Fin 512, select (broadcastTo ⟨2, ![h, 512]⟩ (shapeCast ⟨2, ![h, 1]⟩ mk hsc) hbc) x
    (broadcast ⟨2, ![h, 512]⟩ (Scalar.ofBits .bf16 0x0000#16)) (ix2 o j) * shapeCast S512x1024 w hw (ix2 j k) = _
  refine (congrArg (· + _) Ideal.ofBits_zero_f32).trans ((zero_add _).trans ?_)
  have e : ∀ j : Fin 512, shapeCast S512x1024 w hw (ix2 j k) = w (ix3 0 j k) := fun j => by
    rw [shapeCast_dropUnit_apply]
    congr 1
    funext a; apply Fin.ext
    match a with
    | ⟨0, _⟩ => rfl
    | ⟨1, _⟩ => rfl
    | ⟨2, _⟩ => rfl
  simp only [mask_apply, e]
  by_cases hm : mk (ix2 o 0) = 1#1
  · simp only [if_pos hm]
  · simp only [if_neg hm, zero_mul, Finset.sum_const_zero]

/-- The flag of a row: whether its route is the word. -/
theorem flag_eq {h : ℕ} (r : IVec ⟨2, ![h, 1]⟩ 32) (v : BitVec 32) (o : Fin h) :
    (cmpi .eq r (broadcast ⟨2, ![h, 1]⟩ v) (ix2 o 0) = 1#1) ↔ r (ix2 o 0) = v := by
  show IntOp.cmpi .eq (r (ix2 o 0)) v = 1#1 ↔ _
  rw [WordCmp.cmpi_eq_eq]
  by_cases hv : r (ix2 o 0) = v <;> simp [hv]

/-! ## A device's four -/

variable (I : Inp Ideal)

/-- The number, among all the experts, of the device's `e`-th, as the kernel computes it. -/
def expertWord (c : Dev nD) (e : Fin 4) : BitVec 32 := Scalar.addi (Scalar.muli (wd c) 4#32) (BitVec.ofNat 32 e.val)

/-- The product of row `r` with column `k` of the device's `e`-th expert. -/
def prod (c : Dev nD) (e : Fin 4) (r : ℕ) (k : Fin 1024) : EReal := ∑ j : Fin 512, xN I c r j.val * I.e c (ix3 e j k)

/-- The `e`-th expert's contribution to row `r`. -/
def share (c : Dev nD) (e : Fin 4) (r : ℕ) (k : Fin 1024) : EReal := if rN I c r 0 = expertWord c e then prod I c e r k else 0

theorem share_of {h : ℕ} (c : Dev nD) (e : Fin 4) (a : ℕ) (o : Fin h) (k : Fin 1024) (d : DotDims ⟨2, ![h, 512]⟩ S512x1024 ⟨2, ![h, 1024]⟩)
    (hd : d = DotDims.plain h 512 1024) (hsc : (⟨2, ![h, 1]⟩ : Shape).ShapeCasts ⟨2, ![h, 1]⟩)
    (hbc : (⟨2, ![h, 1]⟩ : Shape).Broadcasts ⟨2, ![h, 512]⟩) (hw : S1x512x1024.ShapeCasts S512x1024) :
    FloatOps.matmul d none
        (select (broadcastTo ⟨2, ![h, 512]⟩ (shapeCast ⟨2, ![h, 1]⟩ (cmpi .eq (rs I h c a) (broadcast ⟨2, ![h, 1]⟩ (expertWord c e))) hsc) hbc)
          (xs I h c a) (broadcast ⟨2, ![h, 512]⟩ (Scalar.ofBits .bf16 0x0000#16)))
        (shapeCast S512x1024 (ex I c e) hw) (constant ⟨2, ![h, 1024]⟩ .f32 0x00000000#32) (ix2 o k)
      = share I c e (a + o.val) k := by
  rw [expert_apply d hd, if_congr (flag_eq _ _ _) rfl rfl]
  rfl

theorem acc384_apply (c : Dev nD) (a : ℕ) (o : Fin 384) (k : Fin 1024) :
    acc384 I c a (ix2 o k) = ∑ e : Fin 4, share I c e (a + o.val) k := by
  rw [Fin.sum_univ_four]
  unfold acc384 k0_pay9 k0_pay8 k0_pay7 k0_pay6 k0_pay5 k0_pay4 k0_pay3 k0_pay2 k0_pay1
  simp only [shapeCast_self (xs I 384 c a), shapeCast_self (rs I 384 c a)]
  have h := fun e => share_of I c e a o k dot_S384x512_S512x1024_S384x1024_1_0_0_1_n_n rfl shapeCasts_S384x1_S384x1 broadcasts_S384x1_S384x512
    shapeCasts_S1x512x1024_S512x1024
  rw [← h 0, ← h 1, ← h 2, ← h 3, ← zero_add (FloatOps.matmul _ none _ (shapeCast S512x1024 (ex I c 0) _) _ _), ← Ideal.ofBits_zero_f32]
  rfl

theorem acc320_apply (c : Dev nD) (a : ℕ) (o : Fin 320) (k : Fin 1024) :
    acc320 I c a (ix2 o k) = ∑ e : Fin 4, share I c e (a + o.val) k := by
  rw [Fin.sum_univ_four]
  unfold acc320 k0_pay18 k0_pay17 k0_pay16 k0_pay15 k0_pay14 k0_pay4 k0_pay3 k0_pay2 k0_pay1
  simp only [shapeCast_self (xs I 320 c a), shapeCast_self (rs I 320 c a)]
  have h := fun e => share_of I c e a o k dot_S320x512_S512x1024_S320x1024_1_0_0_1_n_n rfl shapeCasts_S320x1_S320x1 broadcasts_S320x1_S320x512
    shapeCasts_S1x512x1024_S512x1024
  rw [← h 0, ← h 1, ← h 2, ← h 3, ← zero_add (FloatOps.matmul _ none _ (shapeCast S512x1024 (ex I c 0) _) _ _), ← Ideal.ofBits_zero_f32]
  rfl

/-- A device's partial result, at a row of part `p`. -/
theorem A0_eq (p : Fin 3) (c : Dev nD) (r : ℕ) (k : Fin 1024) : A0 I p c r k.val = ∑ e : Fin 4, share I c e r k := by
  have hk : k.val % 1024 = k.val := Nat.mod_eq_of_lt k.isLt
  unfold A0 nat2
  by_cases hp : p = 0
  · rw [if_pos hp]
    refine (acc384_apply I c _ _ _).trans ?_
    have hr : r - r % 384 + r % 384 % 384 = r := by omega
    simp only [hr, hk]
  · rw [if_neg hp]
    refine (acc320_apply I c _ _ _).trans ?_
    have hr : r - (r - base p) % 320 + (r - base p) % 320 % 320 = r := by have := Nat.mod_le (r - base p) 320; omega
    simp only [hr, hk]

end Cert.Experts

end
-- ==== Proof.Total.lean ====
/-
# The sum over the devices

The three exchanges of a part meet each device once, so the finished sum is over all eight devices, whichever device and part it
is read at. Where the devices hold the same tokens and routes, and each its four of the thirty-two experts, only the expert
the row is routed to contributes: the result is the row's product with that expert.
-/
module

public import proofs.«01_k».proof.Proof.Experts
public import proofs.«01_k».proof.Proof.Ends
public import Idealize.ShloMosaic.Lib.Layout

@[expose] public section

noncomputable section

namespace Cert.Total

open Cert.KernelIdeal Cert.KernelIdeal.Gen Cert.Geom Cert.Regions Cert.Contents Cert.Experts
open Idealize.ShloMosaic

/-- The devices whose partial results meet in device `c`'s sum, in the order they meet. -/
def met (p : Fin 3) (c : Dev nD) : List (Dev nD) :=
  [c, peer p 0 c, peer p 1 c, peer p 0 (peer p 1 c), peer p 2 c, peer p 0 (peer p 2 c), peer p 1 (peer p 2 c), peer p 0 (peer p 1 (peer p 2 c))]

theorem met_perm : ∀ (p : Fin 3) (c : Dev nD), (met p c).Perm (List.finRange 8) := by decide

variable (I : Inp Ideal)

/-- The finished sum is over all the devices. -/
theorem A3_eq (p : Fin 3) (c : Dev nD) (r k : ℕ) : A3 I p c r k = ∑ d : Dev nD, (A0 I p d r k : EReal) := by
  have h := (((met_perm p c).map fun d => (A0 I p d r k : EReal)).sum_eq)
  rw [Fin.sum_univ_def]
  refine Eq.trans ?_ h
  simp only [met, List.map_cons, List.map_nil, List.sum_cons, List.sum_nil, add_zero]
  unfold A3 A2 A1
  show ((A0 I p c r k : EReal) + A0 I p (peer p 0 c) r k + (A0 I p (peer p 1 c) r k + A0 I p (peer p 0 (peer p 1 c)) r k)
    + (A0 I p (peer p 2 c) r k + A0 I p (peer p 0 (peer p 2 c)) r k
      + (A0 I p (peer p 1 (peer p 2 c)) r k + A0 I p (peer p 0 (peer p 1 (peer p 2 c))) r k)) : EReal) = _
  simp only [add_assoc]

theorem RES_eq (c : Dev nD) (r : ℕ) (k : Fin 1024) : Ends.RES I c r k.val = ∑ d : Dev nD, ∑ e : Fin 4, share I d e r k := by
  have h : ∀ p : Fin 3, OUT I p c r k.val = ∑ d : Dev nD, ∑ e : Fin 4, share I d e r k := fun p =>
    (A3_eq I p _ r k.val).trans (Finset.sum_congr rfl fun d _ => A0_eq I p d r k)
  unfold Ends.RES
  split
  · exact h 0
  · split
    · exact h 1
    · exact h 2

/-! ## Where the devices hold their parts of one whole -/

theorem expertWord_eq : ∀ (d : Dev nD) (e : Fin 4), expertWord d e = BitVec.ofNat 32 (4 * d.val + e.val) := by decide

theorem ofNat_inj_small (a b : ℕ) (ha : a < 32) (hb : b < 32) : (BitVec.ofNat 32 a = BitVec.ofNat 32 b) ↔ a = b := by
  constructor
  · intro h
    have := congrArg BitVec.toNat h
    simp only [BitVec.toNat_ofNat] at this
    omega
  · rintro rfl; rfl

variable (X : S2048x512.Idx → EReal) (R : S2048x1.Idx → BitVec 32) (E : (⟨3, ![32, 512, 1024]⟩ : Shape).Idx → EReal)

/-- The product of row `r` with column `k` of expert `n`. -/
def whole (n : Fin 32) (r : Fin 2048) (k : Fin 1024) : EReal := ∑ j : Fin 512, X (ix2 r j) * E (ix3 n j k)

theorem share_eq (hx : ∀ c, I.x c = X) (hr : ∀ c, I.r c = R) (he : ∀ c, I.e c = Layout.block ⟨3, ![4, 512, 1024]⟩ ⟨3, ![32, 512, 1024]⟩ 0 8 c E)
    (d : Dev nD) (e : Fin 4) (r : Fin 2048) (k : Fin 1024) (n : Fin 32) (hn : R (ix2 r 0) = BitVec.ofNat 32 n.val) :
    share I d e r.val k = if n.val = 4 * d.val + e.val then whole X E n r k else 0 := by
  have hd : d.val < 8 := d.isLt
  have he' := e.isLt
  have hrn : rN I d r.val 0 = R (ix2 r 0) := by unfold rN; rw [hr]; exact nat2_val (F := Ideal) (e := .i32) R _ _ (ix2 r 0)
  unfold share
  rw [hrn, hn, expertWord_eq]
  refine (if_congr (ofNat_inj_small n.val (4 * d.val + e.val) n.isLt (by omega)) rfl rfl).trans ?_
  by_cases h : n.val = 4 * d.val + e.val
  · rw [if_pos h, if_pos h]
    refine Finset.sum_congr rfl fun j _ => ?_
    have hxn : xN I d r.val j.val = X (ix2 r j) := by unfold xN; rw [hx]; exact nat2_val (F := Ideal) (e := .bf16) X _ _ (ix2 r j)
    rw [hxn, he, Layout.block_apply]
    congr 2
    funext a; apply Fin.ext
    rw [Layout.Tiles.idx_val]
    match a with
    | ⟨0, _⟩ => show d.val * 4 + e.val = n.val; omega
    | ⟨1, _⟩ => rfl
    | ⟨2, _⟩ => rfl
  · rw [if_neg h, if_neg h]

/-- The result at a row routed to expert `n`. -/
theorem result_eq (hx : ∀ c, I.x c = X) (hr : ∀ c, I.r c = R) (he : ∀ c, I.e c = Layout.block ⟨3, ![4, 512, 1024]⟩ ⟨3, ![32, 512, 1024]⟩ 0 8 c E)
    (c : Dev nD) (r : Fin 2048) (k : Fin 1024) (n : Fin 32) (hn : R (ix2 r 0) = BitVec.ofNat 32 n.val) :
    Ends.RES I c r.val k.val = whole X E n r k := by
  have hn' := n.isLt
  rw [RES_eq]
  simp only [share_eq I X R E hx hr he _ _ r k n hn]
  rw [Finset.sum_eq_single (⟨n.val / 4, by show n.val / 4 < 8; omega⟩ : Dev nD), Finset.sum_eq_single (⟨n.val % 4, by omega⟩ : Fin 4)]
  · exact if_pos (by show n.val = 4 * (n.val / 4) + n.val % 4; omega)
  · intro e _ hne
    refine if_neg fun h => hne (Fin.ext ?_)
    have h' : n.val = 4 * (n.val / 4) + e.val := h
    show e.val = n.val % 4; omega
  · exact fun h => absurd (Finset.mem_univ _) h
  · intro d _ hne
    refine Finset.sum_eq_zero fun e _ => if_neg fun h => hne (Fin.ext ?_)
    show d.val = n.val / 4
    have := e.isLt; omega
  · exact fun h => absurd (Finset.mem_univ _) h

end Cert.Total

end
-- ==== Proof.RefValue.lean ====
/-
# The reference's result, read at an element

At the ideal values, a row whose route is an expert's number ends with the row's product with that expert.
-/
module

public import proofs.«01_k».proof.Proof.Ref
public import Idealize.ShloMosaic.Lib.Pipeline.Value
public import Idealize.ShloMosaic.Lib.WordCmp
public import Idealize.ShloMosaic.Lib.Pointwise.Reduce

@[expose] public section

noncomputable section

namespace Cert.RefValue

open Cert.ReferenceIdeal Cert.ReferenceIdeal.Gen Cert.Ref
open Idealize.ShloMosaic

variable (x : FVec Ideal S2048x512 .bf16) (r : IVec S2048x1 32) (e : FVec Ideal S32x512x1024 .bf16)

/-- The route of a row routed to an expert, as the reference indexes by it: no counting from the end. -/
theorem refRoute_apply (t : Fin 2048) (n : Fin 32) (hn : r (ix2 t 0) = BitVec.ofNat 32 n.val) : refRoute r (ix2 t 0) = BitVec.ofNat 32 n.val := by
  have hs : shapeCast S2048 r shapeCasts_S2048x1_S2048 (ix1 t) = BitVec.ofNat 32 n.val := by
    refine (shapeCast_apply r _ (ix1 t) (ix2 t 0) ?_).trans hn
    rw [Shape.rowMajor_val_two, Shape.rowMajor_val_one]
    show t.val * 1 + 0 = t.val
    omega
  unfold refRoute
  refine (broadcastInDim_apply _ _ _ (ix2 t 0) (ix1 t) fun a => ?_).trans ?_
  · match a with
    | ⟨0, _⟩ => rfl
  · show Scalar.select (IntOp.cmpi .slt (shapeCast S2048 r shapeCasts_S2048x1_S2048 (ix1 t)) 0#32) _
      (shapeCast S2048 r shapeCasts_S2048x1_S2048 (ix1 t)) = _
    rw [hs, WordCmp.cmpi_slt_zero, decide_eq_false (by simp only [BitVec.toNat_ofNat]; have := n.isLt; omega)]
    rfl

/-- The experts' weights read at a row's route. -/
theorem gather_apply (idx : IVec S2048x1 32) (t : Fin 2048) (j : Fin 512) (k : Fin 1024) (n : Fin 32) (hn : idx (ix2 t 0) = BitVec.ofNat 32 n.val) :
    Host.gather gather_S32x512x1024_S2048x1_S2048x512x1024_12_0_n_n_0_1_15121024 e idx (ix3 t j k) = e (ix3 n j k) := by
  unfold Host.gather
  refine congrArg e (funext fun a => Fin.ext ?_)
  show GatherDims.start _ (ix3 t j k) idx a + GatherDims.batchCoord _ (ix3 t j k) a + GatherDims.offCoord _ (ix3 t j k) a = _
  rw [GatherDims.batchCoord_eq_zero _ _ _ List.not_mem_nil]
  have ha : a = 0 ∨ a = 1 ∨ a = 2 := match a with
    | ⟨0, _⟩ => Or.inl rfl
    | ⟨1, _⟩ => Or.inr (Or.inl rfl)
    | ⟨2, _⟩ => Or.inr (Or.inr rfl)
  rcases ha with rfl | rfl | rfl
  · have hsi : ∀ c, GatherDims.siIdx gather_S32x512x1024_S2048x1_S2048x512x1024_12_0_n_n_0_1_15121024 (ix3 t j k) c = ix2 t 0 := fun c => by
      funext b; apply Fin.ext
      match b with
      | ⟨0, _⟩ => rfl
      | ⟨1, _⟩ => exact Nat.lt_one_iff.1 c.isLt
    rw [GatherDims.offCoord_eq_zero _ _ _ (fun h => ((GatherDims.mem_sKept _ _).1 h).1 (List.mem_singleton.2 rfl))]
    unfold GatherDims.start
    rw [dif_pos (show (0 : Fin 3) ∈ gather_S32x512x1024_S2048x1_S2048x512x1024_12_0_n_n_0_1_15121024.startIndexMap from List.mem_singleton.2 rfl),
      hsi, hn]
    show min (BitVec.ofNat 32 n.val).toInt.toNat 31 + 0 + 0 = n.val
    have := n.isLt
    rw [BitVec.toInt_ofNat', Int.bmod_def]
    omega
  · unfold GatherDims.start
    rw [dif_neg (show ¬ (1 : Fin 3) ∈ gather_S32x512x1024_S2048x1_S2048x512x1024_12_0_n_n_0_1_15121024.startIndexMap from by decide)]
    exact Nat.zero_add _
  · unfold GatherDims.start
    rw [dif_neg (show ¬ (2 : Fin 3) ∈ gather_S32x512x1024_S2048x1_S2048x512x1024_12_0_n_n_0_1_15121024.startIndexMap from by decide)]
    exact Nat.zero_add _

/-- The reference's result at a row routed to expert `n`. -/
theorem refOut_apply (t : Fin 2048) (k : Fin 1024) (n : Fin 32) (hn : r (ix2 t 0) = BitVec.ofNat 32 n.val) :
    refOut x r e (ix2 t k) = ∑ j : Fin 512, (x (ix2 t j) * e (ix3 n j k) : EReal) := by
  show Ideal.hostReduceAdd reducesTo_S2048x512x1024_S2048x1024_d1 (refProds x r e) (Ideal.ofBits .f32 0x00000000#32) (ix2 t k) = _
  rw [Ideal.hostReduceAdd_r3_a1, Ideal.ofBits_zero_f32, zero_add]
  refine Finset.sum_congr rfl fun j _ => ?_
  show broadcastInDim S2048x512x1024 ![0, 1, 2] bcast_S2048x512x1_S2048x512x1024_0_1_2
      (broadcastInDim S2048x512x1 ![0, 1] bcast_S2048x512_S2048x512x1_0_1 x) (ix3 t j k)
    * Host.gather gather_S32x512x1024_S2048x1_S2048x512x1024_12_0_n_n_0_1_15121024 e (refRoute r) (ix3 t j k) = _
  rw [gather_apply e _ t j k n (refRoute_apply r t n hn)]
  refine congrArg (· * _) ?_
  refine (broadcastInDim_apply _ _ _ (ix3 t j k) (ix3 t j 0) fun a => ?_).trans (broadcastInDim_apply _ _ _ (ix3 t j 0) (ix2 t j) fun a => ?_)
  · match a with
    | ⟨0, _⟩ => rfl
    | ⟨1, _⟩ => rfl
    | ⟨2, _⟩ => rfl
  · match a with
    | ⟨0, _⟩ => rfl
    | ⟨1, _⟩ => rfl

end Cert.RefValue

end
-- ==== Proof.Algebraic.lean ====
/-
# The kernel computes the reference

Where every route is one of the thirty-two experts, each device's result is the reference's.
-/
module

public import proofs.«01_k».proof.Defs
public import proofs.«01_k».proof.Proof.Frames
public import proofs.«01_k».proof.Proof.Total
public import proofs.«01_k».proof.Proof.RefValue

@[expose] public section

noncomputable section

namespace Cert.Algebraic

open Idealize.ShloMosaic Idealize.SL.Sem

theorem facts_kernel : Cert.Pre_routed_KernelIdeal.Facts := ⟨by decide⟩
theorem facts_reference : Cert.Pre_routed_ReferenceIdeal.Facts := ⟨by decide⟩

attribute [local instance] facts_kernel facts_reference

/-- A word that is, signed, from 0 to 31 is one of the thirty-two numbers. -/
theorem word_small (w : BitVec 32) (h₁ : 0 ≤ w.toInt) (h₂ : w.toInt < 32) : ∃ n : Fin 32, w = BitVec.ofNat 32 n.val := by
  have hw : w.toNat < 32 := by have := w.isLt; rw [BitVec.toInt_eq_toNat_cond] at h₁ h₂; split at h₁ <;> omega
  exact ⟨⟨w.toNat, hw⟩, BitVec.eq_of_toNat_eq (by rw [BitVec.toNat_ofNat]; show w.toNat = w.toNat % 2 ^ 32; omega)⟩

/-- The precondition, read at a row: its route is one of the experts. -/
theorem routed_apply (x : FVec Ideal ⟨2, ![2048, 512]⟩ .bf16) (w : FVec Ideal ⟨2, ![512, 32]⟩ .bf16) (r : IVec ⟨2, ![2048, 1]⟩ 32)
    (e : FVec Ideal ⟨3, ![4, 512, 1024]⟩ .bf16) (h : Cert.Pre_routed_KernelIdeal.fn x w r e = fun _ => 1#1) (t : Fin 2048) :
    ∃ n : Fin 32, r (ix2 t 0) = BitVec.ofNat 32 n.val := by
  have ht : IntOp.cmpi .sge (r (ix2 t 0)) 0#32 &&& IntOp.cmpi .slt (r (ix2 t 0)) 32#32 = 1#1 := congrFun h (ix2 t 0)
  rw [WordCmp.cmpi_sge_eq, WordCmp.cmpi_slt_eq] at ht
  have both : ∀ a b : Bool, BitVec.ofBool a &&& BitVec.ofBool b = 1#1 → a = true ∧ b = true := by decide
  have hb := both _ _ ht
  exact word_small _ (of_decide_eq_true hb.1) (of_decide_eq_true hb.2)

theorem algebraic : Cert.algebraic_KernelIdeal_ReferenceIdeal_pre_routed_KernelIdeal := fun m g m' g' pre same =>
  have hout : ∀ c : Dev Cert.KernelIdeal.nD, Cert.Launch.outAt m c
      = Cert.Ref.refOut (F := Ideal) (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg2))
        (m' (((0 : Dev Cert.ReferenceIdeal.nD).tc : Thread Cert.ReferenceIdeal.nD Cert.ReferenceIdeal.τ).loc Cert.ReferenceIdeal.main_arg3)) := fun c => by
    funext i
    obtain ⟨n, hn⟩ := routed_apply _ _ _ _ (pre c) (i 0)
    have hn' := (congrFun (same c).2.2.1 (ix2 (i 0) 0)).symm.trans hn
    rw [eq_ix2 i]
    exact (Cert.Total.result_eq (Cert.Launch.inp m) _ _ _ (fun c => (same c).1) (fun c => (same c).2.2.1) (fun c => (same c).2.2.2) c (i 0) (i 1) n hn').trans
      (Cert.RefValue.refOut_apply _ _ _ (i 0) (i 1) n hn').symm
  ⟨_, (θ_run Cert.KernelIdeal.defs _ _).mono (fun _ h c => ⟨(h.1 c).1.trans (hout c), (h.1 c).2⟩) (Cert.Run.run_main (F := Ideal) m g),
    (θ_run Cert.ReferenceIdeal.defs _ _).mono (fun _ h => h 0) (Cert.Ref.run_main (F := Ideal) m' g')⟩

end Cert.Algebraic

end
-- ==== Proof.lean ====
/-
# The certificate

`Cert.Claim`, each part proved in the modules under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts,
  Cert.Algebraic.facts_kernel, Cert.Algebraic.facts_reference,
  Cert.Frames.frame_kernel,
  Cert.Frames.frame_kernelIdeal, fun m ρ _ => Cert.Frames.frame_kernelIdeal m ρ trivial,
  Cert.Frames.frame_reference, fun m ρ _ => Cert.Frames.frame_reference m ρ trivial,
  trivial, Cert.Algebraic.algebraic⟩

end Cert.Proof

end
